-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_real [hPre_logits_real : Cert.Pre_logits_real.Facts] (m : (ℓ : Loc Cert.KernelIdeal.nD Cert.KernelIdeal.τ Cert.KernelIdeal.sig) → Buf (Elt Ideal) ℓ) : Prop :=
  ∀ c : Dev Cert.KernelIdeal.nD,
    (Cert.Pre_logits_real.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_real [hPre_logits_real : Cert.Pre_logits_real.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_real.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMoe (m : (ℓ : Loc Cert.KernelMoe.nD Cert.KernelMoe.τ Cert.KernelMoe.sig) → Buf (Elt Bits) ℓ) : Prop :=
  True

def Pre_KernelMoeIdeal (m : (ℓ : Loc Cert.KernelMoeIdeal.nD Cert.KernelMoeIdeal.τ Cert.KernelMoeIdeal.sig) → Buf (Elt Ideal) ℓ) : Prop :=
  True

def Pre_KernelMoeIdeal_gates_real [hPre_gates_real : Cert.Pre_gates_real.Facts] (m : (ℓ : Loc Cert.KernelMoeIdeal.nD Cert.KernelMoeIdeal.τ Cert.KernelMoeIdeal.sig) → Buf (Elt Ideal) ℓ) : Prop :=
  ∀ c : Dev Cert.KernelMoeIdeal.nD,
    (Cert.Pre_gates_real.fn (F := Ideal) (m ((c.tc : Thread Cert.KernelMoeIdeal.nD Cert.KernelMoeIdeal.τ).loc Cert.KernelMoeIdeal.main_arg0)) (m ((c.tc : Thread Cert.KernelMoeIdeal.nD Cert.KernelMoeIdeal.τ).loc Cert.KernelMoeIdeal.main_arg1)) (m ((c.tc : Thread Cert.KernelMoeIdeal.nD Cert.KernelMoeIdeal.τ).loc Cert.KernelMoeIdeal.main_arg2)) (m ((c.tc : Thread Cert.KernelMoeIdeal.nD Cert.KernelMoeIdeal.τ).loc Cert.KernelMoeIdeal.main_arg3)) (m ((c.tc : Thread Cert.KernelMoeIdeal.nD Cert.KernelMoeIdeal.τ).loc Cert.KernelMoeIdeal.main_arg4)) (m ((c.tc : Thread Cert.KernelMoeIdeal.nD Cert.KernelMoeIdeal.τ).loc Cert.KernelMoeIdeal.main_arg5)) (m ((c.tc : Thread Cert.KernelMoeIdeal.nD Cert.KernelMoeIdeal.τ).loc Cert.KernelMoeIdeal.main_arg6))) = (fun _ => 1#1)

def Pre_ReferenceMoeIdeal (m : (ℓ : Loc Cert.ReferenceMoeIdeal.nD Cert.ReferenceMoeIdeal.τ Cert.ReferenceMoeIdeal.sig) → Buf (Elt Ideal) ℓ) : Prop :=
  True

def Pre_ReferenceMoeIdeal_gates_real [hPre_gates_real : Cert.Pre_gates_real.Facts] (m : (ℓ : Loc Cert.ReferenceMoeIdeal.nD Cert.ReferenceMoeIdeal.τ Cert.ReferenceMoeIdeal.sig) → Buf (Elt Ideal) ℓ) : Prop :=
  ∀ c : Dev Cert.ReferenceMoeIdeal.nD,
    (Cert.Pre_gates_real.fn (F := Ideal) (m ((c.tc : Thread Cert.ReferenceMoeIdeal.nD Cert.ReferenceMoeIdeal.τ).loc Cert.ReferenceMoeIdeal.main_arg0)) (m ((c.tc : Thread Cert.ReferenceMoeIdeal.nD Cert.ReferenceMoeIdeal.τ).loc Cert.ReferenceMoeIdeal.main_arg1)) (m ((c.tc : Thread Cert.ReferenceMoeIdeal.nD Cert.ReferenceMoeIdeal.τ).loc Cert.ReferenceMoeIdeal.main_arg2)) (m ((c.tc : Thread Cert.ReferenceMoeIdeal.nD Cert.ReferenceMoeIdeal.τ).loc Cert.ReferenceMoeIdeal.main_arg3)) (m ((c.tc : Thread Cert.ReferenceMoeIdeal.nD Cert.ReferenceMoeIdeal.τ).loc Cert.ReferenceMoeIdeal.main_arg4)) (m ((c.tc : Thread Cert.ReferenceMoeIdeal.nD Cert.ReferenceMoeIdeal.τ).loc Cert.ReferenceMoeIdeal.main_arg5)) (m ((c.tc : Thread Cert.ReferenceMoeIdeal.nD Cert.ReferenceMoeIdeal.τ).loc Cert.ReferenceMoeIdeal.main_arg6))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelSgu (m : (ℓ : Loc Cert.KernelSgu.nD Cert.KernelSgu.τ Cert.KernelSgu.sig) → Buf (Elt Bits) ℓ) : Prop :=
  True

def Pre_KernelSguIdeal (m : (ℓ : Loc Cert.KernelSguIdeal.nD Cert.KernelSguIdeal.τ Cert.KernelSguIdeal.sig) → Buf (Elt Ideal) ℓ) : Prop :=
  True

def Pre_ReferenceSguIdeal (m : (ℓ : Loc Cert.ReferenceSguIdeal.nD Cert.ReferenceSguIdeal.τ Cert.ReferenceSguIdeal.sig) → Buf (Elt Ideal) ℓ) : Prop :=
  True

def Pre_KernelFoxPrep (m : (ℓ : Loc Cert.KernelFoxPrep.nD Cert.KernelFoxPrep.τ Cert.KernelFoxPrep.sig) → Buf (Elt Bits) ℓ) : Prop :=
  True

def Pre_KernelFoxPrepIdeal (m : (ℓ : Loc Cert.KernelFoxPrepIdeal.nD Cert.KernelFoxPrepIdeal.τ Cert.KernelFoxPrepIdeal.sig) → Buf (Elt Ideal) ℓ) : Prop :=
  True

def Pre_ReferenceFoxPrepIdeal (m : (ℓ : Loc Cert.ReferenceFoxPrepIdeal.nD Cert.ReferenceFoxPrepIdeal.τ Cert.ReferenceFoxPrepIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_logits_real [hKernelIdeal : Cert.KernelIdeal.Facts] [hPre_logits_real : Cert.Pre_logits_real.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_real m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_logits_real [hReferenceIdeal : Cert.ReferenceIdeal.Facts] [hPre_logits_real : Cert.Pre_logits_real.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_real m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelMoe [hKernelMoe : Cert.KernelMoe.Facts] : Prop :=
  ∀ (m : (ℓ : Loc Cert.KernelMoe.nD Cert.KernelMoe.τ Cert.KernelMoe.sig) → Buf (Elt Bits) ℓ) (g : Dev Cert.KernelMoe.nD → PrngReg), Pre_KernelMoe m →
    θ_run (Cert.KernelMoe.defs (F := Bits)) (onTc (τ := Cert.KernelMoe.τ) (Cert.KernelMoe.main (F := Bits))) ⟨m, fun _ => 0, g⟩ (fun r => (∀ c : Dev Cert.KernelMoe.nD,
      r.2.mem ((c.tc : Thread Cert.KernelMoe.nD Cert.KernelMoe.τ).loc Cert.KernelMoe.main_arg0) = m ((c.tc : Thread Cert.KernelMoe.nD Cert.KernelMoe.τ).loc Cert.KernelMoe.main_arg0)
      ∧ r.2.mem ((c.tc : Thread Cert.KernelMoe.nD Cert.KernelMoe.τ).loc Cert.KernelMoe.main_arg1) = m ((c.tc : Thread Cert.KernelMoe.nD Cert.KernelMoe.τ).loc Cert.KernelMoe.main_arg1)
      ∧ r.2.mem ((c.tc : Thread Cert.KernelMoe.nD Cert.KernelMoe.τ).loc Cert.KernelMoe.main_arg2) = m ((c.tc : Thread Cert.KernelMoe.nD Cert.KernelMoe.τ).loc Cert.KernelMoe.main_arg2)
      ∧ r.2.mem ((c.tc : Thread Cert.KernelMoe.nD Cert.KernelMoe.τ).loc Cert.KernelMoe.main_arg3) = m ((c.tc : Thread Cert.KernelMoe.nD Cert.KernelMoe.τ).loc Cert.KernelMoe.main_arg3)
      ∧ r.2.mem ((c.tc : Thread Cert.KernelMoe.nD Cert.KernelMoe.τ).loc Cert.KernelMoe.main_arg4) = m ((c.tc : Thread Cert.KernelMoe.nD Cert.KernelMoe.τ).loc Cert.KernelMoe.main_arg4)
      ∧ r.2.mem ((c.tc : Thread Cert.KernelMoe.nD Cert.KernelMoe.τ).loc Cert.KernelMoe.main_arg5) = m ((c.tc : Thread Cert.KernelMoe.nD Cert.KernelMoe.τ).loc Cert.KernelMoe.main_arg5)
      ∧ r.2.mem ((c.tc : Thread Cert.KernelMoe.nD Cert.KernelMoe.τ).loc Cert.KernelMoe.main_arg6) = m ((c.tc : Thread Cert.KernelMoe.nD Cert.KernelMoe.τ).loc Cert.KernelMoe.main_arg6))
      ∧ r.2.sem = fun _ => 0)

def quiescent_KernelMoeIdeal [hKernelMoeIdeal : Cert.KernelMoeIdeal.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
      ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ r.2.sem = fun _ => 0)

def quiescent_KernelMoeIdeal_pre_gates_real [hKernelMoeIdeal : Cert.KernelMoeIdeal.Facts] [hPre_gates_real : Cert.Pre_gates_real.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg), Pre_KernelMoeIdeal_gates_real m →
    θ_run (Cert.KernelMoeIdeal.defs (F := Ideal)) (onTc (τ := Cert.KernelMoeIdeal.τ) (Cert.KernelMoeIdeal.main (F := Ideal))) ⟨m, fun _ => 0, g⟩ (fun r => (∀ c : Dev Cert.KernelMoeIdeal.nD,
      r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
      ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
      ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
      ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
      ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
      ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
      ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ r.2.sem = fun _ => 0)

def quiescent_ReferenceMoeIdeal [hReferenceMoeIdeal : Cert.ReferenceMoeIdeal.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6))
      ∧ r.2.sem = fun _ => 0)

def quiescent_ReferenceMoeIdeal_pre_gates_real [hReferenceMoeIdeal : Cert.ReferenceMoeIdeal.Facts] [hPre_gates_real : Cert.Pre_gates_real.Facts] : Prop :=
  ∀ (m : (ℓ : Loc Cert.ReferenceMoeIdeal.nD Cert.ReferenceMoeIdeal.τ Cert.ReferenceMoeIdeal.sig) → Buf (Elt Ideal) ℓ) (g : Dev Cert.ReferenceMoeIdeal.nD → PrngReg), Pre_ReferenceMoeIdeal_gates_real m →
    θ_run (Cert.ReferenceMoeIdeal.defs (F := Ideal)) (onTc (τ := Cert.ReferenceMoeIdeal.τ) (Cert.ReferenceMoeIdeal.main (F := Ideal))) ⟨m, fun _ => 0, g⟩ (fun r => (∀ c : Dev Cert.ReferenceMoeIdeal.nD,
      r.2.mem ((c.tc : Thread Cert.ReferenceMoeIdeal.nD Cert.ReferenceMoeIdeal.τ).loc Cert.ReferenceMoeIdeal.main_arg0) = m ((c.tc : Thread Cert.ReferenceMoeIdeal.nD Cert.ReferenceMoeIdeal.τ).loc Cert.ReferenceMoeIdeal.main_arg0)
      ∧ r.2.mem ((c.tc : Thread Cert.ReferenceMoeIdeal.nD Cert.ReferenceMoeIdeal.τ).loc Cert.ReferenceMoeIdeal.main_arg1) = m ((c.tc : Thread Cert.ReferenceMoeIdeal.nD Cert.ReferenceMoeIdeal.τ).loc Cert.ReferenceMoeIdeal.main_arg1)
      ∧ r.2.mem ((c.tc : Thread Cert.ReferenceMoeIdeal.nD Cert.ReferenceMoeIdeal.τ).loc Cert.ReferenceMoeIdeal.main_arg2) = m ((c.tc : Thread Cert.ReferenceMoeIdeal.nD Cert.ReferenceMoeIdeal.τ).loc Cert.ReferenceMoeIdeal.main_arg2)
      ∧ r.2.mem ((c.tc : Thread Cert.ReferenceMoeIdeal.nD Cert.ReferenceMoeIdeal.τ).loc Cert.ReferenceMoeIdeal.main_arg3) = m ((c.tc : Thread Cert.ReferenceMoeIdeal.nD Cert.ReferenceMoeIdeal.τ).loc Cert.ReferenceMoeIdeal.main_arg3)
      ∧ r.2.mem ((c.tc : Thread Cert.ReferenceMoeIdeal.nD Cert.ReferenceMoeIdeal.τ).loc Cert.ReferenceMoeIdeal.main_arg4) = m ((c.tc : Thread Cert.ReferenceMoeIdeal.nD Cert.ReferenceMoeIdeal.τ).loc Cert.ReferenceMoeIdeal.main_arg4)
      ∧ r.2.mem ((c.tc : Thread Cert.ReferenceMoeIdeal.nD Cert.ReferenceMoeIdeal.τ).loc Cert.ReferenceMoeIdeal.main_arg5) = m ((c.tc : Thread Cert.ReferenceMoeIdeal.nD Cert.ReferenceMoeIdeal.τ).loc Cert.ReferenceMoeIdeal.main_arg5)
      ∧ r.2.mem ((c.tc : Thread Cert.ReferenceMoeIdeal.nD Cert.ReferenceMoeIdeal.τ).loc Cert.ReferenceMoeIdeal.main_arg6) = m ((c.tc : Thread Cert.ReferenceMoeIdeal.nD Cert.ReferenceMoeIdeal.τ).loc Cert.ReferenceMoeIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8))
      ∧ r.2.sem = fun _ => 0)

def quiescent_KernelSgu [hKernelSgu : Cert.KernelSgu.Facts] : Prop :=
  ∀ (m : (ℓ : Loc Cert.KernelSgu.nD Cert.KernelSgu.τ Cert.KernelSgu.sig) → Buf (Elt Bits) ℓ) (g : Dev Cert.KernelSgu.nD → PrngReg), Pre_KernelSgu m →
    θ_run (Cert.KernelSgu.defs (F := Bits)) (onTc (τ := Cert.KernelSgu.τ) (Cert.KernelSgu.main (F := Bits))) ⟨m, fun _ => 0, g⟩ (fun r => (∀ c : Dev Cert.KernelSgu.nD,
      r.2.mem ((c.tc : Thread Cert.KernelSgu.nD Cert.KernelSgu.τ).loc Cert.KernelSgu.main_arg0) = m ((c.tc : Thread Cert.KernelSgu.nD Cert.KernelSgu.τ).loc Cert.KernelSgu.main_arg0)
      ∧ r.2.mem ((c.tc : Thread Cert.KernelSgu.nD Cert.KernelSgu.τ).loc Cert.KernelSgu.main_arg1) = m ((c.tc : Thread Cert.KernelSgu.nD Cert.KernelSgu.τ).loc Cert.KernelSgu.main_arg1)
      ∧ r.2.mem ((c.tc : Thread Cert.KernelSgu.nD Cert.KernelSgu.τ).loc Cert.KernelSgu.main_arg2) = m ((c.tc : Thread Cert.KernelSgu.nD Cert.KernelSgu.τ).loc Cert.KernelSgu.main_arg2)
      ∧ r.2.mem ((c.tc : Thread Cert.KernelSgu.nD Cert.KernelSgu.τ).loc Cert.KernelSgu.main_arg3) = m ((c.tc : Thread Cert.KernelSgu.nD Cert.KernelSgu.τ).loc Cert.KernelSgu.main_arg3)
      ∧ r.2.mem ((c.tc : Thread Cert.KernelSgu.nD Cert.KernelSgu.τ).loc Cert.KernelSgu.main_arg4) = m ((c.tc : Thread Cert.KernelSgu.nD Cert.KernelSgu.τ).loc Cert.KernelSgu.main_arg4))
      ∧ r.2.sem = fun _ => 0)

def quiescent_KernelSguIdeal [hKernelSguIdeal : Cert.KernelSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
      ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4))
      ∧ r.2.sem = fun _ => 0)

def quiescent_ReferenceSguIdeal [hReferenceSguIdeal : Cert.ReferenceSguIdeal.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3)
      ∧ r.2.mem ((c.tc : Thread Cert.ReferenceSguIdeal.nD Cert.ReferenceSguIdeal.τ).loc Cert.ReferenceSguIdeal.main_arg4) = m ((c.tc : Thread Cert.ReferenceSguIdeal.nD Cert.ReferenceSguIdeal.τ).loc Cert.ReferenceSguIdeal.main_arg4))
      ∧ r.2.sem = fun _ => 0)

def quiescent_KernelFoxPrep [hKernelFoxPrep : Cert.KernelFoxPrep.Facts] : Prop :=
  ∀ (m : (ℓ : Loc Cert.KernelFoxPrep.nD Cert.KernelFoxPrep.τ Cert.KernelFoxPrep.sig) → Buf (Elt Bits) ℓ) (g : Dev Cert.KernelFoxPrep.nD → PrngReg), Pre_KernelFoxPrep m →
    θ_run (Cert.KernelFoxPrep.defs (F := Bits)) (onTc (τ := Cert.KernelFoxPrep.τ) (Cert.KernelFoxPrep.main (F := Bits))) ⟨m, fun _ => 0, g⟩ (fun r => (∀ c : Dev Cert.KernelFoxPrep.nD,
      r.2.mem ((c.tc : Thread Cert.KernelFoxPrep.nD Cert.KernelFoxPrep.τ).loc Cert.KernelFoxPrep.main_arg0) = m ((c.tc : Thread Cert.KernelFoxPrep.nD Cert.KernelFoxPrep.τ).loc Cert.KernelFoxPrep.main_arg0)
      ∧ r.2.mem ((c.tc : Thread Cert.KernelFoxPrep.nD Cert.KernelFoxPrep.τ).loc Cert.KernelFoxPrep.main_arg1) = m ((c.tc : Thread Cert.KernelFoxPrep.nD Cert.KernelFoxPrep.τ).loc Cert.KernelFoxPrep.main_arg1)
      ∧ r.2.mem ((c.tc : Thread Cert.KernelFoxPrep.nD Cert.KernelFoxPrep.τ).loc Cert.KernelFoxPrep.main_arg2) = m ((c.tc : Thread Cert.KernelFoxPrep.nD Cert.KernelFoxPrep.τ).loc Cert.KernelFoxPrep.main_arg2)
      ∧ r.2.mem ((c.tc : Thread Cert.KernelFoxPrep.nD Cert.KernelFoxPrep.τ).loc Cert.KernelFoxPrep.main_arg3) = m ((c.tc : Thread Cert.KernelFoxPrep.nD Cert.KernelFoxPrep.τ).loc Cert.KernelFoxPrep.main_arg3))
      ∧ r.2.sem = fun _ => 0)

def quiescent_KernelFoxPrepIdeal [hKernelFoxPrepIdeal : Cert.KernelFoxPrepIdeal.Facts] : Prop :=
  ∀ (m : (ℓ : Loc Cert.KernelFoxPrepIdeal.nD Cert.KernelFoxPrepIdeal.τ Cert.KernelFoxPrepIdeal.sig) → Buf (Elt Ideal) ℓ) (g : Dev Cert.KernelFoxPrepIdeal.nD → PrngReg), Pre_KernelFoxPrepIdeal m →
    θ_run (Cert.KernelFoxPrepIdeal.defs (F := Ideal)) (onTc (τ := Cert.KernelFoxPrepIdeal.τ) (Cert.KernelFoxPrepIdeal.main (F := Ideal))) ⟨m, fun _ => 0, g⟩ (fun r => (∀ c : Dev Cert.KernelFoxPrepIdeal.nD,
      r.2.mem ((c.tc : Thread Cert.KernelFoxPrepIdeal.nD Cert.KernelFoxPrepIdeal.τ).loc Cert.KernelFoxPrepIdeal.main_arg0) = m ((c.tc : Thread Cert.KernelFoxPrepIdeal.nD Cert.KernelFoxPrepIdeal.τ).loc Cert.KernelFoxPrepIdeal.main_arg0)
      ∧ r.2.mem ((c.tc : Thread Cert.KernelFoxPrepIdeal.nD Cert.KernelFoxPrepIdeal.τ).loc Cert.KernelFoxPrepIdeal.main_arg1) = m ((c.tc : Thread Cert.KernelFoxPrepIdeal.nD Cert.KernelFoxPrepIdeal.τ).loc Cert.KernelFoxPrepIdeal.main_arg1)
      ∧ r.2.mem ((c.tc : Thread Cert.KernelFoxPrepIdeal.nD Cert.KernelFoxPrepIdeal.τ).loc Cert.KernelFoxPrepIdeal.main_arg2) = m ((c.tc : Thread Cert.KernelFoxPrepIdeal.nD Cert.KernelFoxPrepIdeal.τ).loc Cert.KernelFoxPrepIdeal.main_arg2)
      ∧ r.2.mem ((c.tc : Thread Cert.KernelFoxPrepIdeal.nD Cert.KernelFoxPrepIdeal.τ).loc Cert.KernelFoxPrepIdeal.main_arg3) = m ((c.tc : Thread Cert.KernelFoxPrepIdeal.nD Cert.KernelFoxPrepIdeal.τ).loc Cert.KernelFoxPrepIdeal.main_arg3))
      ∧ r.2.sem = fun _ => 0)

def quiescent_ReferenceFoxPrepIdeal [hReferenceFoxPrepIdeal : Cert.ReferenceFoxPrepIdeal.Facts] : Prop :=
  ∀ (m : (ℓ : Loc Cert.ReferenceFoxPrepIdeal.nD Cert.ReferenceFoxPrepIdeal.τ Cert.ReferenceFoxPrepIdeal.sig) → Buf (Elt Ideal) ℓ) (g : Dev Cert.ReferenceFoxPrepIdeal.nD → PrngReg), Pre_ReferenceFoxPrepIdeal m →
    θ_run (Cert.ReferenceFoxPrepIdeal.defs (F := Ideal)) (onTc (τ := Cert.ReferenceFoxPrepIdeal.τ) (Cert.ReferenceFoxPrepIdeal.main (F := Ideal))) ⟨m, fun _ => 0, g⟩ (fun r => (∀ c : Dev Cert.ReferenceFoxPrepIdeal.nD,
      r.2.mem ((c.tc : Thread Cert.ReferenceFoxPrepIdeal.nD Cert.ReferenceFoxPrepIdeal.τ).loc Cert.ReferenceFoxPrepIdeal.main_arg0) = m ((c.tc : Thread Cert.ReferenceFoxPrepIdeal.nD Cert.ReferenceFoxPrepIdeal.τ).loc Cert.ReferenceFoxPrepIdeal.main_arg0)
      ∧ r.2.mem ((c.tc : Thread Cert.ReferenceFoxPrepIdeal.nD Cert.ReferenceFoxPrepIdeal.τ).loc Cert.ReferenceFoxPrepIdeal.main_arg1) = m ((c.tc : Thread Cert.ReferenceFoxPrepIdeal.nD Cert.ReferenceFoxPrepIdeal.τ).loc Cert.ReferenceFoxPrepIdeal.main_arg1)
      ∧ r.2.mem ((c.tc : Thread Cert.ReferenceFoxPrepIdeal.nD Cert.ReferenceFoxPrepIdeal.τ).loc Cert.ReferenceFoxPrepIdeal.main_arg2) = m ((c.tc : Thread Cert.ReferenceFoxPrepIdeal.nD Cert.ReferenceFoxPrepIdeal.τ).loc Cert.ReferenceFoxPrepIdeal.main_arg2)
      ∧ r.2.mem ((c.tc : Thread Cert.ReferenceFoxPrepIdeal.nD Cert.ReferenceFoxPrepIdeal.τ).loc Cert.ReferenceFoxPrepIdeal.main_arg3) = m ((c.tc : Thread Cert.ReferenceFoxPrepIdeal.nD Cert.ReferenceFoxPrepIdeal.τ).loc Cert.ReferenceFoxPrepIdeal.main_arg3))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_logits_real [hKernelIdeal : Cert.KernelIdeal.Facts] [hReferenceIdeal : Cert.ReferenceIdeal.Facts] [hPre_logits_real : Cert.Pre_logits_real.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_real m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v6)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v6) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v14) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelMoe_KernelMoeIdeal : Prop :=
  True

def algebraic_KernelMoeIdeal_ReferenceMoeIdeal_pre_gates_real [hKernelMoeIdeal : Cert.KernelMoeIdeal.Facts] [hReferenceMoeIdeal : Cert.ReferenceMoeIdeal.Facts] [hPre_gates_real : Cert.Pre_gates_real.Facts] : Prop :=
  ∀ (m : (ℓ : Loc Cert.KernelMoeIdeal.nD Cert.KernelMoeIdeal.τ Cert.KernelMoeIdeal.sig) → Buf (Elt Ideal) ℓ) (g : Dev Cert.KernelMoeIdeal.nD → PrngReg)
    (m' : (ℓ : Loc Cert.ReferenceMoeIdeal.nD Cert.ReferenceMoeIdeal.τ Cert.ReferenceMoeIdeal.sig) → Buf (Elt Ideal) ℓ) (g' : Dev Cert.ReferenceMoeIdeal.nD → PrngReg), Pre_KernelMoeIdeal_gates_real m →
    (∀ c : Dev Cert.KernelMoeIdeal.nD,
      m' ((c.tc : Thread Cert.ReferenceMoeIdeal.nD Cert.ReferenceMoeIdeal.τ).loc Cert.ReferenceMoeIdeal.main_arg0) = m ((c.tc : Thread Cert.KernelMoeIdeal.nD Cert.KernelMoeIdeal.τ).loc Cert.KernelMoeIdeal.main_arg0)
      ∧ m' ((c.tc : Thread Cert.ReferenceMoeIdeal.nD Cert.ReferenceMoeIdeal.τ).loc Cert.ReferenceMoeIdeal.main_arg1) = m ((c.tc : Thread Cert.KernelMoeIdeal.nD Cert.KernelMoeIdeal.τ).loc Cert.KernelMoeIdeal.main_arg1)
      ∧ m' ((c.tc : Thread Cert.ReferenceMoeIdeal.nD Cert.ReferenceMoeIdeal.τ).loc Cert.ReferenceMoeIdeal.main_arg2) = m ((c.tc : Thread Cert.KernelMoeIdeal.nD Cert.KernelMoeIdeal.τ).loc Cert.KernelMoeIdeal.main_arg2)
      ∧ m' ((c.tc : Thread Cert.ReferenceMoeIdeal.nD Cert.ReferenceMoeIdeal.τ).loc Cert.ReferenceMoeIdeal.main_arg3) = m ((c.tc : Thread Cert.KernelMoeIdeal.nD Cert.KernelMoeIdeal.τ).loc Cert.KernelMoeIdeal.main_arg3)
      ∧ m' ((c.tc : Thread Cert.ReferenceMoeIdeal.nD Cert.ReferenceMoeIdeal.τ).loc Cert.ReferenceMoeIdeal.main_arg4) = m ((c.tc : Thread Cert.KernelMoeIdeal.nD Cert.KernelMoeIdeal.τ).loc Cert.KernelMoeIdeal.main_arg4)
      ∧ m' ((c.tc : Thread Cert.ReferenceMoeIdeal.nD Cert.ReferenceMoeIdeal.τ).loc Cert.ReferenceMoeIdeal.main_arg5) = m ((c.tc : Thread Cert.KernelMoeIdeal.nD Cert.KernelMoeIdeal.τ).loc Cert.KernelMoeIdeal.main_arg5)
      ∧ m' ((c.tc : Thread Cert.ReferenceMoeIdeal.nD Cert.ReferenceMoeIdeal.τ).loc Cert.ReferenceMoeIdeal.main_arg6) = m ((c.tc : Thread Cert.KernelMoeIdeal.nD Cert.KernelMoeIdeal.τ).loc Cert.KernelMoeIdeal.main_arg6)) →
    ∃ (v0 : (c : Dev Cert.KernelMoeIdeal.nD) → Buf (Elt Ideal) ((c.tc : Thread Cert.KernelMoeIdeal.nD Cert.KernelMoeIdeal.τ).loc Cert.KernelMoeIdeal.main_v6)),
      θ_run (Cert.KernelMoeIdeal.defs (F := Ideal)) (onTc (τ := Cert.KernelMoeIdeal.τ) (Cert.KernelMoeIdeal.main (F := Ideal))) ⟨m, fun _ => 0, g⟩ (fun r => ∀ c : Dev Cert.KernelMoeIdeal.nD,
          r.2.mem ((c.tc : Thread Cert.KernelMoeIdeal.nD Cert.KernelMoeIdeal.τ).loc Cert.KernelMoeIdeal.main_v6) = v0 c
          ∧ r.2.mem ((c.tc : Thread Cert.KernelMoeIdeal.nD Cert.KernelMoeIdeal.τ).loc Cert.KernelMoeIdeal.main_arg0) = m ((c.tc : Thread Cert.KernelMoeIdeal.nD Cert.KernelMoeIdeal.τ).loc Cert.KernelMoeIdeal.main_arg0)
          ∧ r.2.mem ((c.tc : Thread Cert.KernelMoeIdeal.nD Cert.KernelMoeIdeal.τ).loc Cert.KernelMoeIdeal.main_arg1) = m ((c.tc : Thread Cert.KernelMoeIdeal.nD Cert.KernelMoeIdeal.τ).loc Cert.KernelMoeIdeal.main_arg1)
          ∧ r.2.mem ((c.tc : Thread Cert.KernelMoeIdeal.nD Cert.KernelMoeIdeal.τ).loc Cert.KernelMoeIdeal.main_arg2) = m ((c.tc : Thread Cert.KernelMoeIdeal.nD Cert.KernelMoeIdeal.τ).loc Cert.KernelMoeIdeal.main_arg2)
          ∧ r.2.mem ((c.tc : Thread Cert.KernelMoeIdeal.nD Cert.KernelMoeIdeal.τ).loc Cert.KernelMoeIdeal.main_arg3) = m ((c.tc : Thread Cert.KernelMoeIdeal.nD Cert.KernelMoeIdeal.τ).loc Cert.KernelMoeIdeal.main_arg3)
          ∧ r.2.mem ((c.tc : Thread Cert.KernelMoeIdeal.nD Cert.KernelMoeIdeal.τ).loc Cert.KernelMoeIdeal.main_arg4) = m ((c.tc : Thread Cert.KernelMoeIdeal.nD Cert.KernelMoeIdeal.τ).loc Cert.KernelMoeIdeal.main_arg4)
          ∧ r.2.mem ((c.tc : Thread Cert.KernelMoeIdeal.nD Cert.KernelMoeIdeal.τ).loc Cert.KernelMoeIdeal.main_arg5) = m ((c.tc : Thread Cert.KernelMoeIdeal.nD Cert.KernelMoeIdeal.τ).loc Cert.KernelMoeIdeal.main_arg5)
          ∧ r.2.mem ((c.tc : Thread Cert.KernelMoeIdeal.nD Cert.KernelMoeIdeal.τ).loc Cert.KernelMoeIdeal.main_arg6) = m ((c.tc : Thread Cert.KernelMoeIdeal.nD Cert.KernelMoeIdeal.τ).loc Cert.KernelMoeIdeal.main_arg6))
      ∧ θ_run (Cert.ReferenceMoeIdeal.defs (F := Ideal)) (onTc (τ := Cert.ReferenceMoeIdeal.τ) (Cert.ReferenceMoeIdeal.main (F := Ideal))) ⟨m', fun _ => 0, g'⟩ (fun r => ∀ c : Dev Cert.ReferenceMoeIdeal.nD,
          r.2.mem ((c.tc : Thread Cert.ReferenceMoeIdeal.nD Cert.ReferenceMoeIdeal.τ).loc Cert.ReferenceMoeIdeal.main_v130) = v0 c
          ∧ r.2.mem ((c.tc : Thread Cert.ReferenceMoeIdeal.nD Cert.ReferenceMoeIdeal.τ).loc Cert.ReferenceMoeIdeal.main_arg0) = m' ((c.tc : Thread Cert.ReferenceMoeIdeal.nD Cert.ReferenceMoeIdeal.τ).loc Cert.ReferenceMoeIdeal.main_arg0)
          ∧ r.2.mem ((c.tc : Thread Cert.ReferenceMoeIdeal.nD Cert.ReferenceMoeIdeal.τ).loc Cert.ReferenceMoeIdeal.main_arg1) = m' ((c.tc : Thread Cert.ReferenceMoeIdeal.nD Cert.ReferenceMoeIdeal.τ).loc Cert.ReferenceMoeIdeal.main_arg1)
          ∧ r.2.mem ((c.tc : Thread Cert.ReferenceMoeIdeal.nD Cert.ReferenceMoeIdeal.τ).loc Cert.ReferenceMoeIdeal.main_arg2) = m' ((c.tc : Thread Cert.ReferenceMoeIdeal.nD Cert.ReferenceMoeIdeal.τ).loc Cert.ReferenceMoeIdeal.main_arg2)
          ∧ r.2.mem ((c.tc : Thread Cert.ReferenceMoeIdeal.nD Cert.ReferenceMoeIdeal.τ).loc Cert.ReferenceMoeIdeal.main_arg3) = m' ((c.tc : Thread Cert.ReferenceMoeIdeal.nD Cert.ReferenceMoeIdeal.τ).loc Cert.ReferenceMoeIdeal.main_arg3)
          ∧ r.2.mem ((c.tc : Thread Cert.ReferenceMoeIdeal.nD Cert.ReferenceMoeIdeal.τ).loc Cert.ReferenceMoeIdeal.main_arg4) = m' ((c.tc : Thread Cert.ReferenceMoeIdeal.nD Cert.ReferenceMoeIdeal.τ).loc Cert.ReferenceMoeIdeal.main_arg4)
          ∧ r.2.mem ((c.tc : Thread Cert.ReferenceMoeIdeal.nD Cert.ReferenceMoeIdeal.τ).loc Cert.ReferenceMoeIdeal.main_arg5) = m' ((c.tc : Thread Cert.ReferenceMoeIdeal.nD Cert.ReferenceMoeIdeal.τ).loc Cert.ReferenceMoeIdeal.main_arg5)
          ∧ r.2.mem ((c.tc : Thread Cert.ReferenceMoeIdeal.nD Cert.ReferenceMoeIdeal.τ).loc Cert.ReferenceMoeIdeal.main_arg6) = m' ((c.tc : Thread Cert.ReferenceMoeIdeal.nD Cert.ReferenceMoeIdeal.τ).loc Cert.ReferenceMoeIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v9)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v9) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v28) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)) →
    ∃ (v0 : (c : Dev Cert.KernelOutIdeal.nD) → Buf (Elt Ideal) ((c.tc : Thread Cert.KernelOutIdeal.nD Cert.KernelOutIdeal.τ).loc Cert.KernelOutIdeal.main_v2_0)) (v1 : (c : Dev Cert.KernelOutIdeal.nD) → Buf (Elt Ideal) ((c.tc : Thread Cert.KernelOutIdeal.nD Cert.KernelOutIdeal.τ).loc Cert.KernelOutIdeal.main_v2_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2_0) = v0 c
          ∧ r.2.mem ((c.tc : Thread Cert.KernelOutIdeal.nD Cert.KernelOutIdeal.τ).loc Cert.KernelOutIdeal.main_v2_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v27) = v0 c
          ∧ r.2.mem ((c.tc : Thread Cert.ReferenceOutIdeal.nD Cert.ReferenceOutIdeal.τ).loc Cert.ReferenceOutIdeal.main_v29) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8))

def preserves_KernelSgu_KernelSguIdeal : Prop :=
  True

def algebraic_KernelSguIdeal_ReferenceSguIdeal [hKernelSguIdeal : Cert.KernelSguIdeal.Facts] [hReferenceSguIdeal : Cert.ReferenceSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg)
    (m' : (ℓ : Loc Cert.ReferenceSguIdeal.nD Cert.ReferenceSguIdeal.τ Cert.ReferenceSguIdeal.sig) → Buf (Elt Ideal) ℓ) (g' : Dev Cert.ReferenceSguIdeal.nD → PrngReg), Pre_KernelSguIdeal m →
    (∀ c : Dev Cert.KernelSguIdeal.nD,
      m' ((c.tc : Thread Cert.ReferenceSguIdeal.nD Cert.ReferenceSguIdeal.τ).loc Cert.ReferenceSguIdeal.main_arg0) = m ((c.tc : Thread Cert.KernelSguIdeal.nD Cert.KernelSguIdeal.τ).loc Cert.KernelSguIdeal.main_arg0)
      ∧ m' ((c.tc : Thread Cert.ReferenceSguIdeal.nD Cert.ReferenceSguIdeal.τ).loc Cert.ReferenceSguIdeal.main_arg1) = m ((c.tc : Thread Cert.KernelSguIdeal.nD Cert.KernelSguIdeal.τ).loc Cert.KernelSguIdeal.main_arg1)
      ∧ m' ((c.tc : Thread Cert.ReferenceSguIdeal.nD Cert.ReferenceSguIdeal.τ).loc Cert.ReferenceSguIdeal.main_arg2) = m ((c.tc : Thread Cert.KernelSguIdeal.nD Cert.KernelSguIdeal.τ).loc Cert.KernelSguIdeal.main_arg2)
      ∧ m' ((c.tc : Thread Cert.ReferenceSguIdeal.nD Cert.ReferenceSguIdeal.τ).loc Cert.ReferenceSguIdeal.main_arg3) = m ((c.tc : Thread Cert.KernelSguIdeal.nD Cert.KernelSguIdeal.τ).loc Cert.KernelSguIdeal.main_arg3)
      ∧ m' ((c.tc : Thread Cert.ReferenceSguIdeal.nD Cert.ReferenceSguIdeal.τ).loc Cert.ReferenceSguIdeal.main_arg4) = m ((c.tc : Thread Cert.KernelSguIdeal.nD Cert.KernelSguIdeal.τ).loc Cert.KernelSguIdeal.main_arg4)) →
    ∃ (v0 : (c : Dev Cert.KernelSguIdeal.nD) → Buf (Elt Ideal) ((c.tc : Thread Cert.KernelSguIdeal.nD Cert.KernelSguIdeal.τ).loc Cert.KernelSguIdeal.main_v1)),
      θ_run (Cert.KernelSguIdeal.defs (F := Ideal)) (onTc (τ := Cert.KernelSguIdeal.τ) (Cert.KernelSguIdeal.main (F := Ideal))) ⟨m, fun _ => 0, g⟩ (fun r => ∀ c : Dev Cert.KernelSguIdeal.nD,
          r.2.mem ((c.tc : Thread Cert.KernelSguIdeal.nD Cert.KernelSguIdeal.τ).loc Cert.KernelSguIdeal.main_v1) = v0 c
          ∧ r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
          ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
          ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
          ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
          ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4))
      ∧ θ_run (Cert.ReferenceSguIdeal.defs (F := Ideal)) (onTc (τ := Cert.ReferenceSguIdeal.τ) (Cert.ReferenceSguIdeal.main (F := Ideal))) ⟨m', fun _ => 0, g'⟩ (fun r => ∀ c : Dev Cert.ReferenceSguIdeal.nD,
          r.2.mem ((c.tc : Thread Cert.ReferenceSguIdeal.nD Cert.ReferenceSguIdeal.τ).loc Cert.ReferenceSguIdeal.main_v71) = v0 c
          ∧ r.2.mem ((c.tc : Thread Cert.ReferenceSguIdeal.nD Cert.ReferenceSguIdeal.τ).loc Cert.ReferenceSguIdeal.main_arg0) = m' ((c.tc : Thread Cert.ReferenceSguIdeal.nD Cert.ReferenceSguIdeal.τ).loc Cert.ReferenceSguIdeal.main_arg0)
          ∧ r.2.mem ((c.tc : Thread Cert.ReferenceSguIdeal.nD Cert.ReferenceSguIdeal.τ).loc Cert.ReferenceSguIdeal.main_arg1) = m' ((c.tc : Thread Cert.ReferenceSguIdeal.nD Cert.ReferenceSguIdeal.τ).loc Cert.ReferenceSguIdeal.main_arg1)
          ∧ r.2.mem ((c.tc : Thread Cert.ReferenceSguIdeal.nD Cert.ReferenceSguIdeal.τ).loc Cert.ReferenceSguIdeal.main_arg2) = m' ((c.tc : Thread Cert.ReferenceSguIdeal.nD Cert.ReferenceSguIdeal.τ).loc Cert.ReferenceSguIdeal.main_arg2)
          ∧ r.2.mem ((c.tc : Thread Cert.ReferenceSguIdeal.nD Cert.ReferenceSguIdeal.τ).loc Cert.ReferenceSguIdeal.main_arg3) = m' ((c.tc : Thread Cert.ReferenceSguIdeal.nD Cert.ReferenceSguIdeal.τ).loc Cert.ReferenceSguIdeal.main_arg3)
          ∧ r.2.mem ((c.tc : Thread Cert.ReferenceSguIdeal.nD Cert.ReferenceSguIdeal.τ).loc Cert.ReferenceSguIdeal.main_arg4) = m' ((c.tc : Thread Cert.ReferenceSguIdeal.nD Cert.ReferenceSguIdeal.τ).loc Cert.ReferenceSguIdeal.main_arg4))

def preserves_KernelFoxPrep_KernelFoxPrepIdeal : Prop :=
  True

def algebraic_KernelFoxPrepIdeal_ReferenceFoxPrepIdeal [hKernelFoxPrepIdeal : Cert.KernelFoxPrepIdeal.Facts] [hReferenceFoxPrepIdeal : Cert.ReferenceFoxPrepIdeal.Facts] : Prop :=
  ∀ (m : (ℓ : Loc Cert.KernelFoxPrepIdeal.nD Cert.KernelFoxPrepIdeal.τ Cert.KernelFoxPrepIdeal.sig) → Buf (Elt Ideal) ℓ) (g : Dev Cert.KernelFoxPrepIdeal.nD → PrngReg)
    (m' : (ℓ : Loc Cert.ReferenceFoxPrepIdeal.nD Cert.ReferenceFoxPrepIdeal.τ Cert.ReferenceFoxPrepIdeal.sig) → Buf (Elt Ideal) ℓ) (g' : Dev Cert.ReferenceFoxPrepIdeal.nD → PrngReg), Pre_KernelFoxPrepIdeal m →
    (∀ c : Dev Cert.KernelFoxPrepIdeal.nD,
      m' ((c.tc : Thread Cert.ReferenceFoxPrepIdeal.nD Cert.ReferenceFoxPrepIdeal.τ).loc Cert.ReferenceFoxPrepIdeal.main_arg0) = m ((c.tc : Thread Cert.KernelFoxPrepIdeal.nD Cert.KernelFoxPrepIdeal.τ).loc Cert.KernelFoxPrepIdeal.main_arg0)
      ∧ m' ((c.tc : Thread Cert.ReferenceFoxPrepIdeal.nD Cert.ReferenceFoxPrepIdeal.τ).loc Cert.ReferenceFoxPrepIdeal.main_arg1) = m ((c.tc : Thread Cert.KernelFoxPrepIdeal.nD Cert.KernelFoxPrepIdeal.τ).loc Cert.KernelFoxPrepIdeal.main_arg1)
      ∧ m' ((c.tc : Thread Cert.ReferenceFoxPrepIdeal.nD Cert.ReferenceFoxPrepIdeal.τ).loc Cert.ReferenceFoxPrepIdeal.main_arg2) = m ((c.tc : Thread Cert.KernelFoxPrepIdeal.nD Cert.KernelFoxPrepIdeal.τ).loc Cert.KernelFoxPrepIdeal.main_arg2)
      ∧ m' ((c.tc : Thread Cert.ReferenceFoxPrepIdeal.nD Cert.ReferenceFoxPrepIdeal.τ).loc Cert.ReferenceFoxPrepIdeal.main_arg3) = m ((c.tc : Thread Cert.KernelFoxPrepIdeal.nD Cert.KernelFoxPrepIdeal.τ).loc Cert.KernelFoxPrepIdeal.main_arg3)) →
    ∃ (v0 : (c : Dev Cert.KernelFoxPrepIdeal.nD) → Buf (Elt Ideal) ((c.tc : Thread Cert.KernelFoxPrepIdeal.nD Cert.KernelFoxPrepIdeal.τ).loc Cert.KernelFoxPrepIdeal.main_v5_0)) (v1 : (c : Dev Cert.KernelFoxPrepIdeal.nD) → Buf (Elt Ideal) ((c.tc : Thread Cert.KernelFoxPrepIdeal.nD Cert.KernelFoxPrepIdeal.τ).loc Cert.KernelFoxPrepIdeal.main_v5_1)) (v2 : (c : Dev Cert.KernelFoxPrepIdeal.nD) → Buf (Elt Ideal) ((c.tc : Thread Cert.KernelFoxPrepIdeal.nD Cert.KernelFoxPrepIdeal.τ).loc Cert.KernelFoxPrepIdeal.main_v5_2)) (v3 : (c : Dev Cert.KernelFoxPrepIdeal.nD) → Buf (Elt Ideal) ((c.tc : Thread Cert.KernelFoxPrepIdeal.nD Cert.KernelFoxPrepIdeal.τ).loc Cert.KernelFoxPrepIdeal.main_v5_3)),
      θ_run (Cert.KernelFoxPrepIdeal.defs (F := Ideal)) (onTc (τ := Cert.KernelFoxPrepIdeal.τ) (Cert.KernelFoxPrepIdeal.main (F := Ideal))) ⟨m, fun _ => 0, g⟩ (fun r => ∀ c : Dev Cert.KernelFoxPrepIdeal.nD,
          r.2.mem ((c.tc : Thread Cert.KernelFoxPrepIdeal.nD Cert.KernelFoxPrepIdeal.τ).loc Cert.KernelFoxPrepIdeal.main_v5_0) = v0 c
          ∧ r.2.mem ((c.tc : Thread Cert.KernelFoxPrepIdeal.nD Cert.KernelFoxPrepIdeal.τ).loc Cert.KernelFoxPrepIdeal.main_v5_1) = v1 c
          ∧ r.2.mem ((c.tc : Thread Cert.KernelFoxPrepIdeal.nD Cert.KernelFoxPrepIdeal.τ).loc Cert.KernelFoxPrepIdeal.main_v5_2) = v2 c
          ∧ r.2.mem ((c.tc : Thread Cert.KernelFoxPrepIdeal.nD Cert.KernelFoxPrepIdeal.τ).loc Cert.KernelFoxPrepIdeal.main_v5_3) = v3 c
          ∧ r.2.mem ((c.tc : Thread Cert.KernelFoxPrepIdeal.nD Cert.KernelFoxPrepIdeal.τ).loc Cert.KernelFoxPrepIdeal.main_arg0) = m ((c.tc : Thread Cert.KernelFoxPrepIdeal.nD Cert.KernelFoxPrepIdeal.τ).loc Cert.KernelFoxPrepIdeal.main_arg0)
          ∧ r.2.mem ((c.tc : Thread Cert.KernelFoxPrepIdeal.nD Cert.KernelFoxPrepIdeal.τ).loc Cert.KernelFoxPrepIdeal.main_arg1) = m ((c.tc : Thread Cert.KernelFoxPrepIdeal.nD Cert.KernelFoxPrepIdeal.τ).loc Cert.KernelFoxPrepIdeal.main_arg1)
          ∧ r.2.mem ((c.tc : Thread Cert.KernelFoxPrepIdeal.nD Cert.KernelFoxPrepIdeal.τ).loc Cert.KernelFoxPrepIdeal.main_arg2) = m ((c.tc : Thread Cert.KernelFoxPrepIdeal.nD Cert.KernelFoxPrepIdeal.τ).loc Cert.KernelFoxPrepIdeal.main_arg2)
          ∧ r.2.mem ((c.tc : Thread Cert.KernelFoxPrepIdeal.nD Cert.KernelFoxPrepIdeal.τ).loc Cert.KernelFoxPrepIdeal.main_arg3) = m ((c.tc : Thread Cert.KernelFoxPrepIdeal.nD Cert.KernelFoxPrepIdeal.τ).loc Cert.KernelFoxPrepIdeal.main_arg3))
      ∧ θ_run (Cert.ReferenceFoxPrepIdeal.defs (F := Ideal)) (onTc (τ := Cert.ReferenceFoxPrepIdeal.τ) (Cert.ReferenceFoxPrepIdeal.main (F := Ideal))) ⟨m', fun _ => 0, g'⟩ (fun r => ∀ c : Dev Cert.ReferenceFoxPrepIdeal.nD,
          r.2.mem ((c.tc : Thread Cert.ReferenceFoxPrepIdeal.nD Cert.ReferenceFoxPrepIdeal.τ).loc Cert.ReferenceFoxPrepIdeal.main_v46) = v0 c
          ∧ r.2.mem ((c.tc : Thread Cert.ReferenceFoxPrepIdeal.nD Cert.ReferenceFoxPrepIdeal.τ).loc Cert.ReferenceFoxPrepIdeal.main_v48) = v1 c
          ∧ r.2.mem ((c.tc : Thread Cert.ReferenceFoxPrepIdeal.nD Cert.ReferenceFoxPrepIdeal.τ).loc Cert.ReferenceFoxPrepIdeal.main_v49) = v2 c
          ∧ r.2.mem ((c.tc : Thread Cert.ReferenceFoxPrepIdeal.nD Cert.ReferenceFoxPrepIdeal.τ).loc Cert.ReferenceFoxPrepIdeal.main_v50) = v3 c
          ∧ r.2.mem ((c.tc : Thread Cert.ReferenceFoxPrepIdeal.nD Cert.ReferenceFoxPrepIdeal.τ).loc Cert.ReferenceFoxPrepIdeal.main_arg0) = m' ((c.tc : Thread Cert.ReferenceFoxPrepIdeal.nD Cert.ReferenceFoxPrepIdeal.τ).loc Cert.ReferenceFoxPrepIdeal.main_arg0)
          ∧ r.2.mem ((c.tc : Thread Cert.ReferenceFoxPrepIdeal.nD Cert.ReferenceFoxPrepIdeal.τ).loc Cert.ReferenceFoxPrepIdeal.main_arg1) = m' ((c.tc : Thread Cert.ReferenceFoxPrepIdeal.nD Cert.ReferenceFoxPrepIdeal.τ).loc Cert.ReferenceFoxPrepIdeal.main_arg1)
          ∧ r.2.mem ((c.tc : Thread Cert.ReferenceFoxPrepIdeal.nD Cert.ReferenceFoxPrepIdeal.τ).loc Cert.ReferenceFoxPrepIdeal.main_arg2) = m' ((c.tc : Thread Cert.ReferenceFoxPrepIdeal.nD Cert.ReferenceFoxPrepIdeal.τ).loc Cert.ReferenceFoxPrepIdeal.main_arg2)
          ∧ r.2.mem ((c.tc : Thread Cert.ReferenceFoxPrepIdeal.nD Cert.ReferenceFoxPrepIdeal.τ).loc Cert.ReferenceFoxPrepIdeal.main_arg3) = m' ((c.tc : Thread Cert.ReferenceFoxPrepIdeal.nD Cert.ReferenceFoxPrepIdeal.τ).loc Cert.ReferenceFoxPrepIdeal.main_arg3))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v3)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v3) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v7) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelMoe : Cert.KernelMoe.Facts) (hKernelMoeIdeal : Cert.KernelMoeIdeal.Facts) (hReferenceMoeIdeal : Cert.ReferenceMoeIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelSgu : Cert.KernelSgu.Facts) (hKernelSguIdeal : Cert.KernelSguIdeal.Facts) (hReferenceSguIdeal : Cert.ReferenceSguIdeal.Facts) (hKernelFoxPrep : Cert.KernelFoxPrep.Facts) (hKernelFoxPrepIdeal : Cert.KernelFoxPrepIdeal.Facts) (hReferenceFoxPrepIdeal : Cert.ReferenceFoxPrepIdeal.Facts) (hKernelAda : Cert.KernelAda.Facts) (hKernelAdaIdeal : Cert.KernelAdaIdeal.Facts) (hReferenceAdaIdeal : Cert.ReferenceAdaIdeal.Facts) (hPre_logits_real : Cert.Pre_logits_real.Facts) (hPre_gates_real : Cert.Pre_gates_real.Facts),
    quiescent_Kernel (hKernel := hKernel)
    ∧ quiescent_KernelIdeal (hKernelIdeal := hKernelIdeal)
    ∧ quiescent_KernelIdeal_pre_logits_real (hKernelIdeal := hKernelIdeal) (hPre_logits_real := hPre_logits_real)
    ∧ quiescent_ReferenceIdeal (hReferenceIdeal := hReferenceIdeal)
    ∧ quiescent_ReferenceIdeal_pre_logits_real (hReferenceIdeal := hReferenceIdeal) (hPre_logits_real := hPre_logits_real)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMoe (hKernelMoe := hKernelMoe)
    ∧ quiescent_KernelMoeIdeal (hKernelMoeIdeal := hKernelMoeIdeal)
    ∧ quiescent_KernelMoeIdeal_pre_gates_real (hKernelMoeIdeal := hKernelMoeIdeal) (hPre_gates_real := hPre_gates_real)
    ∧ quiescent_ReferenceMoeIdeal (hReferenceMoeIdeal := hReferenceMoeIdeal)
    ∧ quiescent_ReferenceMoeIdeal_pre_gates_real (hReferenceMoeIdeal := hReferenceMoeIdeal) (hPre_gates_real := hPre_gates_real)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelSgu (hKernelSgu := hKernelSgu)
    ∧ quiescent_KernelSguIdeal (hKernelSguIdeal := hKernelSguIdeal)
    ∧ quiescent_ReferenceSguIdeal (hReferenceSguIdeal := hReferenceSguIdeal)
    ∧ quiescent_KernelFoxPrep (hKernelFoxPrep := hKernelFoxPrep)
    ∧ quiescent_KernelFoxPrepIdeal (hKernelFoxPrepIdeal := hKernelFoxPrepIdeal)
    ∧ quiescent_ReferenceFoxPrepIdeal (hReferenceFoxPrepIdeal := hReferenceFoxPrepIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ preserves_Kernel_KernelIdeal
    ∧ algebraic_KernelIdeal_ReferenceIdeal_pre_logits_real (hKernelIdeal := hKernelIdeal) (hReferenceIdeal := hReferenceIdeal) (hPre_logits_real := hPre_logits_real)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMoe_KernelMoeIdeal
    ∧ algebraic_KernelMoeIdeal_ReferenceMoeIdeal_pre_gates_real (hKernelMoeIdeal := hKernelMoeIdeal) (hReferenceMoeIdeal := hReferenceMoeIdeal) (hPre_gates_real := hPre_gates_real)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelSgu_KernelSguIdeal
    ∧ algebraic_KernelSguIdeal_ReferenceSguIdeal (hKernelSguIdeal := hKernelSguIdeal) (hReferenceSguIdeal := hReferenceSguIdeal)
    ∧ preserves_KernelFoxPrep_KernelFoxPrepIdeal
    ∧ algebraic_KernelFoxPrepIdeal_ReferenceFoxPrepIdeal (hKernelFoxPrepIdeal := hKernelFoxPrepIdeal) (hReferenceFoxPrepIdeal := hReferenceFoxPrepIdeal)
    ∧ preserves_KernelAda_KernelAdaIdeal
    ∧ algebraic_KernelAdaIdeal_ReferenceAdaIdeal (hKernelAdaIdeal := hKernelAdaIdeal) (hReferenceAdaIdeal := hReferenceAdaIdeal)
-- ==== Pre_gates_real.lean ====
abbrev S8192x2048 : Shape := ⟨2, ![8192, 2048]⟩
abbrev S8192x128 : Shape := ⟨2, ![8192, 128]⟩
abbrev S1x8x2048x2816 : Shape := ⟨4, ![1, 8, 2048, 2816]⟩
abbrev S1x8x2816x2048 : Shape := ⟨4, ![1, 8, 2816, 2048]⟩
abbrev S2x1x2048 : Shape := ⟨3, ![2, 1, 2048]⟩
abbrev S8192x8 : Shape := ⟨2, ![8192, 8]⟩
abbrev S_ : Shape := ⟨0, ![]⟩

class Facts : Prop where
  slices_S8192x128_S8192x8_0_0 : S8192x128.Slices ![0, 0] S8192x8
  bcast_S_S8192x8 : S_.BroadcastsInDim S8192x8 (![] : Fin 0 → Fin S8192x8.rank)

variable [Facts]

def fn {F : FTy → Type} [FloatOps F] (main_arg0 : FVec F S8192x2048 .bf16) (main_arg1 : FVec F S8192x128 .f32) (main_arg2 : FVec F S1x8x2048x2816 .f32) (main_arg3 : FVec F S1x8x2048x2816 .f32) (main_arg4 : FVec F S1x8x2816x2048 .f32) (main_arg5 : FVec F S8192x2048 .f32) (main_arg6 : FVec F S2x1x2048 .f32) : IVec S8192x8 1 :=
  let main_v0 : FVec F S8192x8 .f32 := (extractStridedSlice S8192x8 ![0, 0] · slices_S8192x128_S8192x8_0_0) main_arg1
  let main_cst : FVec F S_ .f32 := constant S_ .f32 0x00000000#32
  let main_v1 : FVec F S8192x8 .f32 := broadcastInDim S8192x8 ![] bcast_S_S8192x8 main_cst
  let main_v2 : IVec S8192x8 1 := cmpf .oge main_v0 main_v1
  let main_v3 : FVec F S8192x8 .f32 := (extractStridedSlice S8192x8 ![0, 0] · slices_S8192x128_S8192x8_0_0) main_arg1
  let main_cst_0 : FVec F S_ .f32 := constant S_ .f32 0x7F800000#32
  let main_v4 : FVec F S8192x8 .f32 := broadcastInDim S8192x8 ![] bcast_S_S8192x8 main_cst_0
  let main_v5 : IVec S8192x8 1 := cmpf .olt main_v3 main_v4
  let main_v6 : IVec S8192x8 1 := andi main_v2 main_v5
  main_v6
-- ==== Pre_logits_real.lean ====
abbrev S8192x768 : Shape := ⟨2, ![8192, 768]⟩
abbrev S8192x128 : Shape := ⟨2, ![8192, 128]⟩
abbrev S_ : Shape := ⟨0, ![]⟩
abbrev S8192x6 : Shape := ⟨2, ![8192, 6]⟩
abbrev S8192x774 : Shape := ⟨2, ![8192, 774]⟩

class Facts : Prop where
  bcast_S_S8192x768 : S_.BroadcastsInDim S8192x768 (![] : Fin 0 → Fin S8192x768.rank)
  slices_S8192x128_S8192x6_0_0 : S8192x128.Slices ![0, 0] S8192x6
  bcast_S_S8192x6 : S_.BroadcastsInDim S8192x6 (![] : Fin 0 → Fin S8192x6.rank)
  concatenates_S8192x768_S8192x6_S8192x774_d1 : Shape.Concatenates [S8192x768, S8192x6] S8192x774 1

variable [Facts]

def fn {F : FTy → Type} [FloatOps F] (main_arg0 : FVec F S8192x768 .bf16) (main_arg1 : FVec F S8192x768 .bf16) (main_arg2 : FVec F S8192x768 .bf16) (main_arg3 : FVec F S8192x128 .f32) : IVec S8192x774 1 :=
  let main_cst : FVec F S_ .bf16 := constant S_ .bf16 0xFF80#16
  let main_v0 : FVec F S8192x768 .bf16 := broadcastInDim S8192x768 ![] bcast_S_S8192x768 main_cst
  let main_v1 : IVec S8192x768 1 := cmpf .ogt main_arg0 main_v0
  let main_cst_0 : FVec F S_ .bf16 := constant S_ .bf16 0x7F80#16
  let main_v2 : FVec F S8192x768 .bf16 := broadcastInDim S8192x768 ![] bcast_S_S8192x768 main_cst_0
  let main_v3 : IVec S8192x768 1 := cmpf .olt main_arg0 main_v2
  let main_v4 : IVec S8192x768 1 := andi main_v1 main_v3
  let main_cst_1 : FVec F S_ .bf16 := constant S_ .bf16 0xFF80#16
  let main_v5 : FVec F S8192x768 .bf16 := broadcastInDim S8192x768 ![] bcast_S_S8192x768 main_cst_1
  let main_v6 : IVec S8192x768 1 := cmpf .ogt main_arg1 main_v5
  let main_cst_2 : FVec F S_ .bf16 := constant S_ .bf16 0x7F80#16
  let main_v7 : FVec F S8192x768 .bf16 := broadcastInDim S8192x768 ![] bcast_S_S8192x768 main_cst_2
  let main_v8 : IVec S8192x768 1 := cmpf .olt main_arg1 main_v7
  let main_v9 : IVec S8192x768 1 := andi main_v6 main_v8
  let main_v10 : IVec S8192x768 1 := andi main_v4 main_v9
  let main_v11 : FVec F S8192x6 .f32 := (extractStridedSlice S8192x6 ![0, 0] · slices_S8192x128_S8192x6_0_0) main_arg3
  let main_cst_3 : FVec F S_ .f32 := constant S_ .f32 0xFF800000#32
  let main_v12 : FVec F S8192x6 .f32 := broadcastInDim S8192x6 ![] bcast_S_S8192x6 main_cst_3
  let main_v13 : IVec S8192x6 1 := cmpf .ogt main_v11 main_v12
  let main_cst_4 : FVec F S_ .f32 := constant S_ .f32 0x7F800000#32
  let main_v14 : FVec F S8192x6 .f32 := broadcastInDim S8192x6 ![] bcast_S_S8192x6 main_cst_4
  let main_v15 : IVec S8192x6 1 := cmpf .olt main_v11 main_v14
  let main_v16 : IVec S8192x6 1 := andi main_v13 main_v15
  let main_v17 : IVec S8192x774 1 := (fun a b => concatenate S8192x774 1 [⟨S8192x768, a⟩, ⟨S8192x6, b⟩] concatenates_S8192x768_S8192x6_S8192x774_d1) main_v10 main_v16
  main_v17
-- ==== Kernel.lean ====
abbrev S8192x768 : Shape := ⟨2, ![8192, 768]⟩
abbrev S8192x128 : Shape := ⟨2, ![8192, 128]⟩
abbrev S8192x6 : Shape := ⟨2, ![8192, 6]⟩
abbrev S2x4096x6 : Shape := ⟨3, ![2, 4096, 6]⟩
abbrev S2x6x4096 : Shape := ⟨3, ![2, 6, 4096]⟩
abbrev S12x4096x1 : Shape := ⟨3, ![12, 4096, 1]⟩
abbrev S12x1x4096 : Shape := ⟨3, ![12, 1, 4096]⟩
abbrev S512x128 : Shape := ⟨2, ![512, 128]⟩
abbrev S1x512x1 : Shape := ⟨3, ![1, 512, 1]⟩
abbrev S1x1x512 : Shape := ⟨3, ![1, 1, 512]⟩
abbrev S512x1 : Shape := ⟨2, ![512, 1]⟩
abbrev S512x512 : Shape := ⟨2, ![512, 512]⟩
abbrev S1x512 : Shape := ⟨2, ![1, 512]⟩
abbrev S512 : Shape := ⟨1, ![512]⟩

abbrev nBuf : Space → Nat
  | .hbm => 10
  | .vmem => 15
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S8192x128, .f32⟩
  | .hbm, ⟨4, _⟩ => ⟨S8192x6, .f32⟩
  | .hbm, ⟨5, _⟩ => ⟨S2x4096x6, .f32⟩
  | .hbm, ⟨6, _⟩ => ⟨S2x6x4096, .f32⟩
  | .hbm, ⟨7, _⟩ => ⟨S12x4096x1, .f32⟩
  | .hbm, ⟨8, _⟩ => ⟨S12x1x4096, .f32⟩
  | .hbm, ⟨9, _⟩ => ⟨S8192x768, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x512x1, .f32⟩
  | .local _ .vmem, ⟨7, _⟩ => ⟨S1x512x1, .f32⟩
  | .local _ .vmem, ⟨8, _⟩ => ⟨S1x1x512, .f32⟩
  | .local _ .vmem, ⟨9, _⟩ => ⟨S1x1x512, .f32⟩
  | .local _ .vmem, ⟨10, _⟩ => ⟨S512x128, .bf16⟩
  | .local _ .vmem, ⟨11, _⟩ => ⟨S512x128, .bf16⟩
  | .local _ .vmem, ⟨12, _⟩ => ⟨S512x1, .f32⟩
  | .local _ .vmem, ⟨13, _⟩ => ⟨S512x1, .f32⟩
  | .local _ .vmem, ⟨14, _⟩ => ⟨S512x128, .f32⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![12, 8, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.muli v16 c8_i32
  let v28 : BitVec 32 := Scalar.addi v27 arg1
  let c6_i32_10 : BitVec 32 := 6#32
  let v29 : BitVec 32 := Scalar.divsi arg0 c6_i32_10
  let c0_i32_11 : BitVec 32 := 0#32
  let v30 : BitVec 1 := Scalar.cmpi .sgt arg0 c0_i32_11
  let v31 : BitVec 32 := Scalar.extui v30
  let c0_i32_12 : BitVec 32 := 0#32
  let v32 : BitVec 1 := Scalar.cmpi .slt arg0 c0_i32_12
  let v33 : BitVec 32 := Scalar.extui v32
  let v34 : BitVec 32 := Scalar.subi v31 v33
  let c0_i32_13 : BitVec 32 := 0#32
  let v35 : BitVec 1 := Scalar.cmpi .sgt c6_i32_10 c0_i32_13
  let v36 : BitVec 32 := Scalar.extui v35
  let c0_i32_14 : BitVec 32 := 0#32
  let v37 : BitVec 1 := Scalar.cmpi .slt c6_i32_10 c0_i32_14
  let v38 : BitVec 32 := Scalar.extui v37
  let v39 : BitVec 32 := Scalar.subi v36 v38
  let v40 : BitVec 1 := Scalar.cmpi .ne v34 v39
  let v41 : BitVec 32 := Scalar.remsi arg0 c6_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c6_i32_17 : BitVec 32 := 6#32
  let c0_i32_18 : BitVec 32 := 0#32
  let v46 : BitVec 1 := Scalar.cmpi .eq c6_i32_17 c0_i32_18
  let c1_i32_19 : BitVec 32 := 1#32
  let v47 : BitVec 32 := Scalar.select v46 c1_i32_19 c6_i32_17
  let v48 : BitVec 32 := Scalar.remsi arg0 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v28.toNat, v55.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.muli v16 c8_i32
  let c1_i32_10 : BitVec 32 := 1#32
  let v28 : BitVec 32 := Scalar.addi arg1 c1_i32_10
  let c512_i32 : BitVec 32 := 512#32
  let v29 : BitVec 32 := Scalar.muli v28 c512_i32
  let c1_i32_11 : BitVec 32 := 1#32
  let v30 : BitVec 32 := Scalar.subi v29 c1_i32_11
  let c512_i32_12 : BitVec 32 := 512#32
  let v31 : BitVec 32 := Scalar.divsi v30 c512_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c512_i32_12 c0_i32_15
  let v38 : BitVec 32 := Scalar.extui v37
  let c0_i32_16 : BitVec 32 := 0#32
  let v39 : BitVec 1 := Scalar.cmpi .slt c512_i32_12 c0_i32_16
  let v40 : BitVec 32 := Scalar.extui v39
  let v41 : BitVec 32 := Scalar.subi v38 v40
  let v42 : BitVec 1 := Scalar.cmpi .ne v36 v41
  let v43 : BitVec 32 := Scalar.remsi v30 c512_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let v48 : BitVec 32 := Scalar.minsi arg2 v47
  let v49 : BitVec 32 := Scalar.addi v27 v48
  let c6_i32_19 : BitVec 32 := 6#32
  let v50 : BitVec 32 := Scalar.divsi arg0 c6_i32_19
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .slt arg0 c0_i32_21
  let v54 : BitVec 32 := Scalar.extui v53
  let v55 : BitVec 32 := Scalar.subi v52 v54
  let c0_i32_22 : BitVec 32 := 0#32
  let v56 : BitVec 1 := Scalar.cmpi .sgt c6_i32_19 c0_i32_22
  let v57 : BitVec 32 := Scalar.extui v56
  let c0_i32_23 : BitVec 32 := 0#32
  let v58 : BitVec 1 := Scalar.cmpi .slt c6_i32_19 c0_i32_23
  let v59 : BitVec 32 := Scalar.extui v58
  let v60 : BitVec 32 := Scalar.subi v57 v59
  let v61 : BitVec 1 := Scalar.cmpi .ne v55 v60
  let v62 : BitVec 32 := Scalar.remsi arg0 c6_i32_19
  let c0_i32_24 : BitVec 32 := 0#32
  let v63 : BitVec 1 := Scalar.cmpi .ne v62 c0_i32_24
  let v64 : BitVec 1 := Scalar.andi v61 v63
  let c1_i32_25 : BitVec 32 := 1#32
  let v65 : BitVec 32 := Scalar.subi v50 c1_i32_25
  let v66 : BitVec 32 := Scalar.select v64 v65 v50
  let c6_i32_26 : BitVec 32 := 6#32
  let c0_i32_27 : BitVec 32 := 0#32
  let v67 : BitVec 1 := Scalar.cmpi .eq c6_i32_26 c0_i32_27
  let c1_i32_28 : BitVec 32 := 1#32
  let v68 : BitVec 32 := Scalar.select v67 c1_i32_28 c6_i32_26
  let v69 : BitVec 32 := Scalar.remsi arg0 v68
  let c0_i32_29 : BitVec 32 := 0#32
  let v70 : BitVec 1 := Scalar.cmpi .ne v69 c0_i32_29
  let c0_i32_30 : BitVec 32 := 0#32
  let v71 : BitVec 1 := Scalar.cmpi .slt v69 c0_i32_30
  let c0_i32_31 : BitVec 32 := 0#32
  let v72 : BitVec 1 := Scalar.cmpi .slt v68 c0_i32_31
  let v73 : BitVec 1 := Scalar.xori v71 v72
  let v74 : BitVec 1 := Scalar.andi v73 v70
  let v75 : BitVec 32 := Scalar.addi v69 v68
  let v76 : BitVec 32 := Scalar.select v74 v75 v69
  let c0_i32_32 : BitVec 32 := 0#32
  ![v49.toNat, v76.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.muli v16 c8_i32
  let c1_i32_10 : BitVec 32 := 1#32
  let v28 : BitVec 32 := Scalar.addi arg1 c1_i32_10
  let c512_i32 : BitVec 32 := 512#32
  let v29 : BitVec 32 := Scalar.muli v28 c512_i32
  let c1_i32_11 : BitVec 32 := 1#32
  let v30 : BitVec 32 := Scalar.subi v29 c1_i32_11
  let c512_i32_12 : BitVec 32 := 512#32
  let v31 : BitVec 32 := Scalar.divsi v30 c512_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c512_i32_12 c0_i32_15
  let v38 : BitVec 32 := Scalar.extui v37
  let c0_i32_16 : BitVec 32 := 0#32
  let v39 : BitVec 1 := Scalar.cmpi .slt c512_i32_12 c0_i32_16
  let v40 : BitVec 32 := Scalar.extui v39
  let v41 : BitVec 32 := Scalar.subi v38 v40
  let v42 : BitVec 1 := Scalar.cmpi .ne v36 v41
  let v43 : BitVec 32 := Scalar.remsi v30 c512_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let v48 : BitVec 32 := Scalar.minsi arg2 v47
  let v49 : BitVec 32 := Scalar.addi v27 v48
  let c6_i32_19 : BitVec 32 := 6#32
  let v50 : BitVec 32 := Scalar.divsi arg0 c6_i32_19
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .slt arg0 c0_i32_21
  let v54 : BitVec 32 := Scalar.extui v53
  let v55 : BitVec 32 := Scalar.subi v52 v54
  let c0_i32_22 : BitVec 32 := 0#32
  let v56 : BitVec 1 := Scalar.cmpi .sgt c6_i32_19 c0_i32_22
  let v57 : BitVec 32 := Scalar.extui v56
  let c0_i32_23 : BitVec 32 := 0#32
  let v58 : BitVec 1 := Scalar.cmpi .slt c6_i32_19 c0_i32_23
  let v59 : BitVec 32 := Scalar.extui v58
  let v60 : BitVec 32 := Scalar.subi v57 v59
  let v61 : BitVec 1 := Scalar.cmpi .ne v55 v60
  let v62 : BitVec 32 := Scalar.remsi arg0 c6_i32_19
  let c0_i32_24 : BitVec 32 := 0#32
  let v63 : BitVec 1 := Scalar.cmpi .ne v62 c0_i32_24
  let v64 : BitVec 1 := Scalar.andi v61 v63
  let c1_i32_25 : BitVec 32 := 1#32
  let v65 : BitVec 32 := Scalar.subi v50 c1_i32_25
  let v66 : BitVec 32 := Scalar.select v64 v65 v50
  let c6_i32_26 : BitVec 32 := 6#32
  let c0_i32_27 : BitVec 32 := 0#32
  let v67 : BitVec 1 := Scalar.cmpi .eq c6_i32_26 c0_i32_27
  let c1_i32_28 : BitVec 32 := 1#32
  let v68 : BitVec 32 := Scalar.select v67 c1_i32_28 c6_i32_26
  let v69 : BitVec 32 := Scalar.remsi arg0 v68
  let c0_i32_29 : BitVec 32 := 0#32
  let v70 : BitVec 1 := Scalar.cmpi .ne v69 c0_i32_29
  let c0_i32_30 : BitVec 32 := 0#32
  let v71 : BitVec 1 := Scalar.cmpi .slt v69 c0_i32_30
  let c0_i32_31 : BitVec 32 := 0#32
  let v72 : BitVec 1 := Scalar.cmpi .slt v68 c0_i32_31
  let v73 : BitVec 1 := Scalar.xori v71 v72
  let v74 : BitVec 1 := Scalar.andi v73 v70
  let v75 : BitVec 32 := Scalar.addi v69 v68
  let v76 : BitVec 32 := Scalar.select v74 v75 v69
  let c0_i32_32 : BitVec 32 := 0#32
  ![v49.toNat, v76.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c512_i32 : BitVec 32 := 512#32
  let v1 : BitVec 32 := Scalar.muli v0 c512_i32
  let c1_i32_0 : BitVec 32 := 1#32
  let v2 : BitVec 32 := Scalar.subi v1 c1_i32_0
  let c512_i32_1 : BitVec 32 := 512#32
  let v3 : BitVec 32 := Scalar.divsi v2 c512_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c512_i32_1 c0_i32_3
  let v10 : BitVec 32 := Scalar.extui v9
  let c0_i32_4 : BitVec 32 := 0#32
  let v11 : BitVec 1 := Scalar.cmpi .slt c512_i32_1 c0_i32_4
  let v12 : BitVec 32 := Scalar.extui v11
  let v13 : BitVec 32 := Scalar.subi v10 v12
  let v14 : BitVec 1 := Scalar.cmpi .ne v8 v13
  let v15 : BitVec 32 := Scalar.remsi v2 c512_i32_1
  let c0_i32_5 : BitVec 32 := 0#32
  let v16 : BitVec 1 := Scalar.cmpi .ne v15 c0_i32_5
  let v17 : BitVec 1 := Scalar.andi v14 v16
  let c1_i32_6 : BitVec 32 := 1#32
  let v18 : BitVec 32 := Scalar.subi v3 c1_i32_6
  let v19 : BitVec 32 := Scalar.select v17 v18 v3
  let v20 : BitVec 32 := Scalar.minsi arg2 v19
  let c0_i32_7 : BitVec 32 := 0#32
  let c0_i32_8 : BitVec 32 := 0#32
  ![arg0.toNat, c0_i32_7.toNat, v20.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.muli v16 c8_i32
  let v28 : BitVec 32 := Scalar.addi v27 arg1
  let c6_i32_10 : BitVec 32 := 6#32
  let v29 : BitVec 32 := Scalar.divsi arg0 c6_i32_10
  let c0_i32_11 : BitVec 32 := 0#32
  let v30 : BitVec 1 := Scalar.cmpi .sgt arg0 c0_i32_11
  let v31 : BitVec 32 := Scalar.extui v30
  let c0_i32_12 : BitVec 32 := 0#32
  let v32 : BitVec 1 := Scalar.cmpi .slt arg0 c0_i32_12
  let v33 : BitVec 32 := Scalar.extui v32
  let v34 : BitVec 32 := Scalar.subi v31 v33
  let c0_i32_13 : BitVec 32 := 0#32
  let v35 : BitVec 1 := Scalar.cmpi .sgt c6_i32_10 c0_i32_13
  let v36 : BitVec 32 := Scalar.extui v35
  let c0_i32_14 : BitVec 32 := 0#32
  let v37 : BitVec 1 := Scalar.cmpi .slt c6_i32_10 c0_i32_14
  let v38 : BitVec 32 := Scalar.extui v37
  let v39 : BitVec 32 := Scalar.subi v36 v38
  let v40 : BitVec 1 := Scalar.cmpi .ne v34 v39
  let v41 : BitVec 32 := Scalar.remsi arg0 c6_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let c6_i32_17 : BitVec 32 := 6#32
  let c0_i32_18 : BitVec 32 := 0#32
  let v46 : BitVec 1 := Scalar.cmpi .eq c6_i32_17 c0_i32_18
  let c1_i32_19 : BitVec 32 := 1#32
  let v47 : BitVec 32 := Scalar.select v46 c1_i32_19 c6_i32_17
  let v48 : BitVec 32 := Scalar.remsi arg0 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v28.toNat, v55.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x768 : Shape := ⟨2, ![8192, 768]⟩
abbrev S8192x128 : Shape := ⟨2, ![8192, 128]⟩
abbrev S2x4096x6x128 : Shape := ⟨4, ![2, 4096, 6, 128]⟩
abbrev S2x6x4096x128 : Shape := ⟨4, ![2, 6, 4096, 128]⟩
abbrev S8192x6 : Shape := ⟨2, ![8192, 6]⟩
abbrev S2x4096x6 : Shape := ⟨3, ![2, 4096, 6]⟩
abbrev S2x6x4096 : Shape := ⟨3, ![2, 6, 4096]⟩
abbrev S2x6x4096x4096 : Shape := ⟨4, ![2, 6, 4096, 4096]⟩
abbrev S2x6x4096x1 : Shape := ⟨4, ![2, 6, 4096, 1]⟩
abbrev S2x6x1x4096 : Shape := ⟨4, ![2, 6, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x768, .bf16⟩
  | .hbm, ⟨3, _⟩ => ⟨S8192x128, .f32⟩
  | .hbm, ⟨4, _⟩ => ⟨S8192x768, .f32⟩
  | .hbm, ⟨5, _⟩ => ⟨S2x4096x6x128, .f32⟩
  | .hbm, ⟨6, _⟩ => ⟨S2x6x4096x128, .f32⟩
  | .hbm, ⟨7, _⟩ => ⟨S8192x768, .f32⟩
  | .hbm, ⟨8, _⟩ => ⟨S2x4096x6x128, .f32⟩
  | .hbm, ⟨9, _⟩ => ⟨S2x6x4096x128, .f32⟩
  | .hbm, ⟨10, _⟩ => ⟨S8192x768, .f32⟩
  | .hbm, ⟨11, _⟩ => ⟨S2x4096x6x128, .f32⟩
  | .hbm, ⟨12, _⟩ => ⟨S2x6x4096x128, .f32⟩
  | .hbm, ⟨13, _⟩ => ⟨S8192x6, .f32⟩
  | .hbm, ⟨14, _⟩ => ⟨S2x4096x6, .f32⟩
  | .hbm, ⟨15, _⟩ => ⟨S2x6x4096, .f32⟩
  | .hbm, ⟨16, _⟩ => ⟨S2x6x4096x4096, .f32⟩
  | .hbm, ⟨17, _⟩ => ⟨S2x6x4096x1, .f32⟩
  | .hbm, ⟨18, _⟩ => ⟨S2x6x4096x4096, .f32⟩
  | .hbm, ⟨19, _⟩ => ⟨S2x6x4096x4096, .f32⟩
  | .hbm, ⟨20, _⟩ => ⟨S2x6x1x4096, .f32⟩
  | .hbm, ⟨21, _⟩ => ⟨S2x6x4096x4096, .f32⟩
  | .hbm, ⟨22, _⟩ => ⟨S2x6x4096x4096, .f32⟩
  | .hbm, ⟨23, _⟩ => ⟨S4096, .i32⟩
  | .hbm, ⟨24, _⟩ => ⟨S4096x1, .i32⟩
  | .hbm, ⟨25, _⟩ => ⟨S4096, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S_, .f32⟩
  | .hbm, ⟨31, _⟩ => ⟨S_, .f32⟩
  | .hbm, ⟨32, _⟩ => ⟨S2x6x4096x4096, .i1⟩
  | .hbm, ⟨33, _⟩ => ⟨S2x6x4096x4096, .f32⟩
  | .hbm, ⟨34, _⟩ => ⟨S2x6x4096x4096, .f32⟩
  | .hbm, ⟨35, _⟩ => ⟨S_, .f32⟩
  | .hbm, ⟨36, _⟩ => ⟨S2x6x4096, .f32⟩
  | .hbm, ⟨37, _⟩ => ⟨S_, .f32⟩
  | .hbm, ⟨38, _⟩ => ⟨S2x6x4096, .f32⟩
  | .hbm, ⟨39, _⟩ => ⟨S2x6x4096, .f32⟩
  | .hbm, ⟨40, _⟩ => ⟨S2x6x4096x1, .f32⟩
  | .hbm, ⟨41, _⟩ => ⟨S2x6x4096x4096, .f32⟩
  | .hbm, ⟨42, _⟩ => ⟨S2x6x4096x4096, .f32⟩
  | .hbm, ⟨43, _⟩ => ⟨S2x6x4096x4096, .f32⟩
  | .hbm, ⟨44, _⟩ => ⟨S_, .f32⟩
  | .hbm, ⟨45, _⟩ => ⟨S2x6x4096, .f32⟩
  | .hbm, ⟨46, _⟩ => ⟨S2x6x4096x1, .f32⟩
  | .hbm, ⟨47, _⟩ => ⟨S2x6x4096x4096, .f32⟩
  | .hbm, ⟨48, _⟩ => ⟨S2x6x4096x4096, .f32⟩
  | .hbm, ⟨49, _⟩ => ⟨S2x6x4096x128, .f32⟩
  | .hbm, ⟨50, _⟩ => ⟨S2x4096x6x128, .f32⟩
  | .hbm, ⟨51, _⟩ => ⟨S8192x768, .f32⟩
  | .hbm, ⟨52, _⟩ => ⟨S8192x768, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_0 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== KernelFfn.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S2x1x2048 : Shape := ⟨3, ![2, 1, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S1x1x2048 : Shape := ⟨3, ![1, 1, 2048]⟩
abbrev S512x512 : Shape := ⟨2, ![512, 512]⟩
abbrev S1x2048 : Shape := ⟨2, ![1, 2048]⟩

abbrev nBuf : Space → Nat
  | .hbm => 13
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S8192x2048, .f32⟩
  | .hbm, ⟨5, _⟩ => ⟨S2x1x2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceFfnIdeal.lean ====
abbrev S8192x2048 : Shape := ⟨2, ![8192, 2048]⟩
abbrev S1x2048x5632 : Shape := ⟨3, ![1, 2048, 5632]⟩
abbrev S1x5632x2048 : Shape := ⟨3, ![1, 5632, 2048]⟩
abbrev S2x1x2048 : Shape := ⟨3, ![2, 1, 2048]⟩
abbrev S2x4096x2048 : Shape := ⟨3, ![2, 4096, 2048]⟩
abbrev S2048x5632 : Shape := ⟨2, ![2048, 5632]⟩
abbrev S5632x2048 : Shape := ⟨2, ![5632, 2048]⟩
abbrev S2x4096x5632 : Shape := ⟨3, ![2, 4096, 5632]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x5632, .f32⟩
  | .hbm, ⟨2, _⟩ => ⟨S1x2048x5632, .f32⟩
  | .hbm, ⟨3, _⟩ => ⟨S1x5632x2048, .f32⟩
  | .hbm, ⟨4, _⟩ => ⟨S8192x2048, .f32⟩
  | .hbm, ⟨5, _⟩ => ⟨S2x1x2048, .f32⟩
  | .hbm, ⟨6, _⟩ => ⟨S8192x2048, .f32⟩
  | .hbm, ⟨7, _⟩ => ⟨S2x4096x2048, .f32⟩
  | .hbm, ⟨8, _⟩ => ⟨S2x4096x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S2x4096x5632, .f32⟩
  | .hbm, ⟨13, _⟩ => ⟨S2x4096x5632, .f32⟩
  | .hbm, ⟨14, _⟩ => ⟨S2x4096x5632, .f32⟩
  | .hbm, ⟨15, _⟩ => ⟨S_, .f32⟩
  | .hbm, ⟨16, _⟩ => ⟨S2x4096x5632, .f32⟩
  | .hbm, ⟨17, _⟩ => ⟨S2x4096x5632, .f32⟩
  | .hbm, ⟨18, _⟩ => ⟨S_, .f32⟩
  | .hbm, ⟨19, _⟩ => ⟨S2x4096x5632, .f32⟩
  | .hbm, ⟨20, _⟩ => ⟨S2x4096x5632, .f32⟩
  | .hbm, ⟨21, _⟩ => ⟨S2x4096x5632, .f32⟩
  | .hbm, ⟨22, _⟩ => ⟨S2x4096x5632, .f32⟩
  | .hbm, ⟨23, _⟩ => ⟨S2x4096x5632, .f32⟩
  | .hbm, ⟨24, _⟩ => ⟨S2x4096x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]
-- ==== KernelMoe.lean ====
abbrev S8192x2048 : Shape := ⟨2, ![8192, 2048]⟩
abbrev S8192x128 : Shape := ⟨2, ![8192, 128]⟩
abbrev S1x8x2048x2816 : Shape := ⟨4, ![1, 8, 2048, 2816]⟩
abbrev S1x8x2816x2048 : Shape := ⟨4, ![1, 8, 2816, 2048]⟩
abbrev S2x1x2048 : Shape := ⟨3, ![2, 1, 2048]⟩
abbrev S8x2048x2816 : Shape := ⟨3, ![8, 2048, 2816]⟩
abbrev S8x2816x2048 : Shape := ⟨3, ![8, 2816, 2048]⟩
abbrev S512x2048 : Shape := ⟨2, ![512, 2048]⟩
abbrev S512x128 : Shape := ⟨2, ![512, 128]⟩
abbrev S1x2048x256 : Shape := ⟨3, ![1, 2048, 256]⟩
abbrev S1x256x2048 : Shape := ⟨3, ![1, 256, 2048]⟩
abbrev S1x1x2048 : Shape := ⟨3, ![1, 1, 2048]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S256x2048 : Shape := ⟨2, ![256, 2048]⟩
abbrev S1x2048 : Shape := ⟨2, ![1, 2048]⟩

abbrev nBuf : Space → Nat
  | .hbm => 14
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x128, .f32⟩
  | .hbm, ⟨2, _⟩ => ⟨S1x8x2048x2816, .f32⟩
  | .hbm, ⟨3, _⟩ => ⟨S1x8x2048x2816, .f32⟩
  | .hbm, ⟨4, _⟩ => ⟨S1x8x2816x2048, .f32⟩
  | .hbm, ⟨5, _⟩ => ⟨S8192x2048, .f32⟩
  | .hbm, ⟨6, _⟩ => ⟨S2x1x2048, .f32⟩
  | .hbm, ⟨7, _⟩ => ⟨S8x2048x2816, .f32⟩
  | .hbm, ⟨8, _⟩ => ⟨S8x2048x2816, .bf16⟩
  | .hbm, ⟨9, _⟩ => ⟨S8x2048x2816, .f32⟩
  | .hbm, ⟨10, _⟩ => ⟨S8x2048x2816, .bf16⟩
  | .hbm, ⟨11, _⟩ => ⟨S8x2816x2048, .f32⟩
  | .hbm, ⟨12, _⟩ => ⟨S8x2816x2048, .bf16⟩
  | .hbm, ⟨13, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x128, .f32⟩
  | .local _ .vmem, ⟨3, _⟩ => ⟨S512x128, .f32⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x256x2048, .bf16⟩
  | .local _ .vmem, ⟨9, _⟩ => ⟨S1x256x2048, .bf16⟩
  | .local _ .vmem, ⟨10, _⟩ => ⟨S512x2048, .f32⟩
  | .local _ .vmem, ⟨11, _⟩ => ⟨S512x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 88], ![false, false]⟩

def k0_cond2 (i : grid0.Coords) : BitVec 1 :=
  let arg1 : BitVec 32 := BitVec.ofNat 32 (i 1).val
  let c87_i32 : BitVec 32 := 87#32
  let v55 : BitVec 1 := Scalar.cmpi .eq arg1 c87_i32
  let v56 : BitVec 32 := Scalar.extui v55
  let c0_i32_29 : BitVec 32 := 0#32
  let v57 : BitVec 1 := Scalar.cmpi .ne v56 c0_i32_29
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceMoeIdeal.lean ====
abbrev S8192x2048 : Shape := ⟨2, ![8192, 2048]⟩
abbrev S8192x128 : Shape := ⟨2, ![8192, 128]⟩
abbrev S1x8x2048x2816 : Shape := ⟨4, ![1, 8, 2048, 2816]⟩
abbrev S1x8x2816x2048 : Shape := ⟨4, ![1, 8, 2816, 2048]⟩
abbrev S2x1x2048 : Shape := ⟨3, ![2, 1, 2048]⟩
abbrev S8x2048x2816 : Shape := ⟨3, ![8, 2048, 2816]⟩
abbrev S8x2816x2048 : Shape := ⟨3, ![8, 2816, 2048]⟩
abbrev S_ : Shape := ⟨0, ![]⟩
abbrev S8192x1 : Shape := ⟨2, ![8192, 1]⟩
abbrev S1x2048x2816 : Shape := ⟨3, ![1, 2048, 2816]⟩
abbrev S2048x2816 : Shape := ⟨2, ![2048, 2816]⟩
abbrev S8192x2816 : Shape := ⟨2, ![8192, 2816]⟩
abbrev S1x2816x2048 : Shape := ⟨3, ![1, 2816, 2048]⟩
abbrev S2816x2048 : Shape := ⟨2, ![2816, 2048]⟩
abbrev S2x4096x2048 : Shape := ⟨3, ![2, 4096, 2048]⟩

abbrev nBuf : Space → Nat
  | .hbm => 203
  | .vmem => 0
  | .smem => 0
  | _ => 0

abbrev hbmTy0_0 (i : Nat) : BufTy := match i % 128 with
  | 0 => ⟨S8192x2048, .bf16⟩
  | 1 => ⟨S8192x128, .f32⟩
  | 2 => ⟨S1x8x2048x2816, .f32⟩
  | 3 => ⟨S1x8x2048x2816, .f32⟩
  | 4 => ⟨S1x8x2816x2048, .f32⟩
  | 5 => ⟨S8192x2048, .f32⟩
  | 6 => ⟨S2x1x2048, .f32⟩
  | 7 => ⟨S8192x2048, .f32⟩
  | 8 => ⟨S8x2048x2816, .f32⟩
  | 9 => ⟨S8x2048x2816, .f32⟩
  | 10 => ⟨S8x2816x2048, .f32⟩
  | 11 => ⟨S_, .f32⟩
  | 12 => ⟨S8192x2048, .f32⟩
  | 13 => ⟨S8192x1, .f32⟩
  | 14 => ⟨S1x2048x2816, .f32⟩
  | 15 => ⟨S2048x2816, .f32⟩
  | 16 => ⟨S8192x2816, .f32⟩
  | 17 => ⟨S8192x2816, .f32⟩
  | 18 => ⟨S8192x2816, .f32⟩
  | 19 => ⟨S_, .f32⟩
  | 20 => ⟨S8192x2816, .f32⟩
  | 21 => ⟨S8192x2816, .f32⟩
  | 22 => ⟨S_, .f32⟩
  | 23 => ⟨S8192x2816, .f32⟩
  | 24 => ⟨S8192x2816, .f32⟩
  | 25 => ⟨S8192x2816, .f32⟩
  | 26 => ⟨S1x2048x2816, .f32⟩
  | 27 => ⟨S2048x2816, .f32⟩
  | 28 => ⟨S8192x2816, .f32⟩
  | 29 => ⟨S8192x2816, .f32⟩
  | 30 => ⟨S1x2816x2048, .f32⟩
  | 31 => ⟨S2816x2048, .f32⟩
  | 32 => ⟨S8192x2048, .f32⟩
  | 33 => ⟨S8192x2048, .f32⟩
  | 34 => ⟨S8192x2048, .f32⟩
  | 35 => ⟨S8192x2048, .f32⟩
  | 36 => ⟨S8192x1, .f32⟩
  | 37 => ⟨S1x2048x2816, .f32⟩
  | 38 => ⟨S2048x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S8192x2816, .f32⟩
  | 49 => ⟨S1x2048x2816, .f32⟩
  | 50 => ⟨S2048x2816, .f32⟩
  | 51 => ⟨S8192x2816, .f32⟩
  | 52 => ⟨S8192x2816, .f32⟩
  | 53 => ⟨S1x2816x2048, .f32⟩
  | 54 => ⟨S2816x2048, .f32⟩
  | 55 => ⟨S8192x2048, .f32⟩
  | 56 => ⟨S8192x2048, .f32⟩
  | 57 => ⟨S8192x2048, .f32⟩
  | 58 => ⟨S8192x2048, .f32⟩
  | 59 => ⟨S8192x1, .f32⟩
  | 60 => ⟨S1x2048x2816, .f32⟩
  | 61 => ⟨S2048x2816, .f32⟩
  | 62 => ⟨S8192x2816, .f32⟩
  | 63 => ⟨S8192x2816, .f32⟩
  | 64 => ⟨S8192x2816, .f32⟩
  | 65 => ⟨S_, .f32⟩
  | 66 => ⟨S8192x2816, .f32⟩
  | 67 => ⟨S8192x2816, .f32⟩
  | 68 => ⟨S_, .f32⟩
  | 69 => ⟨S8192x2816, .f32⟩
  | 70 => ⟨S8192x2816, .f32⟩
  | 71 => ⟨S8192x2816, .f32⟩
  | 72 => ⟨S1x2048x2816, .f32⟩
  | 73 => ⟨S2048x2816, .f32⟩
  | 74 => ⟨S8192x2816, .f32⟩
  | 75 => ⟨S8192x2816, .f32⟩
  | 76 => ⟨S1x2816x2048, .f32⟩
  | 77 => ⟨S2816x2048, .f32⟩
  | 78 => ⟨S8192x2048, .f32⟩
  | 79 => ⟨S8192x2048, .f32⟩
  | 80 => ⟨S8192x2048, .f32⟩
  | 81 => ⟨S8192x2048, .f32⟩
  | 82 => ⟨S8192x1, .f32⟩
  | 83 => ⟨S1x2048x2816, .f32⟩
  | 84 => ⟨S2048x2816, .f32⟩
  | 85 => ⟨S8192x2816, .f32⟩
  | 86 => ⟨S8192x2816, .f32⟩
  | 87 => ⟨S8192x2816, .f32⟩
  | 88 => ⟨S_, .f32⟩
  | 89 => ⟨S8192x2816, .f32⟩
  | 90 => ⟨S8192x2816, .f32⟩
  | 91 => ⟨S_, .f32⟩
  | 92 => ⟨S8192x2816, .f32⟩
  | 93 => ⟨S8192x2816, .f32⟩
  | 94 => ⟨S8192x2816, .f32⟩
  | 95 => ⟨S1x2048x2816, .f32⟩
  | 96 => ⟨S2048x2816, .f32⟩
  | 97 => ⟨S8192x2816, .f32⟩
  | 98 => ⟨S8192x2816, .f32⟩
  | 99 => ⟨S1x2816x2048, .f32⟩
  | 100 => ⟨S2816x2048, .f32⟩
  | 101 => ⟨S8192x2048, .f32⟩
  | 102 => ⟨S8192x2048, .f32⟩
  | 103 => ⟨S8192x2048, .f32⟩
  | 104 => ⟨S8192x2048, .f32⟩
  | 105 => ⟨S8192x1, .f32⟩
  | 106 => ⟨S1x2048x2816, .f32⟩
  | 107 => ⟨S2048x2816, .f32⟩
  | 108 => ⟨S8192x2816, .f32⟩
  | 109 => ⟨S8192x2816, .f32⟩
  | 110 => ⟨S8192x2816, .f32⟩
  | 111 => ⟨S_, .f32⟩
  | 112 => ⟨S8192x2816, .f32⟩
  | 113 => ⟨S8192x2816, .f32⟩
  | 114 => ⟨S_, .f32⟩
  | 115 => ⟨S8192x2816, .f32⟩
  | 116 => ⟨S8192x2816, .f32⟩
  | 117 => ⟨S8192x2816, .f32⟩
  | 118 => ⟨S1x2048x2816, .f32⟩
  | 119 => ⟨S2048x2816, .f32⟩
  | 120 => ⟨S8192x2816, .f32⟩
  | 121 => ⟨S8192x2816, .f32⟩
  | 122 => ⟨S1x2816x2048, .f32⟩
  | 123 => ⟨S2816x2048, .f32⟩
  | 124 => ⟨S8192x2048, .f32⟩
  | 125 => ⟨S8192x2048, .f32⟩
  | 126 => ⟨S8192x2048, .f32⟩
  | 127 => ⟨S8192x2048, .f32⟩
  | _ => ⟨S8192x2048, .bf16⟩

abbrev hbmTy0_1 (i : Nat) : BufTy := match i % 128 with
  | 0 => ⟨S8192x1, .f32⟩
  | 1 => ⟨S1x2048x2816, .f32⟩
  | 2 => ⟨S2048x2816, .f32⟩
  | 3 => ⟨S8192x2816, .f32⟩
  | 4 => ⟨S8192x2816, .f32⟩
  | 5 => ⟨S8192x2816, .f32⟩
  | 6 => ⟨S_, .f32⟩
  | 7 => ⟨S8192x2816, .f32⟩
  | 8 => ⟨S8192x2816, .f32⟩
  | 9 => ⟨S_, .f32⟩
  | 10 => ⟨S8192x2816, .f32⟩
  | 11 => ⟨S8192x2816, .f32⟩
  | 12 => ⟨S8192x2816, .f32⟩
  | 13 => ⟨S1x2048x2816, .f32⟩
  | 14 => ⟨S2048x2816, .f32⟩
  | 15 => ⟨S8192x2816, .f32⟩
  | 16 => ⟨S8192x2816, .f32⟩
  | 17 => ⟨S1x2816x2048, .f32⟩
  | 18 => ⟨S2816x2048, .f32⟩
  | 19 => ⟨S8192x2048, .f32⟩
  | 20 => ⟨S8192x2048, .f32⟩
  | 21 => ⟨S8192x2048, .f32⟩
  | 22 => ⟨S8192x2048, .f32⟩
  | 23 => ⟨S8192x1, .f32⟩
  | 24 => ⟨S1x2048x2816, .f32⟩
  | 25 => ⟨S2048x2816, .f32⟩
  | 26 => ⟨S8192x2816, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S_, .f32⟩
  | 33 => ⟨S8192x2816, .f32⟩
  | 34 => ⟨S8192x2816, .f32⟩
  | 35 => ⟨S8192x2816, .f32⟩
  | 36 => ⟨S1x2048x2816, .f32⟩
  | 37 => ⟨S2048x2816, .f32⟩
  | 38 => ⟨S8192x2816, .f32⟩
  | 39 => ⟨S8192x2816, .f32⟩
  | 40 => ⟨S1x2816x2048, .f32⟩
  | 41 => ⟨S2816x2048, .f32⟩
  | 42 => ⟨S8192x2048, .f32⟩
  | 43 => ⟨S8192x2048, .f32⟩
  | 44 => ⟨S8192x2048, .f32⟩
  | 45 => ⟨S8192x2048, .f32⟩
  | 46 => ⟨S8192x1, .f32⟩
  | 47 => ⟨S1x2048x2816, .f32⟩
  | 48 => ⟨S2048x2816, .f32⟩
  | 49 => ⟨S8192x2816, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S_, .f32⟩
  | 56 => ⟨S8192x2816, .f32⟩
  | 57 => ⟨S8192x2816, .f32⟩
  | 58 => ⟨S8192x2816, .f32⟩
  | 59 => ⟨S1x2048x2816, .f32⟩
  | 60 => ⟨S2048x2816, .f32⟩
  | 61 => ⟨S8192x2816, .f32⟩
  | 62 => ⟨S8192x2816, .f32⟩
  | 63 => ⟨S1x2816x2048, .f32⟩
  | 64 => ⟨S2816x2048, .f32⟩
  | 65 => ⟨S8192x2048, .f32⟩
  | 66 => ⟨S8192x2048, .f32⟩
  | 67 => ⟨S8192x2048, .f32⟩
  | 68 => ⟨S8192x2048, .f32⟩
  | 69 => ⟨S2x4096x2048, .f32⟩
  | 70 => ⟨S2x4096x2048, .f32⟩
  | 71 => ⟨S2x4096x2048, .f32⟩
  | 72 => ⟨S2x4096x2048, .f32⟩
  | 73 => ⟨S2x4096x2048, .f32⟩
  | 74 => ⟨S8192x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_call5_v0 : Ref sig .tc := ⟨.hbm, 132, rfl⟩
abbrev main_call5_v1 : Ref sig .tc := ⟨.hbm, 133, rfl⟩
abbrev main_call5_cst : Ref sig .tc := ⟨.hbm, 134, rfl⟩
abbrev main_call5_v2 : Ref sig .tc := ⟨.hbm, 135, rfl⟩
abbrev main_call5_v3 : Ref sig .tc := ⟨.hbm, 136, rfl⟩
abbrev main_call5_cst_0 : Ref sig .tc := ⟨.hbm, 137, rfl⟩
abbrev main_call5_v4 : Ref sig .tc := ⟨.hbm, 138, rfl⟩
abbrev main_call5_v5 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_call6_v0 : Ref sig .tc := ⟨.hbm, 155, rfl⟩
abbrev main_call6_v1 : Ref sig .tc := ⟨.hbm, 156, rfl⟩
abbrev main_call6_cst : Ref sig .tc := ⟨.hbm, 157, rfl⟩
abbrev main_call6_v2 : Ref sig .tc := ⟨.hbm, 158, rfl⟩
abbrev main_call6_v3 : Ref sig .tc := ⟨.hbm, 159, rfl⟩
abbrev main_call6_cst_0 : Ref sig .tc := ⟨.hbm, 160, rfl⟩
abbrev main_call6_v4 : Ref sig .tc := ⟨.hbm, 161, rfl⟩
abbrev main_call6_v5 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_call7_v0 : Ref sig .tc := ⟨.hbm, 178, rfl⟩
abbrev main_call7_v1 : Ref sig .tc := ⟨.hbm, 179, rfl⟩
abbrev main_call7_cst : Ref sig .tc := ⟨.hbm, 180, rfl⟩
abbrev main_call7_v2 : Ref sig .tc := ⟨.hbm, 181, rfl⟩
abbrev main_call7_v3 : Ref sig .tc := ⟨.hbm, 182, rfl⟩
abbrev main_call7_cst_0 : Ref sig .tc := ⟨.hbm, 183, rfl⟩
abbrev main_call7_v4 : Ref sig .tc := ⟨.hbm, 184, rfl⟩
abbrev main_call7_v5 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩

abbrev nD : Nat := 1
abbrev τ : Topo := Topo.v7x

variable {F : FTy → Type} [FloatOps F]
-- ==== KernelIn.lean ====
abbrev S8192x2048 : Shape := ⟨2, ![8192, 2048]⟩
abbrev S2048 : Shape := ⟨1, ![2048]⟩
abbrev S2x1x2048 : Shape := ⟨3, ![2, 1, 2048]⟩
abbrev S2048x5894 : Shape := ⟨2, ![2048, 5894]⟩
abbrev S1x2048 : Shape := ⟨2, ![1, 2048]⟩
abbrev S2048x2304 : Shape := ⟨2, ![2048, 2304]⟩
abbrev S2048x1024 : Shape := ⟨2, ![2048, 1024]⟩
abbrev S2048x256 : Shape := ⟨2, ![2048, 256]⟩
abbrev S2048x6 : Shape := ⟨2, ![2048, 6]⟩
abbrev S_ : Shape := ⟨0, ![]⟩
abbrev S2048x250 : Shape := ⟨2, ![2048, 250]⟩
abbrev S2048x6144 : Shape := ⟨2, ![2048, 6144]⟩
abbrev S8192x6144 : Shape := ⟨2, ![8192, 6144]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 16
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x5894, .f32⟩
  | .hbm, ⟨5, _⟩ => ⟨S1x2048, .f32⟩
  | .hbm, ⟨6, _⟩ => ⟨S2048x5894, .bf16⟩
  | .hbm, ⟨7, _⟩ => ⟨S2048x2304, .bf16⟩
  | .hbm, ⟨8, _⟩ => ⟨S2048x2304, .bf16⟩
  | .hbm, ⟨9, _⟩ => ⟨S2048x1024, .bf16⟩
  | .hbm, ⟨10, _⟩ => ⟨S2048x256, .bf16⟩
  | .hbm, ⟨11, _⟩ => ⟨S2048x6, .bf16⟩
  | .hbm, ⟨12, _⟩ => ⟨S_, .bf16⟩
  | .hbm, ⟨13, _⟩ => ⟨S2048x250, .bf16⟩
  | .hbm, ⟨14, _⟩ => ⟨S2048x6144, .bf16⟩
  | .hbm, ⟨15, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceInIdeal.lean ====
abbrev S8192x2048 : Shape := ⟨2, ![8192, 2048]⟩
abbrev S2048 : Shape := ⟨1, ![2048]⟩
abbrev S2x1x2048 : Shape := ⟨3, ![2, 1, 2048]⟩
abbrev S2048x5894 : Shape := ⟨2, ![2048, 5894]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x5894 : Shape := ⟨3, ![2, 4096, 5894]⟩
abbrev S8192x5894 : Shape := ⟨2, ![8192, 5894]⟩
abbrev S8192x2304 : Shape := ⟨2, ![8192, 2304]⟩
abbrev S8192x1024 : Shape := ⟨2, ![8192, 1024]⟩
abbrev S8192x256 : Shape := ⟨2, ![8192, 256]⟩
abbrev S8192x6 : Shape := ⟨2, ![8192, 6]⟩
abbrev S8192x250 : Shape := ⟨2, ![8192, 250]⟩
abbrev S8192x6144 : Shape := ⟨2, ![8192, 6144]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x5894, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2x4096x5894, .f32⟩
  | .hbm, ⟨30, _⟩ => ⟨S8192x5894, .f32⟩
  | .hbm, ⟨31, _⟩ => ⟨S8192x2304, .f32⟩
  | .hbm, ⟨32, _⟩ => ⟨S8192x2304, .f32⟩
  | .hbm, ⟨33, _⟩ => ⟨S8192x1024, .f32⟩
  | .hbm, ⟨34, _⟩ => ⟨S8192x256, .f32⟩
  | .hbm, ⟨35, _⟩ => ⟨S8192x6, .f32⟩
  | .hbm, ⟨36, _⟩ => ⟨S_, .f32⟩
  | .hbm, ⟨37, _⟩ => ⟨S8192x250, .f32⟩
  | .hbm, ⟨38, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== KernelOut.lean ====
abbrev S8192x768 : Shape := ⟨2, ![8192, 768]⟩
abbrev S8192x512 : Shape := ⟨2, ![8192, 512]⟩
abbrev S2048x2048 : Shape := ⟨2, ![2048, 2048]⟩
abbrev S8192x2048 : Shape := ⟨2, ![8192, 2048]⟩
abbrev S2x1x2048 : Shape := ⟨3, ![2, 1, 2048]⟩
abbrev S2048 : Shape := ⟨1, ![2048]⟩
abbrev S1x2048 : Shape := ⟨2, ![1, 2048]⟩
abbrev S512x768 : Shape := ⟨2, ![512, 768]⟩
abbrev S512x512 : Shape := ⟨2, ![512, 512]⟩
abbrev S512x2048 : Shape := ⟨2, ![512, 2048]⟩
abbrev S1x1x2048 : Shape := ⟨3, ![1, 1, 2048]⟩
abbrev S768x2048 : Shape := ⟨2, ![768, 2048]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S2x1x2048, .f32⟩
  | .hbm, ⟨6, _⟩ => ⟨S2048, .f32⟩
  | .hbm, ⟨7, _⟩ => ⟨S2x1x2048, .f32⟩
  | .hbm, ⟨8, _⟩ => ⟨S2x1x2048, .f32⟩
  | .hbm, ⟨9, _⟩ => ⟨S2048x2048, .bf16⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S512x512, .bf16⟩
  | .local _ .vmem, ⟨5, _⟩ => ⟨S512x512, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceOutIdeal.lean ====
abbrev S8192x768 : Shape := ⟨2, ![8192, 768]⟩
abbrev S8192x512 : Shape := ⟨2, ![8192, 512]⟩
abbrev S2048x2048 : Shape := ⟨2, ![2048, 2048]⟩
abbrev S8192x2048 : Shape := ⟨2, ![8192, 2048]⟩
abbrev S2x1x2048 : Shape := ⟨3, ![2, 1, 2048]⟩
abbrev S2048 : Shape := ⟨1, ![2048]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x768, .bf16⟩
  | .hbm, ⟨2, _⟩ => ⟨S8192x512, .bf16⟩
  | .hbm, ⟨3, _⟩ => ⟨S2048x2048, .f32⟩
  | .hbm, ⟨4, _⟩ => ⟨S8192x2048, .f32⟩
  | .hbm, ⟨5, _⟩ => ⟨S2x1x2048, .f32⟩
  | .hbm, ⟨6, _⟩ => ⟨S2048, .f32⟩
  | .hbm, ⟨7, _⟩ => ⟨S2x1x2048, .f32⟩
  | .hbm, ⟨8, _⟩ => ⟨S2x1x2048, .f32⟩
  | .hbm, ⟨9, _⟩ => ⟨S8192x2048, .bf16⟩
  | .hbm, ⟨10, _⟩ => ⟨S8192x2048, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S_, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S2x4096x2048, .f32⟩
  | .hbm, ⟨29, _⟩ => ⟨S2x4096x2048, .f32⟩
  | .hbm, ⟨30, _⟩ => ⟨S1x1x2048, .f32⟩
  | .hbm, ⟨31, _⟩ => ⟨S2x4096x2048, .f32⟩
  | .hbm, ⟨32, _⟩ => ⟨S2x4096x2048, .f32⟩
  | .hbm, ⟨33, _⟩ => ⟨S_, .f32⟩
  | .hbm, ⟨34, _⟩ => ⟨S2x1x2048, .f32⟩
  | .hbm, ⟨35, _⟩ => ⟨S2x1x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S8192x2048, .f32⟩
  | .hbm, ⟨41, _⟩ => ⟨S8192x2048, .f32⟩
  | .hbm, ⟨42, _⟩ => ⟨S8192x2048, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== KernelSgu.lean ====
abbrev S8192x6144 : Shape := ⟨2, ![8192, 6144]⟩
abbrev S4x128 : Shape := ⟨2, ![4, 128]⟩
abbrev S4x128x128 : Shape := ⟨3, ![4, 128, 128]⟩
abbrev S128x4 : Shape := ⟨2, ![128, 4]⟩
abbrev S8192x512 : Shape := ⟨2, ![8192, 512]⟩
abbrev S512x512 : Shape := ⟨2, ![512, 512]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x128x128 : Shape := ⟨3, ![1, 128, 128]⟩
abbrev S128x1 : Shape := ⟨2, ![128, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x6144, .f32⟩
  | .hbm, ⟨1, _⟩ => ⟨S4x128, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x128, .f32⟩
  | .local _ .vmem, ⟨5, _⟩ => ⟨S4x128, .f32⟩
  | .local _ .vmem, ⟨6, _⟩ => ⟨S4x128x128, .f32⟩
  | .local _ .vmem, ⟨7, _⟩ => ⟨S128x4, .f32⟩
  | .local _ .vmem, ⟨8, _⟩ => ⟨S512x512, .bf16⟩
  | .local _ .vmem, ⟨9, _⟩ => ⟨S512x512, .bf16⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceSguIdeal.lean ====
abbrev S8192x6144 : Shape := ⟨2, ![8192, 6144]⟩
abbrev S4x128 : Shape := ⟨2, ![4, 128]⟩
abbrev S4x128x128 : Shape := ⟨3, ![4, 128, 128]⟩
abbrev S2x4096x6144 : Shape := ⟨3, ![2, 4096, 6144]⟩
abbrev S2x4096x512 : Shape := ⟨3, ![2, 4096, 512]⟩
abbrev S_ : Shape := ⟨0, ![]⟩
abbrev S2x4096x4x128 : Shape := ⟨4, ![2, 4096, 4, 128]⟩
abbrev S2x4096x4 : Shape := ⟨3, ![2, 4096, 4]⟩
abbrev S2x4096x4x1 : Shape := ⟨4, ![2, 4096, 4, 1]⟩
abbrev S1x1x4x128 : Shape := ⟨4, ![1, 1, 4, 128]⟩
abbrev S2x32x128x4x128 : Shape := ⟨5, ![2, 32, 128, 4, 128]⟩
abbrev S128x128 : Shape := ⟨2, ![128, 128]⟩
abbrev S1x128x128 : Shape := ⟨3, ![1, 128, 128]⟩
abbrev S4x2x32x128x128 : Shape := ⟨5, ![4, 2, 32, 128, 128]⟩
abbrev S128x4 : Shape := ⟨2, ![128, 4]⟩
abbrev S1x1x128x4x1 : Shape := ⟨5, ![1, 1, 128, 4, 1]⟩
abbrev S8192x512 : Shape := ⟨2, ![8192, 512]⟩

abbrev nBuf : Space → Nat
  | .hbm => 99
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S4x128, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S2x4096x6144, .f32⟩
  | .hbm, ⟨6, _⟩ => ⟨S2x4096x512, .f32⟩
  | .hbm, ⟨7, _⟩ => ⟨S2x4096x512, .f32⟩
  | .hbm, ⟨8, _⟩ => ⟨S2x4096x512, .f32⟩
  | .hbm, ⟨9, _⟩ => ⟨S_, .f32⟩
  | .hbm, ⟨10, _⟩ => ⟨S2x4096x512, .f32⟩
  | .hbm, ⟨11, _⟩ => ⟨S2x4096x512, .f32⟩
  | .hbm, ⟨12, _⟩ => ⟨S2x4096x512, .f32⟩
  | .hbm, ⟨13, _⟩ => ⟨S_, .f32⟩
  | .hbm, ⟨14, _⟩ => ⟨S2x4096x512, .f32⟩
  | .hbm, ⟨15, _⟩ => ⟨S2x4096x512, .f32⟩
  | .hbm, ⟨16, _⟩ => ⟨S2x4096x512, .f32⟩
  | .hbm, ⟨17, _⟩ => ⟨S_, .f32⟩
  | .hbm, ⟨18, _⟩ => ⟨S2x4096x512, .f32⟩
  | .hbm, ⟨19, _⟩ => ⟨S2x4096x512, .f32⟩
  | .hbm, ⟨20, _⟩ => ⟨S_, .f32⟩
  | .hbm, ⟨21, _⟩ => ⟨S2x4096x512, .f32⟩
  | .hbm, ⟨22, _⟩ => ⟨S2x4096x512, .f32⟩
  | .hbm, ⟨23, _⟩ => ⟨S2x4096x512, .f32⟩
  | .hbm, ⟨24, _⟩ => ⟨S2x4096x4x128, .f32⟩
  | .hbm, ⟨25, _⟩ => ⟨S2x4096x512, .f32⟩
  | .hbm, ⟨26, _⟩ => ⟨S2x4096x512, .f32⟩
  | .hbm, ⟨27, _⟩ => ⟨S2x4096x512, .f32⟩
  | .hbm, ⟨28, _⟩ => ⟨S_, .f32⟩
  | .hbm, ⟨29, _⟩ => ⟨S2x4096x512, .f32⟩
  | .hbm, ⟨30, _⟩ => ⟨S2x4096x512, .f32⟩
  | .hbm, ⟨31, _⟩ => ⟨S2x4096x512, .f32⟩
  | .hbm, ⟨32, _⟩ => ⟨S_, .f32⟩
  | .hbm, ⟨33, _⟩ => ⟨S2x4096x512, .f32⟩
  | .hbm, ⟨34, _⟩ => ⟨S2x4096x512, .f32⟩
  | .hbm, ⟨35, _⟩ => ⟨S2x4096x512, .f32⟩
  | .hbm, ⟨36, _⟩ => ⟨S_, .f32⟩
  | .hbm, ⟨37, _⟩ => ⟨S2x4096x512, .f32⟩
  | .hbm, ⟨38, _⟩ => ⟨S2x4096x512, .f32⟩
  | .hbm, ⟨39, _⟩ => ⟨S_, .f32⟩
  | .hbm, ⟨40, _⟩ => ⟨S2x4096x512, .f32⟩
  | .hbm, ⟨41, _⟩ => ⟨S2x4096x512, .f32⟩
  | .hbm, ⟨42, _⟩ => ⟨S2x4096x512, .f32⟩
  | .hbm, ⟨43, _⟩ => ⟨S2x4096x4x128, .f32⟩
  | .hbm, ⟨44, _⟩ => ⟨S_, .f32⟩
  | .hbm, ⟨45, _⟩ => ⟨S2x4096x4, .f32⟩
  | .hbm, ⟨46, _⟩ => ⟨S2x4096x4x1, .f32⟩
  | .hbm, ⟨47, _⟩ => ⟨S_, .f32⟩
  | .hbm, ⟨48, _⟩ => ⟨S2x4096x4x1, .f32⟩
  | .hbm, ⟨49, _⟩ => ⟨S2x4096x4x1, .f32⟩
  | .hbm, ⟨50, _⟩ => ⟨S2x4096x4x128, .f32⟩
  | .hbm, ⟨51, _⟩ => ⟨S2x4096x4x128, .f32⟩
  | .hbm, ⟨52, _⟩ => ⟨S2x4096x4x128, .f32⟩
  | .hbm, ⟨53, _⟩ => ⟨S_, .f32⟩
  | .hbm, ⟨54, _⟩ => ⟨S2x4096x4, .f32⟩
  | .hbm, ⟨55, _⟩ => ⟨S2x4096x4x1, .f32⟩
  | .hbm, ⟨56, _⟩ => ⟨S_, .f32⟩
  | .hbm, ⟨57, _⟩ => ⟨S2x4096x4x1, .f32⟩
  | .hbm, ⟨58, _⟩ => ⟨S2x4096x4x1, .f32⟩
  | .hbm, ⟨59, _⟩ => ⟨S2x4096x4x128, .f32⟩
  | .hbm, ⟨60, _⟩ => ⟨S2x4096x4x128, .f32⟩
  | .hbm, ⟨61, _⟩ => ⟨S_, .f32⟩
  | .hbm, ⟨62, _⟩ => ⟨S2x4096x4x1, .f32⟩
  | .hbm, ⟨63, _⟩ => ⟨S2x4096x4x1, .f32⟩
  | .hbm, ⟨64, _⟩ => ⟨S2x4096x4x1, .f32⟩
  | .hbm, ⟨65, _⟩ => ⟨S2x4096x4x128, .f32⟩
  | .hbm, ⟨66, _⟩ => ⟨S2x4096x4x128, .f32⟩
  | .hbm, ⟨67, _⟩ => ⟨S1x1x4x128, .f32⟩
  | .hbm, ⟨68, _⟩ => ⟨S2x4096x4x128, .f32⟩
  | .hbm, ⟨69, _⟩ => ⟨S2x4096x4x128, .f32⟩
  | .hbm, ⟨70, _⟩ => ⟨S1x1x4x128, .f32⟩
  | .hbm, ⟨71, _⟩ => ⟨S2x4096x4x128, .f32⟩
  | .hbm, ⟨72, _⟩ => ⟨S2x4096x4x128, .f32⟩
  | .hbm, ⟨73, _⟩ => ⟨S2x32x128x4x128, .f32⟩
  | .hbm, ⟨74, _⟩ => ⟨S_, .i1⟩
  | .hbm, ⟨75, _⟩ => ⟨S128x128, .i1⟩
  | .hbm, ⟨76, _⟩ => ⟨S128x128, .i32⟩
  | .hbm, ⟨77, _⟩ => ⟨S_, .i32⟩
  | .hbm, ⟨78, _⟩ => ⟨S128x128, .i32⟩
  | .hbm, ⟨79, _⟩ => ⟨S128x128, .i32⟩
  | .hbm, ⟨80, _⟩ => ⟨S128x128, .i32⟩
  | .hbm, ⟨81, _⟩ => ⟨S128x128, .i1⟩
  | .hbm, ⟨82, _⟩ => ⟨S_, .i1⟩
  | .hbm, ⟨83, _⟩ => ⟨S128x128, .i1⟩
  | .hbm, ⟨84, _⟩ => ⟨S128x128, .i1⟩
  | .hbm, ⟨85, _⟩ => ⟨S128x128, .f32⟩
  | .hbm, ⟨86, _⟩ => ⟨S1x128x128, .f32⟩
  | .hbm, ⟨87, _⟩ => ⟨S4x128x128, .f32⟩
  | .hbm, ⟨88, _⟩ => ⟨S4x128x128, .f32⟩
  | .hbm, ⟨89, _⟩ => ⟨S4x2x32x128x128, .f32⟩
  | .hbm, ⟨90, _⟩ => ⟨S2x32x128x4x128, .f32⟩
  | .hbm, ⟨91, _⟩ => ⟨S128x4, .f32⟩
  | .hbm, ⟨92, _⟩ => ⟨S1x1x128x4x1, .f32⟩
  | .hbm, ⟨93, _⟩ => ⟨S2x32x128x4x128, .f32⟩
  | .hbm, ⟨94, _⟩ => ⟨S2x32x128x4x128, .f32⟩
  | .hbm, ⟨95, _⟩ => ⟨S2x4096x4x128, .f32⟩
  | .hbm, ⟨96, _⟩ => ⟨S2x4096x4x128, .f32⟩
  | .hbm, ⟨97, _⟩ => ⟨S8192x512, .f32⟩
  | .hbm, ⟨98, _⟩ => ⟨S8192x512, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_v56 : Ref sig .tc := ⟨.hbm, 75, rfl⟩
abbrev main_call0_v0 : Ref sig .tc := ⟨.hbm, 76, rfl⟩
abbrev main_call0_c : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_c_0 : Ref sig .tc := ⟨.hbm, 82, rfl⟩
abbrev main_call0_v5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩

abbrev nD : Nat := 1
abbrev τ : Topo := Topo.v7x

variable {F : FTy → Type} [FloatOps F]
-- ==== KernelFoxPrep.lean ====
abbrev S8192x6144 : Shape := ⟨2, ![8192, 6144]⟩
abbrev S128 : Shape := ⟨1, ![128]⟩
abbrev S6 : Shape := ⟨1, ![6]⟩
abbrev S1x6 : Shape := ⟨2, ![1, 6]⟩
abbrev S_ : Shape := ⟨0, ![]⟩
abbrev S1x122 : Shape := ⟨2, ![1, 122]⟩
abbrev S1x128 : Shape := ⟨2, ![1, 128]⟩
abbrev S8192x768 : Shape := ⟨2, ![8192, 768]⟩
abbrev S8192x128 : Shape := ⟨2, ![8192, 128]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 14
  | .vmem => 20
  | .smem => 0
  | _ => 0

abbrev bufTy : (tb : Table) → Fin (tcTables nBuf tb) → BufTy
  | .hbm, ⟨0, _⟩ => ⟨S8192x6144, .f32⟩
  | .hbm, ⟨1, _⟩ => ⟨S128, .f32⟩
  | .hbm, ⟨2, _⟩ => ⟨S128, .f32⟩
  | .hbm, ⟨3, _⟩ => ⟨S6, .f32⟩
  | .hbm, ⟨4, _⟩ => ⟨S1x6, .f32⟩
  | .hbm, ⟨5, _⟩ => ⟨S_, .f32⟩
  | .hbm, ⟨6, _⟩ => ⟨S1x122, .f32⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S8192x768, .bf16⟩
  | .hbm, ⟨11, _⟩ => ⟨S8192x768, .bf16⟩
  | .hbm, ⟨12, _⟩ => ⟨S8192x768, .bf16⟩
  | .hbm, ⟨13, _⟩ => ⟨S8192x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S256x768, .bf16⟩
  | .local _ .vmem, ⟨12, _⟩ => ⟨S256x768, .bf16⟩
  | .local _ .vmem, ⟨13, _⟩ => ⟨S256x768, .bf16⟩
  | .local _ .vmem, ⟨14, _⟩ => ⟨S256x768, .bf16⟩
  | .local _ .vmem, ⟨15, _⟩ => ⟨S256x768, .bf16⟩
  | .local _ .vmem, ⟨16, _⟩ => ⟨S256x768, .bf16⟩
  | .local _ .vmem, ⟨17, _⟩ => ⟨S256x128, .f32⟩
  | .local _ .vmem, ⟨18, _⟩ => ⟨S256x128, .f32⟩
  | .local _ .vmem, ⟨19, _⟩ => ⟨S1x128, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c46_i32 : BitVec 32 := 46#32
  let c0_i32 : BitVec 32 := 0#32
  ![arg0.toNat, c46_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceFoxPrepIdeal.lean ====
abbrev S8192x6144 : Shape := ⟨2, ![8192, 6144]⟩
abbrev S128 : Shape := ⟨1, ![128]⟩
abbrev S6 : Shape := ⟨1, ![6]⟩
abbrev S8192x768 : Shape := ⟨2, ![8192, 768]⟩
abbrev S8192x6x128 : Shape := ⟨3, ![8192, 6, 128]⟩
abbrev S_ : Shape := ⟨0, ![]⟩
abbrev S8192x6 : Shape := ⟨2, ![8192, 6]⟩
abbrev S8192x6x1 : Shape := ⟨3, ![8192, 6, 1]⟩
abbrev S1x1x128 : Shape := ⟨3, ![1, 1, 128]⟩
abbrev S122 : Shape := ⟨1, ![122]⟩
abbrev S8192x128 : Shape := ⟨2, ![8192, 128]⟩
abbrev S1x128 : Shape := ⟨2, ![1, 128]⟩
abbrev S2x4096x128 : Shape := ⟨3, ![2, 4096, 128]⟩
abbrev S4096x4096 : Shape := ⟨2, ![4096, 4096]⟩
abbrev S2x128x4096 : Shape := ⟨3, ![2, 128, 4096]⟩

abbrev nBuf : Space → Nat
  | .hbm => 87
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S128, .f32⟩
  | .hbm, ⟨2, _⟩ => ⟨S128, .f32⟩
  | .hbm, ⟨3, _⟩ => ⟨S6, .f32⟩
  | .hbm, ⟨4, _⟩ => ⟨S8192x768, .f32⟩
  | .hbm, ⟨5, _⟩ => ⟨S8192x6x128, .f32⟩
  | .hbm, ⟨6, _⟩ => ⟨S8192x6x128, .f32⟩
  | .hbm, ⟨7, _⟩ => ⟨S_, .f32⟩
  | .hbm, ⟨8, _⟩ => ⟨S8192x6, .f32⟩
  | .hbm, ⟨9, _⟩ => ⟨S8192x6x1, .f32⟩
  | .hbm, ⟨10, _⟩ => ⟨S_, .f32⟩
  | .hbm, ⟨11, _⟩ => ⟨S8192x6x1, .f32⟩
  | .hbm, ⟨12, _⟩ => ⟨S8192x6x1, .f32⟩
  | .hbm, ⟨13, _⟩ => ⟨S_, .f32⟩
  | .hbm, ⟨14, _⟩ => ⟨S8192x6x1, .f32⟩
  | .hbm, ⟨15, _⟩ => ⟨S8192x6x1, .f32⟩
  | .hbm, ⟨16, _⟩ => ⟨S8192x6x1, .f32⟩
  | .hbm, ⟨17, _⟩ => ⟨S8192x6x128, .f32⟩
  | .hbm, ⟨18, _⟩ => ⟨S8192x6x128, .f32⟩
  | .hbm, ⟨19, _⟩ => ⟨S1x1x128, .f32⟩
  | .hbm, ⟨20, _⟩ => ⟨S8192x6x128, .f32⟩
  | .hbm, ⟨21, _⟩ => ⟨S8192x6x128, .f32⟩
  | .hbm, ⟨22, _⟩ => ⟨S_, .f32⟩
  | .hbm, ⟨23, _⟩ => ⟨S8192x6x128, .f32⟩
  | .hbm, ⟨24, _⟩ => ⟨S8192x6x128, .f32⟩
  | .hbm, ⟨25, _⟩ => ⟨S8192x768, .f32⟩
  | .hbm, ⟨26, _⟩ => ⟨S8192x6x128, .f32⟩
  | .hbm, ⟨27, _⟩ => ⟨S8192x6x128, .f32⟩
  | .hbm, ⟨28, _⟩ => ⟨S_, .f32⟩
  | .hbm, ⟨29, _⟩ => ⟨S8192x6, .f32⟩
  | .hbm, ⟨30, _⟩ => ⟨S8192x6x1, .f32⟩
  | .hbm, ⟨31, _⟩ => ⟨S_, .f32⟩
  | .hbm, ⟨32, _⟩ => ⟨S8192x6x1, .f32⟩
  | .hbm, ⟨33, _⟩ => ⟨S8192x6x1, .f32⟩
  | .hbm, ⟨34, _⟩ => ⟨S_, .f32⟩
  | .hbm, ⟨35, _⟩ => ⟨S8192x6x1, .f32⟩
  | .hbm, ⟨36, _⟩ => ⟨S8192x6x1, .f32⟩
  | .hbm, ⟨37, _⟩ => ⟨S8192x6x1, .f32⟩
  | .hbm, ⟨38, _⟩ => ⟨S8192x6x128, .f32⟩
  | .hbm, ⟨39, _⟩ => ⟨S8192x6x128, .f32⟩
  | .hbm, ⟨40, _⟩ => ⟨S1x1x128, .f32⟩
  | .hbm, ⟨41, _⟩ => ⟨S8192x6x128, .f32⟩
  | .hbm, ⟨42, _⟩ => ⟨S8192x6x128, .f32⟩
  | .hbm, ⟨43, _⟩ => ⟨S8192x768, .f32⟩
  | .hbm, ⟨44, _⟩ => ⟨S_, .f32⟩
  | .hbm, ⟨45, _⟩ => ⟨S122, .f32⟩
  | .hbm, ⟨46, _⟩ => ⟨S128, .f32⟩
  | .hbm, ⟨47, _⟩ => ⟨S8192x128, .f32⟩
  | .hbm, ⟨48, _⟩ => ⟨S1x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .i1⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S8192x128, .f32⟩
  | .hbm, ⟨67, _⟩ => ⟨S2x4096x128, .f32⟩
  | .hbm, ⟨68, _⟩ => ⟨S_, .f32⟩
  | .hbm, ⟨69, _⟩ => ⟨S4096x4096, .f32⟩
  | .hbm, ⟨70, _⟩ => ⟨S4096x4096, .i32⟩
  | .hbm, ⟨71, _⟩ => ⟨S_, .i32⟩
  | .hbm, ⟨72, _⟩ => ⟨S4096x4096, .i32⟩
  | .hbm, ⟨73, _⟩ => ⟨S4096x4096, .i32⟩
  | .hbm, ⟨74, _⟩ => ⟨S4096x4096, .i32⟩
  | .hbm, ⟨75, _⟩ => ⟨S4096x4096, .i1⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S2x128x4096, .f32⟩
  | .hbm, ⟨80, _⟩ => ⟨S2x4096x128, .f32⟩
  | .hbm, ⟨81, _⟩ => ⟨S8192x768, .f32⟩
  | .hbm, ⟨82, _⟩ => ⟨S8192x768, .bf16⟩
  | .hbm, ⟨83, _⟩ => ⟨S8192x768, .f32⟩
  | .hbm, ⟨84, _⟩ => ⟨S8192x768, .bf16⟩
  | .hbm, ⟨85, _⟩ => ⟨S8192x768, .bf16⟩
  | .hbm, ⟨86, _⟩ => ⟨S8192x128, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_call0_cst : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_v7 : Ref sig .tc := ⟨.hbm, 60, rfl⟩
abbrev main_call0_call0_v8 : Ref sig .tc := ⟨.hbm, 61, rfl⟩
abbrev main_call0_call0_v9 : Ref sig .tc := ⟨.hbm, 62, rfl⟩
abbrev main_call0_call0_v10 : Ref sig .tc := ⟨.hbm, 63, rfl⟩
abbrev main_call0_call0_v11 : Ref sig .tc := ⟨.hbm, 64, rfl⟩
abbrev main_call0_v1 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_call1_v0 : Ref sig .tc := ⟨.hbm, 70, rfl⟩
abbrev main_call1_c : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_cst : Ref sig .tc := ⟨.hbm, 76, rfl⟩
abbrev main_call1_v5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩

abbrev nD : Nat := 1
abbrev τ : Topo := Topo.v7x

variable {F : FTy → Type} [FloatOps F]
-- ==== KernelAda.lean ====
abbrev S2x2048 : Shape := ⟨2, ![2, 2048]⟩
abbrev S2x2048x12288 : Shape := ⟨3, ![2, 2048, 12288]⟩
abbrev S2x12288 : Shape := ⟨2, ![2, 12288]⟩
abbrev S_ : Shape := ⟨0, ![]⟩
abbrev S6x2048 : Shape := ⟨2, ![6, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1536 : Shape := ⟨3, ![1, 2048, 1536]⟩
abbrev S1x1x1536 : Shape := ⟨3, ![1, 1, 1536]⟩
abbrev S1x8x1536 : Shape := ⟨3, ![1, 8, 1536]⟩
abbrev S2048x1536 : Shape := ⟨2, ![2048, 1536]⟩
abbrev S8x1536 : Shape := ⟨2, ![8, 1536]⟩
abbrev S1x1536 : Shape := ⟨2, ![1, 1536]⟩

abbrev nBuf : Space → Nat
  | .hbm => 8
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2x2048x12288, .f32⟩
  | .hbm, ⟨2, _⟩ => ⟨S2x12288, .f32⟩
  | .hbm, ⟨3, _⟩ => ⟨S_, .f32⟩
  | .hbm, ⟨4, _⟩ => ⟨S6x2048, .f32⟩
  | .hbm, ⟨5, _⟩ => ⟨S8x2048, .f32⟩
  | .hbm, ⟨6, _⟩ => ⟨S2x1x12288, .f32⟩
  | .hbm, ⟨7, _⟩ => ⟨S2x8x12288, .f32⟩
  | .local _ .vmem, ⟨0, _⟩ => ⟨S8x2048, .f32⟩
  | .local _ .vmem, ⟨1, _⟩ => ⟨S1x2048x1536, .f32⟩
  | .local _ .vmem, ⟨2, _⟩ => ⟨S1x2048x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceAdaIdeal.lean ====
abbrev S2x2048 : Shape := ⟨2, ![2, 2048]⟩
abbrev S2x2048x12288 : Shape := ⟨3, ![2, 2048, 12288]⟩
abbrev S2x12288 : Shape := ⟨2, ![2, 12288]⟩
abbrev S_ : Shape := ⟨0, ![]⟩
abbrev S6x2048 : Shape := ⟨2, ![6, 2048]⟩
abbrev S8x2048 : Shape := ⟨2, ![8, 2048]⟩
abbrev S2x12288x8 : Shape := ⟨3, ![2, 12288, 8]⟩
abbrev S2x8x12288 : Shape := ⟨3, ![2, 8, 12288]⟩
abbrev S2x1x12288 : Shape := ⟨3, ![2, 1, 12288]⟩

abbrev nBuf : Space → Nat
  | .hbm => 20
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2x2048x12288, .f32⟩
  | .hbm, ⟨2, _⟩ => ⟨S2x12288, .f32⟩
  | .hbm, ⟨3, _⟩ => ⟨S_, .f32⟩
  | .hbm, ⟨4, _⟩ => ⟨S6x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S2x12288x8, .f32⟩
  | .hbm, ⟨16, _⟩ => ⟨S2x8x12288, .f32⟩
  | .hbm, ⟨17, _⟩ => ⟨S2x1x12288, .f32⟩
  | .hbm, ⟨18, _⟩ => ⟨S2x8x12288, .f32⟩
  | .hbm, ⟨19, _⟩ => ⟨S2x8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Proof.Silu.lean ====
module

public import Idealize.ShloMosaic.Lib.Pointwise
public import Idealize.ShloMosaic.Lib.IdealHost
public import Idealize.ShloMosaic.Lib.Pipeline.ValueKit

@[expose] public section

noncomputable section

namespace Cert

open Idealize.ShloMosaic

/-- The activation `a · 1 / (1 + exp (-a))`. -/
def silu (a : EReal) : EReal := a * Ideal.div 1 (1 + Ideal.exp (-a))

theorem zero_minus (a : EReal) : 0 - a = -a := by rw [sub_eq_add_neg, zero_add]

/-- A residual step `x + g · a`. -/
def residual (x g a : EReal) : EReal := x + g * a

end Cert

end
-- ==== Proof.Ada.Step.lean ====
module

public import proofs.«01_k».proof.Proof.Gen.KernelAdaIdeal.Value
public import proofs.«01_k».proof.Proof.Silu

@[expose] public section

set_option maxRecDepth 16384

noncomputable section

namespace Cert.Ada

open Cert.KernelAdaIdeal Cert.KernelAdaIdeal.Gen Idealize.ShloMosaic Idealize.ShloMosaic.TcCoe Idealize.SL.Sem

theorem pay1_apply (x : FVec Ideal S8x2048 .f32) (w : FVec Ideal S1x2048x1536 .f32) (b : FVec Ideal S1x1x1536 .f32) (r : Fin 8) (n : Fin 1536) :
    k0_pay1 (F := Ideal) x w b (ix3 0 r n) = ∑ k : Fin 2048, silu (x (ix2 r k)) * w (ix3 0 k n) + b (ix3 0 0 n) := by
  pointwise [k0_pay1]
  simp only [silu, Ideal.ofBits_one_f32, Ideal.ofBits_zero_f32, zero_minus]

theorem out3 (x : FVec Ideal S8x2048 .f32) (w : FVec Ideal S1x2048x1536 .f32) (b : FVec Ideal S1x1x1536 .f32) (r : Fin 8) (n : Fin 1536) :
    out0_3 (F := Ideal) x w b (ix3 0 r n) = ∑ k : Fin 2048, silu (x (ix2 r k)) * w (ix3 0 k n) + b (ix3 0 0 n) := by
  frame_out
  exact pay1_apply _ _ _ r n

end Cert.Ada

end
-- ==== Proof.Ada.Reference.lean ====
module

public import proofs.«01_k».proof.Proof.Gen.ReferenceAdaIdeal.Read
public import proofs.«01_k».proof.Proof.Silu

@[expose] public section

set_option maxRecDepth 16384

noncomputable section

namespace Cert.Ada

open Cert.ReferenceAdaIdeal Cert.ReferenceAdaIdeal.Read Idealize.ShloMosaic Idealize.ShloMosaic.TcCoe Idealize.SL.Sem

variable (x0 : FVec Ideal S2x2048 .f32) (x1 : FVec Ideal S2x2048x12288 .f32) (x2 : FVec Ideal S2x12288 .f32)

/-- The conditioning vectors, with rows of zeros after the last. -/
def padded (r : Fin 8) (k : Fin 2048) : EReal := if h : r.val < 2 then x0 (ix2 ⟨r.val, h⟩ k) else 0

theorem rows (r : Fin 8) (k : Fin 2048) : val_main_v1 (F := Ideal) x0 (ix2 r k) = padded x0 r k := by
  pointwise [val_main_v1, val_main_v0, val_main_cst]
  rfl

/-- The reference's modulation. -/
theorem ref_result (l : Fin 2) (r : Fin 8) (n : Fin 12288) :
    val_main_v7 (F := Ideal) x0 x1 x2 (ix3 l r n) = ∑ k : Fin 2048, silu (padded x0 r k) * x1 (ix3 l k n) + x2 (ix2 l n) := by
  pointwise [val_main_v2, val_main_v3, val_main_v4, val_main_v5, val_main_v6, val_main_v7, val_main_call0_v0, val_main_call0_v1, val_main_call0_v2, val_main_call0_v3, val_main_call0_v4, val_main_call0_v5, val_main_call0_cst, val_main_call0_cst_0]
  simp only [rows, silu, Ideal.ofBits_one_f32, Ideal.ofBits_zero_f32, zero_minus]
  exact congrArg (· + x2 (ix2 l n)) (Finset.sum_congr rfl fun k _ => mul_comm _ _)

end Cert.Ada

end
-- ==== Proof.Ada.Blocks.lean ====
module

public import proofs.«01_k».proof.Proof.Ada.Step
public import proofs.«01_k».proof.Proof.Ada.Reference
public import Idealize.ShloMosaic.Lib.Claim

@[expose] public section

set_option maxRecDepth 16384

noncomputable section

namespace Cert.Ada

open Cert.KernelAdaIdeal Cert.KernelAdaIdeal.Gen Idealize.ShloMosaic Idealize.ShloMosaic.TcCoe Idealize.SL.Sem

variable (m : (ℓ : Loc nD τ sig) → ℓ.ty.Contents (Elt Ideal)) (c : Dev nD)

/-- The blocks each grid point reads and writes: layer `t / 8`, column tile `t % 8`. -/
theorem idx : ∀ t : Fin cfg0.N, win0_0.index t = ![0, 0] ∧ win0_1.index t = ![t.val / 8, 0, t.val % 8] ∧ win0_2.index t = ![t.val / 8, 0, t.val % 8]
    ∧ win0_3.index t = ![t.val / 8, 0, t.val % 8] :=
  (by decide +kernel : ∀ t : Fin grid0.N, _)

theorem points (t : Fin cfg0.N) : t.val < 16 := lt_of_lt_of_eq t.isLt N_0

/-- The layer of a grid point, and the column of its lane. -/
def layer (t : Fin cfg0.N) : Fin 2 := ⟨t.val / 8, by have := points t; omega⟩
def col (t : Fin cfg0.N) (n : Fin 1536) : Fin 12288 := ⟨t.val % 8 * 1536 + n.val, by omega⟩

theorem pad_read (y : FVec Ideal S2x2048 .f32) (r : Fin 8) (k : Fin 2048) :
    concatenate S8x2048 0 [⟨S2x2048, y⟩, ⟨S6x2048, broadcastInDim S6x2048 ![] bcast_S_S6x2048 (constant (F := Ideal) S_ .f32 0x00000000#32)⟩]
      concatenates_S2x2048_S6x2048_S8x2048_d0 (ix2 r k) = padded y r k := by
  pointwise
  rfl

theorem v1_eq : V m c main_v1 = concatenate S8x2048 0 [⟨S2x2048, m ((c : Thread nD τ).loc main_arg0)⟩,
    ⟨S6x2048, broadcastInDim S6x2048 ![] bcast_S_S6x2048 (constant (F := Ideal) S_ .f32 0x00000000#32)⟩]
      concatenates_S2x2048_S6x2048_S8x2048_d0 := rfl

theorem v1_read (r : Fin 8) (k : Fin 2048) : V m c main_v1 (ix2 r k) = padded (m ((c : Thread nD τ).loc main_arg0)) r k :=
  (congrFun (v1_eq m c) (ix2 r k)).trans (pad_read _ r k)

theorem row_read (y : FVec Ideal S2x12288 .f32) (l : Fin 2) (n : Fin 12288) : shapeCast S2x1x12288 y shapeCasts_S2x12288_S2x1x12288 (ix3 l 0 n) = y (ix2 l n) := by
  pointwise

theorem v2_read (l : Fin 2) (n : Fin 12288) : V m c main_v2 (ix3 l 0 n) = m ((c : Thread nD τ).loc main_arg2) (ix2 l n) := by
  entry_read
  exact row_read _ l n

theorem x_read (t : Fin cfg0.N) (r : Fin 8) (k : Fin 2048) : iblk m c 0 t (ix2 r k) = padded (m ((c : Thread nD τ).loc main_arg0)) r k := by
  refine Eq.trans ?_ (v1_read m c r k)
  blk_ext [iblk, idx t]

theorem w_read (t : Fin cfg0.N) (k : Fin 2048) (n : Fin 1536) :
    iblk m c 1 t (ix3 0 k n) = m ((c : Thread nD τ).loc main_arg1) (ix3 (layer t) k (col t n)) := by
  unfold layer col
  blk_ext [iblk, V, idx t]

theorem b_read (t : Fin cfg0.N) (n : Fin 1536) : iblk m c 2 t (ix3 0 0 n) = m ((c : Thread nD τ).loc main_arg2) (ix2 (layer t) (col t n)) := by
  refine Eq.trans ?_ (v2_read m c (layer t) (col t n))
  unfold layer col
  blk_ext [iblk, idx t]

theorem out_read (t : Fin cfg0.N) (e : Fin 1) (r : Fin 8) (n : Fin 1536) :
    out0_3 (F := Ideal) (iblk m c 0 t) (iblk m c 1 t) (iblk m c 2 t) (ix3 e r n)
      = Cert.ReferenceAdaIdeal.Read.val_main_v7 (F := Ideal) (m ((c : Thread nD τ).loc main_arg0)) (m ((c : Thread nD τ).loc main_arg1))
          (m ((c : Thread nD τ).loc main_arg2)) (ix3 (layer t) r (col t n)) := by
  obtain rfl : e = 0 := Subsingleton.elim _ _
  refine (out3 _ _ _ r n).trans ?_
  rw [b_read]
  simp only [x_read m c t, w_read m c t]
  exact (ref_result _ _ _ (layer t) r (col t n)).symm

/-- The kernel's array after the run is the reference's result. -/
theorem kernel_array : (dats m 0 c).arrAt 3 cfg0.N
    = Cert.ReferenceAdaIdeal.Read.val_main_v7 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  idx_vars y
  refine (out_read m c t _ _ _).trans ?_
  unfold layer col
  blk_ext [idx t]

end Cert.Ada

end
-- ==== Proof.Ada.Claim.lean ====
module

public import proofs.«01_k».proof.Defs
public import proofs.«01_k».proof.Proof.Gen.KernelAdaIdeal.Frame
public import proofs.«01_k».proof.Proof.Ada.Blocks
public import proofs.«01_k».proof.Proof.Gen.ReferenceAdaIdeal
public import proofs.«01_k».proof.Proof.Gen.ReferenceAdaIdeal.Run
public import Idealize.ShloMosaic.Lib.Claim

@[expose] public section

set_option maxRecDepth 16384

noncomputable section

namespace Cert.Ada

open Idealize.ShloMosaic Idealize.ShloMosaic.TcCoe Idealize.SL.Sem

/-- The reference ends with its arguments unchanged; it declares no semaphore. -/
theorem frame_reference : Cert.quiescent_ReferenceAdaIdeal (hReferenceAdaIdeal := Cert.ReferenceAdaIdeal.Gen.facts) := by
  intro m g _
  exact (θ_run _ _ _).mono (fun r h => ⟨fun c => (h c).2, sem_eq_zero_of_no_sems (by decide) r.2⟩) (Cert.ReferenceAdaIdeal.Value.run m g)

/-- The kernel's modulation is the reference's at every argument. -/
theorem algebraic : Cert.algebraic_KernelAdaIdeal_ReferenceAdaIdeal (hKernelAdaIdeal := Cert.KernelAdaIdeal.Gen.facts)
    (hReferenceAdaIdeal := Cert.ReferenceAdaIdeal.Gen.facts) := by
  pair_intro
  · run_from Cert.KernelAdaIdeal.Gen.run_main m g
  · run_from Cert.ReferenceAdaIdeal.Value.run m' g'
    exact (Cert.ReferenceAdaIdeal.Read.val_main_v7_eq _ _ _).trans (kernel_array m c).symm

end Cert.Ada

end
-- ==== Proof.Ffn.Step.lean ====
module

public import proofs.«01_k».proof.Proof.Gen.KernelFfnIdeal.Value
public import proofs.«01_k».proof.Proof.Silu

@[expose] public section

set_option maxRecDepth 16384

noncomputable section

namespace Cert.Ffn

open Cert.KernelFfnIdeal Cert.KernelFfnIdeal.Gen Idealize.ShloMosaic Idealize.ShloMosaic.TcCoe Idealize.SL.Sem

theorem pay1_apply (r : Fin 512) (d : Fin 2048) : k0_pay1 (F := Ideal) (ix2 r d) = 0 := by
  pointwise [k0_pay1]

theorem pay2_apply (h : FVec Ideal S512x2048 .bf16) (w1 w3 : FVec Ideal S2048x512 .bf16) (acc : FVec Ideal S512x2048 .f32)
    (w2 : FVec Ideal S512x2048 .bf16) (r : Fin 512) (d : Fin 2048) :
    k0_pay2 (F := Ideal) h w1 w3 acc w2 (ix2 r d) = acc (ix2 r d)
      + ∑ f : Fin 512, silu (∑ k : Fin 2048, h (ix2 r k) * w1 (ix2 k f)) * (∑ k : Fin 2048, h (ix2 r k) * w3 (ix2 k f)) * w2 (ix2 f d) := by
  pointwise [k0_pay2]
  simp only [silu, Ideal.ofBits_one_f32, Ideal.ofBits_zero_f32, zero_minus]

theorem pay3_apply (x : FVec Ideal S512x2048 .f32) (g : FVec Ideal S1x1x2048 .f32) (acc : FVec Ideal S512x2048 .f32) (r : Fin 512) (d : Fin 2048) :
    k0_pay3 (F := Ideal) x g acc (ix2 r d) = x (ix2 r d) + g (ix3 0 0 d) * acc (ix2 r d) := by
  pointwise [k0_pay3]

end Cert.Ffn

end
-- ==== Proof.Ffn.Reference.lean ====
module

public import proofs.«01_k».proof.Proof.Gen.ReferenceFfnIdeal.Read
public import proofs.«01_k».proof.Proof.Silu

@[expose] public section

set_option maxRecDepth 16384

noncomputable section

namespace Cert.Ffn

open Cert.ReferenceFfnIdeal Cert.ReferenceFfnIdeal.Read Idealize.ShloMosaic Idealize.ShloMosaic.TcCoe Idealize.SL.Sem

variable (x0 : FVec Ideal S8192x2048 .bf16) (x1 x2 : FVec Ideal S1x2048x5632 .f32) (x3 : FVec Ideal S1x5632x2048 .f32)
  (x4 : FVec Ideal S8192x2048 .f32) (x5 : FVec Ideal S2x1x2048 .f32)

/-- The hidden layer: unit `f` of token `r`. -/
def hidden (r : Fin 8192) (f : Fin 5632) : EReal :=
  silu (∑ k : Fin 2048, x0 (ix2 r k) * x1 (ix3 0 k f)) * ∑ k : Fin 2048, x0 (ix2 r k) * x2 (ix3 0 k f)

/-- The reference's result. -/
theorem ref_result (r : Fin 8192) (d : Fin 2048) :
    val_main_v14 (F := Ideal) x0 x1 x2 x3 x4 x5 (ix2 r d)
      = x4 (ix2 r d) + x5 (ix3 ⟨r.val / 4096, by omega⟩ 0 d) * ∑ f : Fin 5632, hidden x0 x1 x2 r f * x3 (ix3 0 f d) := by
  pointwise [val_main_v0, val_main_v1, val_main_v2, val_main_v3, val_main_v4, val_main_v5, val_main_v6, val_main_v7, val_main_v8, val_main_v9, val_main_v10, val_main_v11, val_main_v12, val_main_v13, val_main_v14, val_main_call0_v0, val_main_call0_v1, val_main_call0_v2, val_main_call0_v3, val_main_call0_v4, val_main_call0_v5, val_main_call0_cst, val_main_call0_cst_0]
  simp only [hidden, silu, Ideal.ofBits_one_f32, Ideal.ofBits_zero_f32, zero_minus]

end Cert.Ffn

end
-- ==== Proof.Ffn.Blocks.lean ====
module

public import proofs.«01_k».proof.Proof.Ffn.Step
public import proofs.«01_k».proof.Proof.Ffn.Reference
public import Idealize.ShloMosaic.Lib.Claim

@[expose] public section

set_option maxRecDepth 16384

noncomputable section

namespace Cert.Ffn

open Cert.KernelFfnIdeal Cert.KernelFfnIdeal.Gen Idealize.ShloMosaic Idealize.ShloMosaic.TcCoe Idealize.SL.Sem

variable (m : (ℓ : Loc nD τ sig) → ℓ.ty.Contents (Elt Ideal)) (c : Dev nD)

/-- The blocks each grid point reads and writes: token tile `t / 11`, hidden tile `t % 11`. -/
theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![t.val / 11, 0] ∧ win0_5.index t = ![t.val / 11 * 512 / 4096, 0, 0]
    ∧ win0_6.index t = ![t.val / 11, 0] :=
  (by decide +kernel : ∀ t : Fin grid0.N, _)

theorem points (t : Fin cfg0.N) : t.val < 176 := lt_of_lt_of_eq t.isLt N_0

/-- The token of a grid point's row, and the hidden unit of its lane. -/
def token (t : Fin cfg0.N) (r : Fin 512) : Fin 8192 := ⟨t.val / 11 * 512 + r.val, by have := points t; omega⟩
def hid (t : Fin cfg0.N) (f : Fin 512) : Fin 5632 := ⟨t.val % 11 * 512 + f.val, by omega⟩

theorem h_read (t : Fin cfg0.N) (r : Fin 512) (k : Fin 2048) :
    iblk m c 0 t (ix2 r k) = m ((c : Thread nD τ).loc main_arg0) (ix2 (token t r) k) := by
  unfold token
  blk_ext [iblk, V, idx t]

theorem x_read (t : Fin cfg0.N) (r : Fin 512) (d : Fin 2048) :
    iblk m c 4 t (ix2 r d) = m ((c : Thread nD τ).loc main_arg4) (ix2 (token t r) d) := by
  unfold token
  blk_ext [iblk, V, idx t]

theorem g_read (t : Fin cfg0.N) (r : Fin 512) (d : Fin 2048) :
    iblk m c 5 t (ix3 0 0 d) = m ((c : Thread nD τ).loc main_arg5) (ix3 ⟨(token t r).val / 4096, by omega⟩ 0 d) := by
  have hN := points t
  unfold token
  blk_ext [iblk, V, idx t]

/-- The weights as the host lays them out. -/
theorem up_read (y : FVec Ideal S1x2048x5632 .f32) (k : Fin 2048) (f : Fin 5632) :
    truncf .bf16 (shapeCast S2048x5632 y shapeCasts_S1x2048x5632_S2048x5632) bitsLt_bf16_f32 (ix2 k f) = y (ix3 0 k f) := by
  pointwise

theorem down_read (y : FVec Ideal S1x5632x2048 .f32) (f : Fin 5632) (d : Fin 2048) :
    truncf .bf16 (shapeCast S5632x2048 y shapeCasts_S1x5632x2048_S5632x2048) bitsLt_bf16_f32 (ix2 f d) = y (ix3 0 f d) := by
  pointwise

theorem v1_read (k : Fin 2048) (f : Fin 5632) : V m c main_v1 (ix2 k f) = m ((c : Thread nD τ).loc main_arg1) (ix3 0 k f) := by
  entry_read
  exact up_read _ k f

theorem v3_read (k : Fin 2048) (f : Fin 5632) : V m c main_v3 (ix2 k f) = m ((c : Thread nD τ).loc main_arg2) (ix3 0 k f) := by
  entry_read
  exact up_read _ k f

theorem v5_read (f : Fin 5632) (d : Fin 2048) : V m c main_v5 (ix2 f d) = m ((c : Thread nD τ).loc main_arg3) (ix3 0 f d) := by
  entry_read
  exact down_read _ f d

theorem w1_read (t : Fin cfg0.N) (k : Fin 2048) (f : Fin 512) :
    iblk m c 1 t (ix2 k f) = m ((c : Thread nD τ).loc main_arg1) (ix3 0 k (hid t f)) := by
  refine Eq.trans ?_ (v1_read m c k (hid t f))
  unfold hid
  blk_ext [iblk, idx t]

theorem w3_read (t : Fin cfg0.N) (k : Fin 2048) (f : Fin 512) :
    iblk m c 2 t (ix2 k f) = m ((c : Thread nD τ).loc main_arg2) (ix3 0 k (hid t f)) := by
  refine Eq.trans ?_ (v3_read m c k (hid t f))
  unfold hid
  blk_ext [iblk, idx t]

theorem w2_read (t : Fin cfg0.N) (f : Fin 512) (d : Fin 2048) :
    iblk m c 3 t (ix2 f d) = m ((c : Thread nD τ).loc main_arg3) (ix3 0 (hid t f) d) := by
  refine Eq.trans ?_ (v5_read m c (hid t f) d)
  unfold hid
  blk_ext [iblk, idx t]

/-- What grid point `t` adds to row `r`, column `d`. -/
def part (t : Fin cfg0.N) (r : Fin 512) (d : Fin 2048) : EReal :=
  ∑ f : Fin 512, hidden (m ((c : Thread nD τ).loc main_arg0)) (m ((c : Thread nD τ).loc main_arg1)) (m ((c : Thread nD τ).loc main_arg2)) (token t r) (hid t f)
    * m ((c : Thread nD τ).loc main_arg3) (ix3 0 (hid t f) d)

theorem step_read (t : Fin cfg0.N) (acc : FVec Ideal S512x2048 .f32) (r : Fin 512) (d : Fin 2048) :
    k0_pay2 (F := Ideal) (iblk m c 0 t) (iblk m c 1 t) (iblk m c 2 t) acc (iblk m c 3 t) (ix2 r d) = acc (ix2 r d) + part m c t r d := by
  refine (pay2_apply _ _ _ _ _ r d).trans ?_
  unfold part hidden
  simp only [h_read m c t, w1_read m c t, w3_read m c t, w2_read m c t]

theorem scratch (x : FVec Ideal S512x2048 .f32) :
    View.read (Elt Ideal) (View.whole cc0_scratch0) ((Memref.isWhole_whole cc0_scratch0).unread x) = x :=
  (Memref.isWhole_whole cc0_scratch0).read_unread (Val := Elt Ideal) x

theorem first (t : Fin cfg0.N) (h0 : t.val % 11 = 0) (r : Fin 512) (d : Fin 2048) :
    (outsAt0 m c t.val t.isLt).2 (ix2 r d) = 0 + part m c t r d := by
  rw [outsAt0_A m c t h0 (by omega)]
  frame_out
  refine (step_read m c t _ r d).trans ?_
  rw [pay1_apply]

theorem next (t : Fin cfg0.N) (h0 : ¬t.val % 11 = 0) (r : Fin 512) (d : Fin 2048) :
    (outsAt0 m c t.val t.isLt).2 (ix2 r d) = (outsAt0 m c (t.val - 1) (Nat.lt_of_le_of_lt (Nat.sub_le _ _) t.isLt)).2 (ix2 r d) + part m c t r d := by
  by_cases h1 : t.val % 11 = 10
  · rw [outsAt0_C m c t h0 h1]
    frame_out
    refine (step_read m c t _ r d).trans ?_
    rw [scratch]
  · rw [outsAt0_B m c t h0 h1]
    frame_out
    refine (step_read m c t _ r d).trans ?_
    rw [scratch]

/-- The scratch buffer at a token tile's last point: the whole sum over the hidden layer. -/
theorem total (t : Fin cfg0.N) (h1 : t.val % 11 = 10) (r : Fin 512) (d : Fin 2048) :
    (outsAt0 m c t.val t.isLt).2 (ix2 r d)
      = ∑ f : Fin 5632, hidden (m ((c : Thread nD τ).loc main_arg0)) (m ((c : Thread nD τ).loc main_arg1)) (m ((c : Thread nD τ).loc main_arg2)) (token t r) f
          * m ((c : Thread nD τ).loc main_arg3) (ix3 0 f d) := by
  refine (Pipeline.eq_sum_fin_of_reset_step_apply_of_flush (fun n h (i : Fin 512 × Fin 2048) => (outsAt0 m c n h).2 (ix2 i.1 i.2)) 11 (fun _ => 0)
    (fun t i => part m c t i.1 i.2) (fun t h i => first m c t h i.1 i.2) (fun t h i => next m c t h i.1 i.2) t h1 (r, d)).trans ?_
  rw [zero_add]
  unfold part
  refine Fin.sum_mul_add_congr fun s k hl => ?_
  have e1 : token ⟨11 * (t.val / 11) + s.val, Pipeline.run_point_lt_of_flush t h1 s⟩ r = token t r :=
    Fin.ext (by show (11 * (t.val / 11) + s.val) / 11 * 512 + r.val = t.val / 11 * 512 + r.val; omega)
  have e2 : hid ⟨11 * (t.val / 11) + s.val, Pipeline.run_point_lt_of_flush t h1 s⟩ k = ⟨s.val * 512 + k.val, hl⟩ :=
    Fin.ext (by show (11 * (t.val / 11) + s.val) % 11 * 512 + k.val = s.val * 512 + k.val; omega)
  dsimp only
  rw [e1, e2]

theorem out_read (t : Fin cfg0.N) (h1 : t.val % 11 = 10) (r : Fin 512) (d : Fin 2048) :
    (outsAt0 m c t.val t.isLt).1 (ix2 r d)
      = residual (m ((c : Thread nD τ).loc main_arg4) (ix2 (token t r) d))
          (m ((c : Thread nD τ).loc main_arg5) (ix3 ⟨(token t r).val / 4096, by omega⟩ 0 d)) ((outsAt0 m c t.val t.isLt).2 (ix2 r d)) := by
  rw [outsAt0_C m c t (by omega) h1]
  frame_out
  refine (pay3_apply _ _ _ r d).trans ?_
  rw [x_read, g_read m c t r d]
  rfl

/-- The kernel's array after the run is the reference's result. -/
theorem kernel_array : (dats m 0 c).arrAt 6 cfg0.N
    = Cert.ReferenceFfnIdeal.Read.val_main_v14 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h1 := (flush0_6 t).mp hf
  blk_simp
  rw [after0_6]
  idx_vars y
  refine (out_read m c t h1 _ _).trans ?_
  rw [total m c t h1]
  refine (ref_result _ _ _ _ _ _ (token t _) _).symm.trans ?_
  unfold token
  blk_ext [idx t]

end Cert.Ffn

end
-- ==== Proof.Ffn.Claim.lean ====
module

public import proofs.«01_k».proof.Defs
public import proofs.«01_k».proof.Proof.Gen.KernelFfnIdeal.Frame
public import proofs.«01_k».proof.Proof.Ffn.Blocks
public import proofs.«01_k».proof.Proof.Gen.ReferenceFfnIdeal
public import proofs.«01_k».proof.Proof.Gen.ReferenceFfnIdeal.Run
public import Idealize.ShloMosaic.Lib.Claim

@[expose] public section

set_option maxRecDepth 16384

noncomputable section

namespace Cert.Ffn

open Idealize.ShloMosaic Idealize.ShloMosaic.TcCoe Idealize.SL.Sem

/-- The reference ends with its arguments unchanged; it declares no semaphore. -/
theorem frame_reference : Cert.quiescent_ReferenceFfnIdeal (hReferenceFfnIdeal := Cert.ReferenceFfnIdeal.Gen.facts) := by
  intro m g _
  exact (θ_run _ _ _).mono (fun r h => ⟨fun c => (h c).2, sem_eq_zero_of_no_sems (by decide) r.2⟩) (Cert.ReferenceFfnIdeal.Value.run m g)

/-- The kernel's dense layer is the reference's at every argument. -/
theorem algebraic : Cert.algebraic_KernelFfnIdeal_ReferenceFfnIdeal (hKernelFfnIdeal := Cert.KernelFfnIdeal.Gen.facts)
    (hReferenceFfnIdeal := Cert.ReferenceFfnIdeal.Gen.facts) := by
  pair_intro
  · run_from Cert.KernelFfnIdeal.Gen.run_main m g
  · run_from Cert.ReferenceFfnIdeal.Value.run m' g'
    exact (Cert.ReferenceFfnIdeal.Read.val_main_v14_eq _ _ _ _ _ _).trans (kernel_array m c).symm

end Cert.Ffn

end
-- ==== Proof.Fox.Softmax.lean ====
module

public import Idealize.ShloMosaic.PureOps.Ideal
public import Idealize.ShloMosaic.PureOps.Ideal.Laws

@[expose] public section

noncomputable section

namespace Cert.Fox

open Idealize.ShloMosaic

/-- A nonnegative real factor moves inside a finite sum of extended reals. -/
theorem real_mul_sum {ι : Type*} (c : EReal) (h0 : 0 ≤ c) (ht : c ≠ ⊤) (T : Finset ι) (f : ι → EReal) :
    c * ∑ j ∈ T, f j = ∑ j ∈ T, c * f j := by
  classical
  induction T using Finset.induction_on with
  | empty => simp
  | insert a T ha ih => rw [Finset.sum_insert ha, Finset.sum_insert ha, EReal.left_distrib_of_nonneg_of_ne_top h0 ht, ih]

/-- A nonnegative real factor on the right moves inside a finite sum of extended reals. -/
theorem sum_mul_real {ι : Type*} (c : EReal) (h0 : 0 ≤ c) (ht : c ≠ ⊤) (T : Finset ι) (f : ι → EReal) :
    (∑ j ∈ T, f j) * c = ∑ j ∈ T, f j * c := by
  rw [mul_comm, real_mul_sum c h0 ht]
  exact Finset.sum_congr rfl fun j _ => mul_comm _ _

/-- A finite sum none of whose terms is `⊤` or `⊥` is neither. -/
theorem sum_real {ι : Type*} (T : Finset ι) (f : ι → EReal) (h : ∀ j ∈ T, f j ≠ ⊤ ∧ f j ≠ ⊥) :
    ∑ j ∈ T, f j ≠ ⊤ ∧ ∑ j ∈ T, f j ≠ ⊥ := by
  classical
  induction T using Finset.induction_on with
  | empty => simp
  | insert a T ha ih =>
    rw [Finset.sum_insert ha]
    have h1 := h a (Finset.mem_insert_self a T)
    have h2 := ih fun j hj => h j (Finset.mem_insert_of_mem hj)
    lift f a to ℝ using h1 with x
    lift ∑ j ∈ T, f j to ℝ using h2 with y
    rw [← EReal.coe_add]
    exact ⟨EReal.coe_ne_top _, EReal.coe_ne_bot _⟩

/-- A product of two extended reals that are real is real. -/
theorem mul_real (a b : EReal) (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- The exponential of anything below `⊤` is real. -/
theorem exp_real {x : EReal} (h : x ≠ ⊤) : Ideal.exp x ≠ ⊤ := by
  induction x using EReal.rec with
  | bot => exact EReal.zero_ne_top
  | coe r => exact EReal.coe_ne_top _
  | top => exact absurd rfl h

/-- The exponential is nonnegative. -/
theorem exp_nonneg (x : EReal) : 0 ≤ Ideal.exp x := by
  induction x using EReal.rec with
  | bot => exact le_refl _
  | coe r => exact EReal.coe_nonneg.mpr (Real.exp_pos r).le
  | top => exact le_top

/-- A score below `⊤` less a real maximum is below `⊤`. -/
theorem sub_ne_top {x M : EReal} (h : x ≠ ⊤) (hM : M ≠ ⊥) : x - M ≠ ⊤ := by
  induction x using EReal.rec with
  | bot => simp
  | coe r =>
    induction M using EReal.rec with
    | bot => exact absurd rfl hM
    | coe r' => exact EReal.coe_ne_top _
    | top => simp
  | top => exact absurd rfl h

/-- Moving an exponential weight from the maximum `M` to the maximum `M'`, both real. -/
theorem exp_rescale {x M M' : EReal} (h : x ≠ ⊤) (hM : M ≠ ⊤ ∧ M ≠ ⊥) (hM' : M' ≠ ⊤ ∧ M' ≠ ⊥) :
    Ideal.exp (M - M') * Ideal.exp (x - M) = Ideal.exp (x - M') := by
  lift M to ℝ using hM
  lift M' to ℝ using hM'
  induction x using EReal.rec with
  | bot => rw [EReal.bot_sub, EReal.bot_sub]; exact mul_zero _
  | coe r =>
    rw [← EReal.coe_sub, ← EReal.coe_sub, ← EReal.coe_sub]
    show ((Real.exp _ : ℝ) : EReal) * ((Real.exp _ : ℝ) : EReal) = ((Real.exp _ : ℝ) : EReal)
    rw [← EReal.coe_mul, ← Real.exp_add]
    congr 2
    ring
  | top => exact absurd rfl h

/-- One step of the running sum: what was summed at the maximum `M`, rescaled to `M'`, and the new keys' terms are the
    sum over all keys at `M'`. Where nothing was summed yet `M` may be anything. -/
theorem step {ι : Type*} [DecidableEq ι] (T B : Finset ι) (hd : Disjoint T B) (s v : ι → EReal) (hs : ∀ j, s j ≠ ⊤)
    (M M' : EReal) (hM : T = ∅ ∨ (M ≠ ⊤ ∧ M ≠ ⊥)) (hM' : M' ≠ ⊤ ∧ M' ≠ ⊥) :
    Ideal.exp (M - M') * (∑ j ∈ T, Ideal.exp (s j - M) * v j) + ∑ j ∈ B, Ideal.exp (s j - M') * v j
      = ∑ j ∈ T ∪ B, Ideal.exp (s j - M') * v j := by
  rw [Finset.sum_union hd]
  congr 1
  rcases hM with hT | hM
  · subst hT; simp
  · rw [real_mul_sum _ (exp_nonneg _) (exp_real (sub_ne_top hM.1 hM'.2))]
    refine Finset.sum_congr rfl fun j _ => ?_
    rw [← mul_assoc, exp_rescale (hs j) hM hM']

/-- The closing division: dividing the weighted sum by the sum of weights, where that is a positive real, is the sum
    of the divided weights against the values. -/
theorem div_sum {ι : Type*} (T : Finset ι) (p v : ι → EReal) (L : EReal) (h0 : 0 < L) (ht : L ≠ ⊤) :
    Ideal.div (∑ j ∈ T, p j * v j) L = ∑ j ∈ T, Ideal.div (p j) L * v j := by
  unfold Ideal.div
  simp only [if_neg h0.ne']
  have h1 : 0 ≤ L⁻¹ := EReal.inv_nonneg_of_nonneg h0.le
  have h2 : L⁻¹ ≠ ⊤ := by
    induction L using EReal.rec with
    | bot => simp
    | coe r => rw [← EReal.coe_inv]; exact EReal.coe_ne_top _
    | top => simp
  rw [sum_mul_real _ h1 h2]
  exact Finset.sum_congr rfl fun j _ => mul_right_comm _ _ _

/-- The sum of the weights of a set holding a key whose score is real is positive. -/
theorem weights_pos {ι : Type*} (T : Finset ι) (s : ι → EReal) (M : EReal) (hM : M ≠ ⊤ ∧ M ≠ ⊥) (j : ι) (hj : j ∈ T)
    (hsj : s j ≠ ⊤ ∧ s j ≠ ⊥) : 0 < ∑ j ∈ T, Ideal.exp (s j - M) := by
  have h1 : Ideal.exp (s j - M) ≤ ∑ j ∈ T, Ideal.exp (s j - M) :=
    Finset.single_le_sum (f := fun j => Ideal.exp (s j - M)) (fun i _ => exp_nonneg _) hj
  refine lt_of_lt_of_le ?_ h1
  lift M to ℝ using hM
  lift s j to ℝ using hsj with x
  rw [← EReal.coe_sub]
  exact EReal.coe_pos.mpr (Real.exp_pos _)

/-- The sum of the weights is real. -/
theorem weights_real {ι : Type*} (T : Finset ι) (s : ι → EReal) (M : EReal) (hM : M ≠ ⊥) (hs : ∀ j, s j ≠ ⊤) :
    ∑ j ∈ T, Ideal.exp (s j - M) ≠ ⊤ :=
  (sum_real T _ fun j _ => ⟨exp_real (sub_ne_top (hs j) hM),
    fun h => absurd (exp_nonneg (s j - M)) (by rw [h]; simp)⟩).1

/-- The largest of finitely many scores below `⊤`, one of them real, is real. -/
theorem sup_real {ι : Type*} (T : Finset ι) (s : ι → EReal) (hs : ∀ j, s j ≠ ⊤) (j : ι) (hj : j ∈ T) (hsj : s j ≠ ⊥) :
    T.sup s ≠ ⊤ ∧ T.sup s ≠ ⊥ := by
  constructor
  · exact ((Finset.sup_lt_iff (bot_lt_top)).mpr fun j _ => lt_top_iff_ne_top.mpr (hs j)).ne
  · intro h
    exact hsj (le_bot_iff.mp (h ▸ Finset.le_sup (f := s) hj))

/-- The keys before tile `k` of 512. -/
def before (k : ℕ) : Finset (Fin 4096) := Finset.univ.filter fun j => (j : ℕ) < 512 * k

/-- Key `c` of tile `k`. -/
def key (k : Fin 8) (c : Fin 512) : Fin 4096 := ⟨k.val * 512 + c.val, by omega⟩

theorem key_injective (k : Fin 8) : Function.Injective (key k) := by
  intro a b h
  have := congrArg Fin.val h
  simp only [key] at this
  exact Fin.ext (by omega)

/-- The keys of tile `k`. -/
def tile (k : Fin 8) : Finset (Fin 4096) := Finset.univ.map ⟨key k, key_injective k⟩

theorem sum_tile (k : Fin 8) (f : Fin 4096 → EReal) : ∑ j ∈ tile k, f j = ∑ c, f (key k c) := by
  rw [tile, Finset.sum_map]; rfl

theorem sup_tile (k : Fin 8) (f : Fin 4096 → EReal) : (tile k).sup f = Finset.univ.sup fun c => f (key k c) := by
  rw [tile, Finset.sup_map]; rfl

theorem mem_tile (k : Fin 8) (j : Fin 4096) : j ∈ tile k ↔ k.val * 512 ≤ j.val ∧ j.val < k.val * 512 + 512 := by
  constructor
  · intro h
    obtain ⟨c, -, rfl⟩ := Finset.mem_map.mp h
    show _ ≤ k.val * 512 + c.val ∧ k.val * 512 + c.val < _
    omega
  · intro h
    exact Finset.mem_map.mpr ⟨⟨j.val - k.val * 512, by omega⟩, Finset.mem_univ _, Fin.ext (by
      show k.val * 512 + (j.val - k.val * 512) = j.val
      omega)⟩

theorem mem_before (k : ℕ) (j : Fin 4096) : j ∈ before k ↔ j.val < 512 * k := by
  simp [before]

theorem before_succ (k : Fin 8) : before (k.val + 1) = before k.val ∪ tile k := by
  ext j
  rw [Finset.mem_union, mem_before, mem_before, mem_tile]
  omega

theorem before_disjoint (k : Fin 8) : Disjoint (before k.val) (tile k) := by
  rw [Finset.disjoint_left]
  intro j h1 h2
  rw [mem_before] at h1
  rw [mem_tile] at h2
  omega

theorem before_zero : before 0 = ∅ := by
  ext j
  rw [mem_before]
  simp

/-- The running maximum after tile `k`. -/
theorem sup_step (k : Fin 8) (s : Fin 4096 → EReal) :
    (before (k.val + 1)).sup s = max ((before k.val).sup s) (Finset.univ.sup fun c => s (key k c)) := by
  rw [before_succ, Finset.sup_union, sup_tile]

/-- The running sum after tile `k`, where key 0 has a real score and no score is `⊤`. -/
theorem sum_step (k : Fin 8) (s v : Fin 4096 → EReal) (hs : ∀ j, s j ≠ ⊤) (h0 : s 0 ≠ ⊥) :
    Ideal.exp ((before k.val).sup s - (before (k.val + 1)).sup s)
        * (∑ j ∈ before k.val, Ideal.exp (s j - (before k.val).sup s) * v j)
      + ∑ c, Ideal.exp (s (key k c) - (before (k.val + 1)).sup s) * v (key k c)
      = ∑ j ∈ before (k.val + 1), Ideal.exp (s j - (before (k.val + 1)).sup s) * v j := by
  rw [← sum_tile k fun j => Ideal.exp (s j - (before (k.val + 1)).sup s) * v j]
  have hpos : ∀ n : ℕ, 0 < n → (before n).sup s ≠ ⊤ ∧ (before n).sup s ≠ ⊥ := fun n hn =>
    sup_real _ s hs 0 ((mem_before n 0).mpr (by show 0 < 512 * n; omega)) h0
  rw [step _ _ (before_disjoint k) s v hs _ _ ?_ (hpos _ (Nat.succ_pos _)), ← before_succ]
  rcases Nat.eq_zero_or_pos k.val with h | h
  · exact Or.inl (by rw [h, before_zero])
  · exact Or.inr (hpos _ h)

/-- The keys past the tiles before `n`, all of score `⊥`, change nothing: the attention of the keys before tile `n`
    is the attention of all keys. -/
theorem close (n : ℕ) (hn : 0 < n) (s v : Fin 4096 → EReal) (hs : ∀ j, s j ≠ ⊤) (h0 : s 0 ≠ ⊥)
    (hlate : ∀ j : Fin 4096, 512 * n ≤ j.val → s j = ⊥) :
    Ideal.div (∑ j ∈ before n, Ideal.exp (s j - (before n).sup s) * v j)
        (∑ j ∈ before n, Ideal.exp (s j - (before n).sup s))
      = ∑ j, Ideal.div (Ideal.exp (s j - Finset.univ.sup s)) (∑ j, Ideal.exp (s j - Finset.univ.sup s)) * v j := by
  have hsup : Finset.univ.sup s = (before n).sup s := by
    apply le_antisymm
    · refine Finset.sup_le fun j _ => ?_
      by_cases h : j.val < 512 * n
      · exact Finset.le_sup ((mem_before n j).mpr h)
      · rw [hlate j (by omega)]; exact bot_le
    · exact Finset.sup_mono (Finset.subset_univ _)
  have hz : ∀ j ∉ before n, Ideal.exp (s j - (before n).sup s) = 0 := fun j hj => by
    rw [hlate j (by rw [mem_before] at hj; omega), EReal.bot_sub]; rfl
  have hm0 : (0 : Fin 4096) ∈ before n := (mem_before n 0).mpr (by show 0 < 512 * n; omega)
  have hM := sup_real (before n) s hs 0 hm0 h0
  have hL : ∑ j, Ideal.exp (s j - (before n).sup s) = ∑ j ∈ before n, Ideal.exp (s j - (before n).sup s) :=
    (Finset.sum_subset (Finset.subset_univ _) fun j _ hj => hz j hj).symm
  have hp := weights_pos (before n) s _ hM 0 hm0 ⟨hs 0, h0⟩
  rw [hsup, hL, div_sum _ _ v _ hp (weights_real _ s _ hM.2 hs)]
  refine Finset.sum_subset (Finset.subset_univ _) fun j _ hj => ?_
  rw [hz j hj]
  unfold Ideal.div
  rw [if_neg hp.ne', zero_mul, zero_mul]

end Cert.Fox

end
-- ==== Proof.Fox.Step.lean ====
module

public import proofs.«01_k».proof.Proof.Gen.KernelIdeal.Skeleton
public import proofs.«01_k».proof.Proof.Fox.Softmax
public import Idealize.ShloMosaic.Lib.Pointwise
public import Idealize.ShloMosaic.Lib.WordCmp

@[expose] public section

set_option maxRecDepth 16384

noncomputable section

namespace Cert.Fox

open Cert.KernelIdeal Cert.KernelIdeal.Gen Idealize.ShloMosaic Idealize.ShloMosaic.TcCoe Idealize.SL.Sem

variable (q k v : FVec Ideal S512x128 .bf16) (cq : FVec Ideal S1x512x1 .f32) (ck : FVec Ideal S1x1x512 .f32)
  (mx l : FVec Ideal S512x1 .f32) (acc : FVec Ideal S512x128 .f32)

/-- The score of query `r` of query tile `a` against key `c` of key tile `b`, from the tiles' contents: the product plus the
    query's cumulative gate less the key's, `⊥` where the key comes after the query. -/
def score (a b : ℕ) (r c : Fin 512) : EReal :=
  if b * 512 + c.val ≤ a * 512 + r.val then (∑ d : Fin 128, q (ix2 r d) * k (ix2 c d)) + cq (ix3 0 r 0) - ck (ix3 0 0 c) else ⊥

/-- The position word of lane `r` of tile `a`. -/
theorem pos_word (a r : ℕ) : IntOp.addi (Scalar.muli (BitVec.ofNat 32 a) 512#32) (BitVec.ofNat 32 r) = BitVec.ofNat 32 (a * 512 + r) := by
  rw [BitVec.ofNat_add, BitVec.ofNat_mul]; rfl

/-- The mask constant is `⊥`. -/
theorem mask_bot : Named.named (F := Ideal) (φ := .f32) κ "mask" 0xF149F2CA#32 = ⊥ :=
  IdealRules.named_const.ideal_named_scalar κ "mask" _ ⊥ rfl

/-- The word the maximum starts from is `⊥`. -/
theorem start_bot : Ideal.ofBits .f32 0xFF800000#32 = ⊥ := by simp [Ideal.ofBits, Ideal.ieee]

theorem pay8_apply (a b : ℕ) (ha : a < 8) (hb : b < 8) (r c : Fin 512) :
    k0_pay8 (F := Ideal) (BitVec.ofNat 32 a) (BitVec.ofNat 32 b) q k cq ck (ix2 r c) = score q k cq ck a b r c := by
  have hr := r.isLt
  have hc := c.isLt
  pointwise [k0_pay8]
  rw [pos_word, pos_word, mask_bot]
  simp (disch := omega) only [hlo_ix]
  rfl

theorem pay9_apply (a b : ℕ) (ha : a < 8) (hb : b < 8) (r : Fin 512) :
    k0_pay9 (F := Ideal) (BitVec.ofNat 32 a) (BitVec.ofNat 32 b) q k cq ck mx (ix2 r 0)
      = max (mx (ix2 r 0)) (Finset.univ.sup fun c => score q k cq ck a b r c) := by
  pointwise [k0_pay9]
  rw [start_bot]
  simp only [pay8_apply q k cq ck a b ha hb]
  rfl

theorem pay12_apply (a b : ℕ) (ha : a < 8) (hb : b < 8) (r : Fin 512) :
    k0_pay12 (F := Ideal) (BitVec.ofNat 32 a) (BitVec.ofNat 32 b) q k cq ck mx l (ix2 r 0)
      = Ideal.exp (mx (ix2 r 0) - max (mx (ix2 r 0)) (Finset.univ.sup fun c => score q k cq ck a b r c)) * l (ix2 r 0)
        + ∑ c, Ideal.exp (score q k cq ck a b r c - max (mx (ix2 r 0)) (Finset.univ.sup fun c => score q k cq ck a b r c)) := by
  pointwise [k0_pay12, k0_pay10, k0_pay11]
  simp only [pay8_apply q k cq ck a b ha hb, pay9_apply q k cq ck mx a b ha hb]

/-- The accumulator after a computed tile. -/
theorem pay5_apply (a b : ℕ) (ha : a < 8) (hb : b < 8) (r : Fin 512) (d : Fin 128) :
    k0_pay5 (F := Ideal) (k0_pay10 (F := Ideal) (BitVec.ofNat 32 a) (BitVec.ofNat 32 b) q k cq ck mx)
        (k0_pay11 (F := Ideal) (BitVec.ofNat 32 a) (BitVec.ofNat 32 b) q k cq ck mx) acc v (ix2 r d)
      = Ideal.exp (mx (ix2 r 0) - max (mx (ix2 r 0)) (Finset.univ.sup fun c => score q k cq ck a b r c)) * acc (ix2 r d)
        + ∑ c, Ideal.exp (score q k cq ck a b r c - max (mx (ix2 r 0)) (Finset.univ.sup fun c => score q k cq ck a b r c)) * v (ix2 c d) := by
  pointwise [k0_pay5, k0_pay10, k0_pay11]
  simp only [pay8_apply q k cq ck a b ha hb, pay9_apply q k cq ck mx a b ha hb]

/-- The block written back: the accumulator over the sum of weights. -/
theorem pay7_apply (r : Fin 512) (d : Fin 128) :
    k0_pay7 (F := Ideal) acc l (ix2 r d) = Ideal.div (acc (ix2 r d)) (l (ix2 r 0)) := by
  pointwise [k0_pay7]

theorem pay1_apply (r : Fin 512) : k0_pay1 (F := Ideal) (ix2 r 0) = ⊥ := by
  pointwise [k0_pay1]
  exact mask_bot

theorem pay2_apply (r : Fin 512) : k0_pay2 (F := Ideal) (ix2 r 0) = 0 := by
  pointwise [k0_pay2]

theorem pay3_apply (r : Fin 512) (d : Fin 128) : k0_pay3 (F := Ideal) (ix2 r d) = 0 := by
  pointwise [k0_pay3]

end Cert.Fox

end
-- ==== Proof.Fox.Reference.lean ====
module

public import proofs.«01_k».proof.Proof.Gen.ReferenceIdeal.Read
public import proofs.«01_k».proof.Proof.Fox.Softmax
public import Idealize.ShloMosaic.Lib.Pointwise
public import Idealize.ShloMosaic.Lib.WordCmp

@[expose] public section

set_option maxRecDepth 16384

noncomputable section

namespace Cert.Fox

open Cert.ReferenceIdeal Cert.ReferenceIdeal.Gen Cert.ReferenceIdeal.Read Idealize.ShloMosaic Idealize.ShloMosaic.TcCoe Idealize.SL.Sem

/-- Row of the flat arrays that holds position `i` of sequence `b`. -/
def row (b : Fin 2) (i : Fin 4096) : Fin 8192 := ⟨b.val * 4096 + i.val, by omega⟩

/-- Column of the flat arrays that holds lane `d` of head `h`. -/
def col (h : Fin 6) (d : Fin 128) : Fin 768 := ⟨h.val * 128 + d.val, by omega⟩

/-- Lane of the cumulative gates that holds head `h`. -/
def lane (h : Fin 6) : Fin 128 := ⟨h.val, by omega⟩

variable (x0 x1 x2 : FVec Ideal S8192x768 .bf16) (x3 : FVec Ideal S8192x128 .f32)

/-- The attention score of query `i` against key `j` in head `h` of sequence `b`, `⊥` where the key comes after the
    query. -/
def full (b : Fin 2) (h : Fin 6) (i j : Fin 4096) : EReal :=
  if j.val ≤ i.val then
    (∑ d : Fin 128, x0 (ix2 (row b i) (col h d)) * x1 (ix2 (row b j) (col h d))) + x3 (ix2 (row b i) (lane h)) - x3 (ix2 (row b j) (lane h))
  else ⊥

theorem neg_inf : Ideal.ofBits .f32 0xFF800000#32 = ⊥ := by simp [Ideal.ofBits, Ideal.ieee]

theorem ref_score (b : Fin 2) (h : Fin 6) (i j : Fin 4096) :
    val_main_v26 (F := Ideal) x0 x1 x3 (ix4 b h i j) = full x0 x1 x3 b h i j := by
  have hi := i.isLt
  have hj := j.isLt
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v5, val_main_v4, val_main_v3, val_main_v2, val_main_v1, val_main_v0, val_main_call0_v0, val_main_call0_v1, val_main_call0_v2, val_main_cst]
  refine (congrArg (Scalar.select _ _) neg_inf).trans ?_
  simp (disch := omega) only [hlo_ix]
  rfl

/-- The maximum over the keys of an array of scores. -/
theorem read_max (y : FVec Ideal S2x6x4096x4096 .f32) (z : FVec Ideal S_ .f32) (b : Fin 2) (h : Fin 6) (i : Fin 4096) :
    Host.reduce FloatOps.maximumf y z reducesTo_S2x6x4096x4096_S2x6x4096_d3 h_S_ (ix3 b h i)
      = Finset.univ.fold max (z (Shape.Idx.first h_S_)) fun j : Fin 4096 => y (ix4 b h i j) := by
  pointwise

theorem ref_max (b : Fin 2) (h : Fin 6) (i : Fin 4096) :
    val_main_v29 (F := Ideal) x0 x1 x3 (ix3 b h i) = Finset.univ.sup (full x0 x1 x3 b h i) := by
  rw [val_main_v29_apply, val_main_v28_apply, val_main_cst_1_apply]
  unfold val_main_v27
  rw [read_max, val_main_cst_0_apply]
  simp only [ref_score]
  exact (congrArg₂ max neg_inf (congrArg (fun e => Finset.univ.fold max e (full x0 x1 x3 b h i)) neg_inf)).trans (max_eq_right bot_le)

/-- The reference's result: the softmax weights against the values. -/
theorem ref_result (b : Fin 2) (h : Fin 6) (i : Fin 4096) (d : Fin 128) :
    val_main_v41 (F := Ideal) x0 x1 x2 x3 (ix2 (row b i) (col h d))
      = ∑ j, Ideal.div (Ideal.exp (full x0 x1 x3 b h i j - Finset.univ.sup (full x0 x1 x3 b h i)))
          (∑ j, Ideal.exp (full x0 x1 x3 b h i j - Finset.univ.sup (full x0 x1 x3 b h i))) * x2 (ix2 (row b j) (col h d)) := by
  pointwise [val_main_v41, val_main_v40, val_main_v39, val_main_v38, val_main_v37, val_main_v36, val_main_v35, val_main_v34, val_main_v33, val_main_v32, val_main_v31, val_main_v30, val_main_v8, val_main_v7, val_main_v6, val_main_cst_2]
  have h1 : (row b i).val / 4096 = b.val := by show (b.val * 4096 + i.val) / 4096 = b.val; omega
  have h2 : (row b i).val % 4096 = i.val := by show (b.val * 4096 + i.val) % 4096 = i.val; omega
  have h3 : (col h d).val / 128 = h.val := by show (h.val * 128 + d.val) / 128 = h.val; omega
  simp only [h1, h2, h3, Fin.eta, ref_score, ref_max]
  rfl

end Cert.Fox

end
-- ==== Proof.Fox.Blocks.lean ====
module

public import proofs.«01_k».proof.Proof.Gen.KernelIdeal.Value
public import proofs.«01_k».proof.Proof.Fox.Step
public import proofs.«01_k».proof.Proof.Fox.Reference
public import Idealize.ShloMosaic.Lib.Pointwise
public import Idealize.ShloMosaic.Lib.Pipeline.ValueKit
public import Idealize.ShloMosaic.Lib.Claim

@[expose] public section

set_option maxRecDepth 16384

noncomputable section

namespace Cert.Fox

open Cert.KernelIdeal Cert.KernelIdeal.Gen Idealize.ShloMosaic Idealize.ShloMosaic.TcCoe Idealize.SL.Sem

variable (m : (ℓ : Loc nD τ sig) → ℓ.ty.Contents (Elt Ideal)) (c : Dev nD)

/-- The blocks each grid point reads and writes. -/
theorem idx : ∀ t : Fin cfg0.N, win0_0.index t = ![t.val / 64 / 6 * 8 + t.val / 8 % 8, t.val / 64 % 6]
    ∧ win0_1.index t = ![t.val / 64 / 6 * 8 + min (t.val % 8) (t.val / 8 % 8), t.val / 64 % 6]
    ∧ win0_2.index t = ![t.val / 64 / 6 * 8 + min (t.val % 8) (t.val / 8 % 8), t.val / 64 % 6]
    ∧ win0_3.index t = ![t.val / 64, t.val / 8 % 8, 0]
    ∧ win0_4.index t = ![t.val / 64, 0, min (t.val % 8) (t.val / 8 % 8)]
    ∧ win0_5.index t = ![t.val / 64 / 6 * 8 + t.val / 8 % 8, t.val / 64 % 6] :=
  (by decide +kernel : ∀ t : Fin grid0.N, _)

theorem points (t : Fin cfg0.N) : t.val < 768 := lt_of_lt_of_eq t.isLt N_0

/-- The sequence, head and query position of a grid point's row. -/
def batch (t : Fin cfg0.N) : Fin 2 := ⟨t.val / 64 / 6, by have := points t; omega⟩
def head (t : Fin cfg0.N) : Fin 6 := ⟨t.val / 64 % 6, by omega⟩
def query (t : Fin cfg0.N) (r : Fin 512) : Fin 4096 := ⟨t.val / 8 % 8 * 512 + r.val, by omega⟩
def tileOf (t : Fin cfg0.N) : Fin 8 := ⟨t.val % 8, by omega⟩

theorem q_read (t : Fin cfg0.N) (r : Fin 512) (d : Fin 128) :
    iblk m c 0 t (ix2 r d) = m ((c : Thread nD τ).loc main_arg0) (ix2 (row (batch t) (query t r)) (col (head t) d)) := by
  unfold row col batch head query
  blk_ext [iblk, V, idx t]

theorem k_read (t : Fin cfg0.N) (h1 : t.val % 8 ≤ t.val / 8 % 8) (r : Fin 512) (d : Fin 128) :
    iblk m c 1 t (ix2 r d) = m ((c : Thread nD τ).loc main_arg1) (ix2 (row (batch t) (key (tileOf t) r)) (col (head t) d)) := by
  unfold row col batch head key tileOf
  blk_ext [iblk, V, idx t]

theorem v_read (t : Fin cfg0.N) (h1 : t.val % 8 ≤ t.val / 8 % 8) (r : Fin 512) (d : Fin 128) :
    iblk m c 2 t (ix2 r d) = m ((c : Thread nD τ).loc main_arg2) (ix2 (row (batch t) (key (tileOf t) r)) (col (head t) d)) := by
  unfold row col batch head key tileOf
  blk_ext [iblk, V, idx t]

/-- The cumulative gates as the host lays them out, by head and position. -/
theorem rows_read (y : FVec Ideal S8192x128 .f32) (p : Fin 12) (i : Fin 4096) :
    shapeCast S12x4096x1 (transpose S2x6x4096 [0, 2, 1]
        (shapeCast S2x4096x6 (extractStridedSlice S8192x6 ![0, 0] y slices_S8192x128_S8192x6_0_0) shapeCasts_S8192x6_S2x4096x6)
        transposes_S2x4096x6_S2x6x4096_0_2_1) shapeCasts_S2x6x4096_S12x4096x1 (ix3 p i 0)
      = y (ix2 ⟨p.val / 6 * 4096 + i.val, by omega⟩ ⟨p.val % 6, by omega⟩) := by
  have hp := p.isLt
  have hi := i.isLt
  pointwise

theorem lanes_read (y : FVec Ideal S8192x128 .f32) (p : Fin 12) (i : Fin 4096) :
    shapeCast S12x1x4096 (transpose S2x6x4096 [0, 2, 1]
        (shapeCast S2x4096x6 (extractStridedSlice S8192x6 ![0, 0] y slices_S8192x128_S8192x6_0_0) shapeCasts_S8192x6_S2x4096x6)
        transposes_S2x4096x6_S2x6x4096_0_2_1) shapeCasts_S2x6x4096_S12x1x4096 (ix3 p 0 i)
      = y (ix2 ⟨p.val / 6 * 4096 + i.val, by omega⟩ ⟨p.val % 6, by omega⟩) := by
  have hp := p.isLt
  have hi := i.isLt
  pointwise

theorem v3_read (p : Fin 12) (i : Fin 4096) :
    V m c main_v3 (ix3 p i 0) = m ((c : Thread nD τ).loc main_arg3) (ix2 ⟨p.val / 6 * 4096 + i.val, by omega⟩ ⟨p.val % 6, by omega⟩) := by
  entry_read
  exact rows_read _ p i

theorem v4_read (p : Fin 12) (i : Fin 4096) :
    V m c main_v4 (ix3 p 0 i) = m ((c : Thread nD τ).loc main_arg3) (ix2 ⟨p.val / 6 * 4096 + i.val, by omega⟩ ⟨p.val % 6, by omega⟩) := by
  entry_read
  exact lanes_read _ p i

theorem cq_read (t : Fin cfg0.N) (r : Fin 512) :
    iblk m c 3 t (ix3 0 r 0) = m ((c : Thread nD τ).loc main_arg3) (ix2 (row (batch t) (query t r)) (lane (head t))) := by
  have hN := points t
  refine Eq.trans ?_ (v3_read m c ⟨t.val / 64, by omega⟩ (query t r))
  unfold query
  blk_ext [iblk, idx t]

theorem ck_read (t : Fin cfg0.N) (h1 : t.val % 8 ≤ t.val / 8 % 8) (r : Fin 512) :
    iblk m c 4 t (ix3 0 0 r) = m ((c : Thread nD τ).loc main_arg3) (ix2 (row (batch t) (key (tileOf t) r)) (lane (head t))) := by
  have hN := points t
  refine Eq.trans ?_ (v4_read m c ⟨t.val / 64, by omega⟩ (key (tileOf t) r))
  unfold key tileOf
  blk_ext [iblk, idx t]

/-- The row of attention scores of query row `r` at grid point `t`. -/
def scores (t : Fin cfg0.N) (r : Fin 512) : Fin 4096 → EReal :=
  full (m ((c : Thread nD τ).loc main_arg0)) (m ((c : Thread nD τ).loc main_arg1)) (m ((c : Thread nD τ).loc main_arg3)) (batch t) (head t) (query t r)

/-- A computed tile's scores are the row's scores at its keys. -/
theorem score_read (t : Fin cfg0.N) (h1 : t.val % 8 ≤ t.val / 8 % 8) (r b : Fin 512) :
    score (iblk m c 0 t) (iblk m c 1 t) (iblk m c 3 t) (iblk m c 4 t) (t.val / 8 % 8) (t.val % 8) r b = scores m c t r (key (tileOf t) b) := by
  unfold score scores full
  rw [cq_read m c t r, ck_read m c t h1 b]
  simp only [q_read m c t, k_read m c t h1]
  rfl

end Cert.Fox

end
-- ==== Proof.Fox.State.lean ====
module

public import proofs.«01_k».proof.Proof.Fox.Blocks

@[expose] public section

set_option maxRecDepth 16384

noncomputable section

namespace Cert.Fox

open Cert.KernelIdeal Cert.KernelIdeal.Gen Idealize.ShloMosaic Idealize.ShloMosaic.TcCoe Idealize.SL.Sem

variable (m : (ℓ : Loc nD τ sig) → ℓ.ty.Contents (Elt Ideal)) (c : Dev nD)

/-- Column `d` of the values at grid point `t`, by key. -/
def vals (t : Fin cfg0.N) (d : Fin 128) (j : Fin 4096) : EReal := m ((c : Thread nD τ).loc main_arg2) (ix2 (row (batch t) j) (col (head t) d))

/-- The scratch buffers after `n` key tiles: the maximum of the scores so far, the sum of weights against it, and the weighted
    sum of values. -/
def Holds (n : ℕ) (t : Fin cfg0.N) (mx l : FVec Ideal S512x1 .f32) (acc : FVec Ideal S512x128 .f32) : Prop :=
  (∀ r, mx (ix2 r 0) = (before n).sup (scores m c t r))
  ∧ (∀ r, l (ix2 r 0) = ∑ j ∈ before n, Ideal.exp (scores m c t r j - (before n).sup (scores m c t r)))
  ∧ ∀ r d, acc (ix2 r d) = ∑ j ∈ before n, Ideal.exp (scores m c t r j - (before n).sup (scores m c t r)) * vals m c t d j

theorem start_holds (t : Fin cfg0.N) : Holds m c 0 t (k0_pay1 (F := Ideal)) (k0_pay2 (F := Ideal)) (k0_pay3 (F := Ideal)) := by
  refine ⟨fun r => ?_, fun r => ?_, fun r d => ?_⟩
  · rw [pay1_apply, before_zero, Finset.sup_empty]
  · rw [pay2_apply, before_zero, Finset.sum_empty]
  · rw [pay3_apply, before_zero, Finset.sum_empty]

/-- What the scores need for the running sums to be exact: none is `⊤`, and key 0's is not `⊥`. -/
def Real (t : Fin cfg0.N) : Prop := (∀ r j, scores m c t r j ≠ ⊤) ∧ ∀ r, scores m c t r 0 ≠ ⊥

theorem coord : ∀ t : Fin cfg0.N, (grid0.coords t 1).val = t.val / 8 % 8 ∧ (grid0.coords t 2).val = t.val % 8 :=
  (by decide +kernel : ∀ t : Fin grid0.N, _)

/-- Consecutive points of one query tile share the rows of scores. -/
theorem holds_next (k : ℕ) (t t' : Fin cfg0.N) (h : t'.val / 8 = t.val / 8) (mx l : FVec Ideal S512x1 .f32) (acc : FVec Ideal S512x128 .f32)
    (hh : Holds m c k t' mx l acc) : Holds m c k t mx l acc := by
  have h64 : t'.val / 64 = t.val / 64 := by omega
  have e1 : batch t' = batch t := Fin.ext (by show t'.val / 64 / 6 = t.val / 64 / 6; rw [h64])
  have e2 : head t' = head t := Fin.ext (by show t'.val / 64 % 6 = t.val / 64 % 6; rw [h64])
  have e3 : query t' = query t := funext fun r => Fin.ext (by show t'.val / 8 % 8 * 512 + r.val = t.val / 8 % 8 * 512 + r.val; rw [h])
  unfold Holds scores vals at hh ⊢
  rw [e1, e2, e3] at hh
  exact hh

theorem step_holds (t : Fin cfg0.N) (h1 : t.val % 8 ≤ t.val / 8 % 8) (hr : Real m c t)
    (mx l : FVec Ideal S512x1 .f32) (acc : FVec Ideal S512x128 .f32) (h : Holds m c (t.val % 8) t mx l acc) :
    Holds m c (t.val % 8 + 1) t
      (k0_pay6 (F := Ideal) (k0_pay9 (F := Ideal) (BitVec.ofNat 32 (grid0.coords t 1).val) (BitVec.ofNat 32 (grid0.coords t 2).val) (iblk m c 0 t) (iblk m c 1 t) (iblk m c 3 t) (iblk m c 4 t) mx))
      (k0_pay4 (F := Ideal) (k0_pay12 (F := Ideal) (BitVec.ofNat 32 (grid0.coords t 1).val) (BitVec.ofNat 32 (grid0.coords t 2).val) (iblk m c 0 t) (iblk m c 1 t) (iblk m c 3 t) (iblk m c 4 t) mx l))
      (k0_pay5 (F := Ideal) (k0_pay10 (F := Ideal) (BitVec.ofNat 32 (grid0.coords t 1).val) (BitVec.ofNat 32 (grid0.coords t 2).val) (iblk m c 0 t) (iblk m c 1 t) (iblk m c 3 t) (iblk m c 4 t) mx)
        (k0_pay11 (F := Ideal) (BitVec.ofNat 32 (grid0.coords t 1).val) (BitVec.ofNat 32 (grid0.coords t 2).val) (iblk m c 0 t) (iblk m c 1 t) (iblk m c 3 t) (iblk m c 4 t) mx) acc (iblk m c 2 t)) := by
  obtain ⟨hm, hl, ha⟩ := h
  rw [(coord t).1, (coord t).2]
  have k1 : t.val / 8 % 8 < 8 := by omega
  have k2 : t.val % 8 < 8 := by omega
  have hk : ∀ r, (fun b => score (iblk m c 0 t) (iblk m c 1 t) (iblk m c 3 t) (iblk m c 4 t) (t.val / 8 % 8) (t.val % 8) r b)
      = fun b => scores m c t r (key (tileOf t) b) := fun r => funext fun b => score_read m c t h1 r b
  have hM : ∀ r, max (mx (ix2 r 0)) (Finset.univ.sup fun b => score (iblk m c 0 t) (iblk m c 1 t) (iblk m c 3 t) (iblk m c 4 t) (t.val / 8 % 8) (t.val % 8) r b)
      = (before (t.val % 8 + 1)).sup (scores m c t r) := fun r => by
    rw [hk r, hm r]; exact (sup_step (tileOf t) (scores m c t r)).symm
  refine ⟨fun r => ?_, fun r => ?_, fun r d => ?_⟩
  · refine Eq.trans ?_ ((pay9_apply _ _ _ _ mx (t.val / 8 % 8) (t.val % 8) k1 k2 r).trans (hM r))
    pointwise [k0_pay6]
  · rw [show ∀ x : FVec Ideal S512x1 .f32, k0_pay4 (F := Ideal) x (ix2 r 0) = x (ix2 r 0) from fun x => by pointwise [k0_pay4]]
    rw [pay12_apply _ _ _ _ mx l (t.val / 8 % 8) (t.val % 8) k1 k2 r, hM r, hm r, hl r]
    have e := sum_step (tileOf t) (scores m c t r) (fun _ => 1) (hr.1 r) (hr.2 r)
    simp only [mul_one] at e
    simp only [score_read m c t h1]
    exact e
  · rw [pay5_apply _ _ _ _ _ mx acc (t.val / 8 % 8) (t.val % 8) k1 k2 r d, hM r, hm r, ha r d]
    simp only [score_read m c t h1, v_read m c t h1]
    exact sum_step (tileOf t) (scores m c t r) (vals m c t d) (hr.1 r) (hr.2 r)

theorem scratch0 (x : FVec Ideal S512x1 .f32) :
    View.read (Elt Ideal) (View.whole cc0_scratch0) ((Memref.isWhole_whole cc0_scratch0).unread x) = x :=
  (Memref.isWhole_whole cc0_scratch0).read_unread (Val := Elt Ideal) x

theorem scratch1 (x : FVec Ideal S512x1 .f32) :
    View.read (Elt Ideal) (View.whole cc0_scratch1) ((Memref.isWhole_whole cc0_scratch1).unread x) = x :=
  (Memref.isWhole_whole cc0_scratch1).read_unread (Val := Elt Ideal) x

theorem scratch2 (x : FVec Ideal S512x128 .f32) :
    View.read (Elt Ideal) (View.whole cc0_scratch2) ((Memref.isWhole_whole cc0_scratch2).unread x) = x :=
  (Memref.isWhole_whole cc0_scratch2).read_unread (Val := Elt Ideal) x

/-- What grid point `t` leaves in the scratch buffers. -/
theorem state (hr : ∀ t, Real m c t) (n : ℕ) : ∀ h : n < cfg0.N, Holds m c (min (n % 8) (n / 8 % 8) + 1) ⟨n, h⟩
    (outsAt0 m c n h).2.1 (outsAt0 m c n h).2.2.1 (outsAt0 m c n h).2.2.2 := by
  induction n using Nat.strong_induction_on with
  | _ n ih =>
    intro h
    generalize ht : (⟨n, h⟩ : Fin cfg0.N) = t
    have hn : t.val = n := by rw [← ht]
    subst hn
    by_cases h0 : t.val % 8 = 0
    · have h1 : t.val % 8 ≤ t.val / 8 % 8 := by omega
      rw [outsAt0_A m c t h0 h1 (by omega)]
      frame_out
      rw [Nat.min_eq_left h1]
      refine step_holds m c t h1 (hr t) _ _ _ ?_
      rw [h0]
      exact start_holds m c t
    · have hp := holds_next m c _ t ⟨t.val - 1, by omega⟩ (by show (t.val - 1) / 8 = t.val / 8; omega) _ _ _ (ih (t.val - 1) (by omega) (by omega))
      have hd : (t.val - 1) / 8 % 8 = t.val / 8 % 8 := by omega
      have hm : (t.val - 1) % 8 + 1 = t.val % 8 := by omega
      rw [hd] at hp
      by_cases h1 : t.val % 8 ≤ t.val / 8 % 8
      · rw [Nat.min_eq_left (by omega), hm] at hp
        rw [Nat.min_eq_left h1]
        by_cases h2 : t.val % 8 = 7
        · rw [outsAt0_E m c t h0 h1 h2]
          frame_out
          refine step_holds m c t h1 (hr t) _ _ _ ?_
          rw [scratch0, scratch1, scratch2]
          exact hp
        · rw [outsAt0_D m c t h0 h1 h2]
          frame_out
          refine step_holds m c t h1 (hr t) _ _ _ ?_
          rw [scratch0, scratch1, scratch2]
          exact hp
      · rw [Nat.min_eq_right (by omega)] at hp ⊢
        by_cases h2 : t.val % 8 = 7
        · rw [outsAt0_C m c t h0 h1 h2]
          frame_out
          exact hp
        · rw [outsAt0_B m c t h0 h1 h2]
          frame_out
          exact hp

/-- The block written back divides the weighted sum by the sum of weights. -/
theorem out_read (t : Fin cfg0.N) (h2 : t.val % 8 = 7) (r : Fin 512) (d : Fin 128) :
    (outsAt0 m c t.val t.isLt).1 (ix2 r d)
      = Ideal.div ((outsAt0 m c t.val t.isLt).2.2.2 (ix2 r d)) ((outsAt0 m c t.val t.isLt).2.2.1 (ix2 r 0)) := by
  have h0 : ¬t.val % 8 = 0 := by omega
  by_cases h1 : t.val % 8 ≤ t.val / 8 % 8
  · rw [outsAt0_E m c t h0 h1 h2]
    frame_out
    exact pay7_apply _ _ r d
  · have ha : (outsAt0 m c t.val t.isLt).2.2.2 = (outsAt0 m c (t.val - 1) (by omega)).2.2.2 := by
      rw [outsAt0_C m c t h0 h1 h2]
      frame_out
      rfl
    have hl : (outsAt0 m c t.val t.isLt).2.2.1 = (outsAt0 m c (t.val - 1) (by omega)).2.2.1 := by
      rw [outsAt0_C m c t h0 h1 h2]
      frame_out
      rfl
    rw [ha, hl, outsAt0_C m c t h0 h1 h2]
    frame_out
    rw [scratch1, scratch2]
    exact pay7_apply _ _ r d

/-- The block written back at a query tile's last point is the reference's attention of its rows. -/
theorem out_value (hr : ∀ t, Real m c t) (t : Fin cfg0.N) (h2 : t.val % 8 = 7) (r : Fin 512) (d : Fin 128) :
    (outsAt0 m c t.val t.isLt).1 (ix2 r d)
      = ∑ j, Ideal.div (Ideal.exp (scores m c t r j - Finset.univ.sup (scores m c t r)))
          (∑ j, Ideal.exp (scores m c t r j - Finset.univ.sup (scores m c t r))) * vals m c t d j := by
  obtain ⟨-, hl, ha⟩ := state m c hr t.val t.isLt
  rw [out_read m c t h2 r d, hl r, ha r d]
  refine close _ (Nat.succ_pos _) (scores m c t r) (vals m c t d) ((hr t).1 r) ((hr t).2 r) fun j hj => ?_
  rw [Nat.min_eq_right (by omega)] at hj
  refine if_neg ?_
  show ¬j.val ≤ t.val / 8 % 8 * 512 + r.val
  omega

/-- The kernel's array after the run is the reference's result. -/
theorem kernel_array (hr : ∀ t, Real m c t) : (dats m 0 c).arrAt 5 cfg0.N
    = Cert.ReferenceIdeal.Read.val_main_v41 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  have h2 := (flush0_5 t).mp hf
  blk_simp
  rw [after0_5]
  idx_vars y
  refine (out_value m c hr t h2 _ _).trans ?_
  refine (ref_result _ _ _ _ (batch t) (head t) (query t _) _).symm.trans ?_
  unfold row col batch head query
  blk_ext [idx t]

end Cert.Fox

end
-- ==== Proof.Fox.Domain.lean ====
module

public import proofs.«01_k».proof.Pre_logits_real
public import proofs.«01_k».proof.Proof.Fox.State

@[expose] public section

set_option maxRecDepth 16384

noncomputable section

namespace Cert.Fox

open Idealize.ShloMosaic Idealize.ShloMosaic.TcCoe Idealize.SL.Sem

theorem low16 : Ideal.ofBits .bf16 0xFF80#16 = ⊥ := by simp [Ideal.ofBits, Ideal.ieee]
theorem high16 : Ideal.ofBits .bf16 0x7F80#16 = ⊤ := by simp [Ideal.ofBits, Ideal.ieee]
theorem high32 : Ideal.ofBits .f32 0x7F800000#32 = ⊤ := by simp [Ideal.ofBits, Ideal.ieee]

theorem both (x y : BitVec 1) (h : IntOp.andi x y = 1#1) : x = 1#1 ∧ y = 1#1 := by
  revert x y
  decide

theorem holds_bit (p : Prop) [Decidable p] (h : BitVec.ofBool (decide p) = 1#1) : p := by
  by_contra hp
  rw [decide_eq_false hp] at h
  exact absurd h (by decide)

/-- A word strictly between the infinities, as the comparisons say it. -/
theorem between (x lo hi : EReal) (hlo : lo = ⊥) (hhi : hi = ⊤)
    (h : IntOp.andi (BitVec.ofBool (decide (lo < x))) (BitVec.ofBool (decide (x < hi))) = 1#1) : x ≠ ⊤ ∧ x ≠ ⊥ := by
  obtain ⟨h1, h2⟩ := both _ _ h
  have h1 := holds_bit _ h1
  have h2 := holds_bit _ h2
  rw [hlo] at h1
  rw [hhi] at h2
  exact ⟨h2.ne, h1.ne'⟩

section
open Cert.Pre_logits_real

variable [Facts] (x0 x1 x2 : FVec Ideal S8192x768 .bf16) (x3 : FVec Ideal S8192x128 .f32)
  (h : fn (F := Ideal) x0 x1 x2 x3 = fun _ => 1#1)

include h

theorem pre_qk (r : Fin 8192) (k : Fin 768) :
    (x0 (ix2 r k) ≠ ⊤ ∧ x0 (ix2 r k) ≠ ⊥) ∧ x1 (ix2 r k) ≠ ⊤ ∧ x1 (ix2 r k) ≠ ⊥ := by
  have hk := k.isLt
  have e := congrFun h (ix2 r (⟨k.val, by omega⟩ : Fin 774))
  pointwise [fn] at e
  obtain ⟨e1, e2⟩ := both _ _ e
  exact ⟨between _ _ _ low16 high16 e1, between _ _ _ low16 high16 e2⟩

theorem pre_cum (r : Fin 8192) (k : Fin 6) : x3 (ix2 r ⟨k.val, by omega⟩) ≠ ⊤ ∧ x3 (ix2 r ⟨k.val, by omega⟩) ≠ ⊥ := by
  have hk := k.isLt
  have e := congrFun h (ix2 r (⟨768 + k.val, by omega⟩ : Fin 774))
  pointwise [fn] at e
  exact between _ _ _ neg_inf high32 e

/-- Under the precondition no score is `⊤`, and none of an unmasked key is `⊥`. -/
theorem full_real (b : Fin 2) (hd : Fin 6) (i : Fin 4096) :
    (∀ j, full x0 x1 x3 b hd i j ≠ ⊤) ∧ full x0 x1 x3 b hd i 0 ≠ ⊥ := by
  have hv : ∀ j : Fin 4096, (∑ d : Fin 128, x0 (ix2 (row b i) (col hd d)) * x1 (ix2 (row b j) (col hd d))) + x3 (ix2 (row b i) (lane hd)) - x3 (ix2 (row b j) (lane hd)) ≠ ⊤
      ∧ (∑ d : Fin 128, x0 (ix2 (row b i) (col hd d)) * x1 (ix2 (row b j) (col hd d))) + x3 (ix2 (row b i) (lane hd)) - x3 (ix2 (row b j) (lane hd)) ≠ ⊥ := by
    intro j
    have hs := sum_real Finset.univ (fun d : Fin 128 => x0 (ix2 (row b i) (col hd d)) * x1 (ix2 (row b j) (col hd d))) fun d _ =>
      mul_real _ _ (pre_qk x0 x1 x2 x3 h (row b i) (col hd d)).1 (pre_qk x0 x1 x2 x3 h (row b j) (col hd d)).2
    have hi := pre_cum x0 x1 x2 x3 h (row b i) hd
    have hj := pre_cum x0 x1 x2 x3 h (row b j) hd
    unfold lane
    revert hs hi hj
    generalize (∑ d : Fin 128, x0 (ix2 (row b i) (col hd d)) * x1 (ix2 (row b j) (col hd d))) = s
    generalize x3 (ix2 (row b i) ⟨hd.val, _⟩) = u
    generalize x3 (ix2 (row b j) ⟨hd.val, _⟩) = w
    intro hs hi hj
    lift s to ℝ using hs
    lift u to ℝ using hi
    lift w to ℝ using hj
    rw [← EReal.coe_add, ← EReal.coe_sub]
    exact ⟨EReal.coe_ne_top _, EReal.coe_ne_bot _⟩
  constructor
  · intro j
    unfold full
    split_ifs
    · exact (hv j).1
    · exact bot_ne_top
  · unfold full
    rw [if_pos (show (0 : Fin 4096).val ≤ i.val from Nat.zero_le _)]
    exact (hv 0).2

end

/-- The precondition gives every grid point's rows real scores. -/
theorem real_of_pre [Cert.Pre_logits_real.Facts] (m : (ℓ : Loc Cert.KernelIdeal.nD Cert.KernelIdeal.τ Cert.KernelIdeal.sig) → ℓ.ty.Contents (Elt Ideal))
    (c : Dev Cert.KernelIdeal.nD)
    (h : Cert.Pre_logits_real.fn (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)) = fun _ => 1#1) (t) : Real m c t :=
  ⟨fun r => (full_real _ _ _ _ h (batch t) (head t) (query t r)).1, fun r => (full_real _ _ _ _ h (batch t) (head t) (query t r)).2⟩

end Cert.Fox

end
-- ==== Proof.Fox.Claim.lean ====
module

public import proofs.«01_k».proof.Defs
public import proofs.«01_k».proof.Proof.Gen.KernelIdeal.Frame
public import proofs.«01_k».proof.Proof.Gen.ReferenceIdeal
public import proofs.«01_k».proof.Proof.Fox.Domain
public import Idealize.ShloMosaic.Lib.Claim

@[expose] public section

set_option maxRecDepth 16384

noncomputable section

namespace Cert.Fox

open Idealize.ShloMosaic Idealize.ShloMosaic.TcCoe Idealize.SL.Sem

theorem pre_facts : Cert.Pre_logits_real.Facts where
  bcast_S_S8192x768 := by decide
  slices_S8192x128_S8192x6_0_0 := by decide
  bcast_S_S8192x6 := by decide
  concatenates_S8192x768_S8192x6_S8192x774_d1 := by decide

/-- The kernel's attention is the reference's at every argument with real logits. -/
theorem algebraic : Cert.algebraic_KernelIdeal_ReferenceIdeal_pre_logits_real (hKernelIdeal := Cert.KernelIdeal.Gen.facts)
    (hReferenceIdeal := Cert.ReferenceIdeal.Gen.facts) (hPre_logits_real := pre_facts) := by
  pair_intro
  · run_from Cert.KernelIdeal.Gen.run_main m g
  · run_from Cert.ReferenceIdeal.Value.run m' g'
    obtain ⟨e0, e1, e2, e3⟩ := hagree c
    refine ((Cert.ReferenceIdeal.Read.val_main_v41_eq m' c).trans ?_).trans (kernel_array m c (@real_of_pre pre_facts m c (hpre c))).symm
    rw [e0, e1, e2, e3]

theorem frame_reference : Cert.quiescent_ReferenceIdeal (hReferenceIdeal := Cert.ReferenceIdeal.Gen.facts) := by
  intro m g _
  refine (θ_run _ _ _).mono (fun r h => ⟨fun c => (h c).2, sem_eq_zero_of_no_sems (by decide) r.2⟩) (Cert.ReferenceIdeal.Value.run m g)

end Cert.Fox

end
-- ==== Proof.FoxPrep.Cell.lean ====
module

public import Idealize.ShloMosaic.Lib.Pointwise
public import Idealize.ShloMosaic.Lib.IdealHost
public import Idealize.ShloMosaic.Lib.Pipeline.ValueKit

@[expose] public section

set_option maxRecDepth 16384

noncomputable section

namespace Cert.FoxPrep

open Idealize.ShloMosaic

/-- A row divided by the root of its mean square, then weighted by `g`. -/
def normed (v : Fin 128 → EReal) (g : EReal) (d : Fin 128) : EReal :=
  v d * Ideal.rsqrt (Ideal.div (∑ c, v c * v c) (Ideal.ofBits .f32 0x43000000#32) + Ideal.ofBits .f32 0x358637BD#32) * g

/-- The logarithm of a forget gate, from the gate before its squashing. -/
def logGate (x : EReal) : EReal := 0 - (max (0 - x) 0 + Ideal.log (1 + Ideal.exp (0 - max (0 - x) (-(0 - x)))))

/-- The gates' bias: six entries, then zeros. -/
def bias (b : Fin 6 → EReal) (h : Fin 128) : EReal := if k : h.val < 6 then b ⟨h.val, k⟩ else 0

/-- Entry `d` of head `h` as a column. -/
def col (h : Fin 6) (d : Fin 128) : Fin 768 := ⟨128 * h.val + d.val, by omega⟩

theorem col_zero (d : Fin 128) : col 0 d = ⟨d.val, by omega⟩ := Fin.ext (Nat.zero_add _)

/-- The terms up to position `p`, summed. -/
theorem masked_sum (N : ℕ) (p : Fin N) (L : ℕ → EReal) : ∑ s : Fin N, (if s ≤ p then L s.val else 0) = ∑ s ∈ Finset.range (p.val + 1), L s := by
  have e := Fin.sum_univ_eq_sum_range (fun s => if s ≤ p.val then L s else 0) N
  refine Eq.trans (Finset.sum_congr rfl fun s _ => ?_) (e.trans ?_)
  · rfl
  · rw [← Finset.sum_filter]
    refine Finset.sum_congr (Finset.ext fun s => ?_) fun _ _ => rfl
    have hp := p.isLt
    simp only [Finset.mem_filter, Finset.mem_range]
    omega

/-- The sum of the terms before tile `j` and of tile `j`'s terms up to `p`. -/
theorem tile_sum (j : ℕ) (p : Fin 256) (L : ℕ → EReal) :
    (∑ s : Fin 256, (if s ≤ p then L (256 * j + s.val) else 0)) + ∑ s ∈ Finset.range (256 * j), L s = ∑ s ∈ Finset.range (256 * j + p.val + 1), L s := by
  rw [masked_sum 256 p fun s => L (256 * j + s), add_comm, show 256 * j + p.val + 1 = 256 * j + (p.val + 1) by omega]
  exact (Finset.sum_range_add L (256 * j) (p.val + 1)).symm

end Cert.FoxPrep

end
-- ==== Proof.FoxPrep.Step.lean ====
module

public import proofs.«01_k».proof.Proof.Gen.KernelFoxPrepIdeal.Value
public import proofs.«01_k».proof.Proof.FoxPrep.Cell
public import Idealize.ShloMosaic.Lib.WordCmp

@[expose] public section

set_option maxRecDepth 16384

noncomputable section

namespace Cert.FoxPrep

open Cert.KernelFoxPrepIdeal Cert.KernelFoxPrepIdeal.Gen Idealize.ShloMosaic Idealize.ShloMosaic.TcCoe Idealize.SL.Sem

section heads

variable (x : FVec Ideal S256x128 .f32) (g : FVec Ideal S1x128 .f32)

/-- One head of the queries and one of the keys. -/
def queryHead : FVec Ideal S256x128 .bf16 := k0_pay5 (k0_pay3 x g)
def keyHead : FVec Ideal S256x128 .bf16 := k0_pay6 x (k0_pay4 x) g

theorem query_apply (r : Fin 256) (d : Fin 128) :
    queryHead x g (ix2 r d) = normed (fun c => x (ix2 r c)) (g (ix2 0 d)) d * Ideal.ofBits .f32 0x3DB504F3#32 := by
  pointwise [queryHead, k0_pay5, k0_pay3]
  rfl

theorem key_apply (r : Fin 256) (d : Fin 128) : keyHead x g (ix2 r d) = normed (fun c => x (ix2 r c)) (g (ix2 0 d)) d := by
  pointwise [keyHead, k0_pay6, k0_pay4]
  rfl

end heads

section pieces

variable (b : FVec Ideal S256x768 .f32) (g : FVec Ideal S1x128 .f32)

theorem at_head (v : FVec Ideal S256x128 .f32) (f : FVec Ideal S256x128 .bf16) (w : (Fin 128 → EReal) → EReal → Fin 128 → EReal)
    (hf : ∀ r d, f (ix2 r d) = w (fun c => v (ix2 r c)) (g (ix2 0 d)) d) (o : ℕ) (H : Fin 6) (ho : o = 128 * H.val)
    (hv : ∀ r d, v (ix2 r d) = b (ix2 r (col H d))) (h : Fin 6) (r : Fin 256) (d : Fin 128) (x : S256x128.Idx)
    (e0 : r.val = (x 0).val) (e1 : 128 * h.val + d.val = o + (x 1).val) : f x = w (fun c => b (ix2 r (col h c))) (g (ix2 0 d)) d := by
  have l1 : (x 1).val < 128 := (x 1).isLt
  obtain rfl : h = H := Fin.ext (by omega)
  obtain rfl : x = ix2 r d := by
    funext a
    match a with
    | ⟨0, _⟩ => exact Fin.ext e0.symm
    | ⟨1, _⟩ => exact Fin.ext (show (x 1).val = d.val by omega)
  refine (hf r d).trans ?_
  simp only [hv]

/-- Entry `d` of head `h` of a block's queries and keys. -/
def query (h : Fin 6) (r : Fin 256) (d : Fin 128) : EReal := normed (fun c => b (ix2 r (col h c))) (g (ix2 0 d)) d * Ideal.ofBits .f32 0x3DB504F3#32
def key (h : Fin 6) (r : Fin 256) (d : Fin 128) : EReal := normed (fun c => b (ix2 r (col h c))) (g (ix2 0 d)) d

theorem query_piece (v : FVec Ideal S256x128 .f32) (o : ℕ) (H : Fin 6) (ho : o = 128 * H.val) (hv : ∀ r d, v (ix2 r d) = b (ix2 r (col H d)))
    (h : Fin 6) (r : Fin 256) (d : Fin 128) (x : S256x128.Idx) (e0 : r.val = (x 0).val) (e1 : 128 * h.val + d.val = o + (x 1).val) :
    queryHead v g x = query b g h r d :=
  at_head b g v (queryHead v g) (fun v g d => normed v g d * Ideal.ofBits .f32 0x3DB504F3#32) (query_apply v g) o H ho hv h r d x e0 e1

theorem key_piece (v : FVec Ideal S256x128 .f32) (o : ℕ) (H : Fin 6) (ho : o = 128 * H.val) (hv : ∀ r d, v (ix2 r d) = b (ix2 r (col H d)))
    (h : Fin 6) (r : Fin 256) (d : Fin 128) (x : S256x128.Idx) (e0 : r.val = (x 0).val) (e1 : 128 * h.val + d.val = o + (x 1).val) :
    keyHead v g x = key b g h r d :=
  at_head b g v (keyHead v g) normed (key_apply v g) o H ho hv h r d x e0 e1

end pieces

section gates

variable (f : FVec Ideal S256x128 .f32) (b s : FVec Ideal S1x128 .f32)

/-- A truth value as a number. -/
theorem truth (b : Bool) : (FloatOps.sitofp .f32 (BitVec.setWidth 32 (BitVec.ofBool b)) : Ideal .f32) = if b then (1 : EReal) else 0 := by
  show (((BitVec.setWidth 32 (BitVec.ofBool b)).toInt : ℝ) : EReal) = _
  cases b <;> simp

theorem cum_apply (r : Fin 256) (h : Fin 128) :
    k0_pay27 (F := Ideal) f b s (ix2 r h) = (∑ q : Fin 256, if q ≤ r then logGate (f (ix2 q h) + b (ix2 0 h)) else 0) + s (ix2 0 h) := by
  pointwise [k0_pay27]
  refine congrArg (· + s (ix2 0 h)) (Finset.sum_congr rfl fun q _ => ?_)
  rw [WordCmp.cmpi_sge_ofNat (by omega) (by omega), truth]
  by_cases hq : q.val ≤ r.val
  · rw [if_pos (show q ≤ r from hq), decide_eq_true hq, if_pos rfl, one_mul]
    rfl
  · rw [if_neg (show ¬q ≤ r from hq), decide_eq_false hq, if_neg Bool.false_ne_true, zero_mul]

theorem carry_apply (h : Fin 128) : k0_pay1 (F := Ideal) (k0_pay28 f b s) (ix2 0 h) = k0_pay27 f b s (ix2 255 h) := by
  pointwise [k0_pay1, k0_pay28]
  try rfl

theorem start_apply (h : Fin 128) : k0_pay2 (F := Ideal) (ix2 0 h) = 0 := by
  pointwise [k0_pay2]

end gates

end Cert.FoxPrep

end
-- ==== Proof.FoxPrep.Reference.lean ====
module

public import proofs.«01_k».proof.Proof.Gen.ReferenceFoxPrepIdeal.Read
public import proofs.«01_k».proof.Proof.FoxPrep.Cell
public import Idealize.ShloMosaic.Lib.WordCmp

@[expose] public section

set_option maxRecDepth 16384

noncomputable section

namespace Cert.FoxPrep

open Cert.ReferenceFoxPrepIdeal Cert.ReferenceFoxPrepIdeal.Read Idealize.ShloMosaic Idealize.ShloMosaic.TcCoe Idealize.SL.Sem

variable (x0 : FVec Ideal S8192x6144 .f32) (x1 x2 : FVec Ideal S128 .f32) (x3 : FVec Ideal S6 .f32)

/-- Head `h` of row `r` of a group of columns that starts at `o`. -/
def entry (o : ℕ) (ho : o ≤ 5376) (r : Fin 8192) (h : Fin 6) (d : Fin 128) : EReal := x0 (ix2 r ⟨o + (h.val * 128 + d.val), by omega⟩)

theorem ref_query_head (r : Fin 8192) (h : Fin 6) (d : Fin 128) :
    val_main_v16 (F := Ideal) x0 x1 (ix3 r h d) = normed (entry x0 2304 (by omega) r h) (x1 (ix1 d)) d * Ideal.ofBits .f32 0x3DB504F3#32 := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_cst_2, val_main_v15, val_main_v16]
  rfl

theorem ref_key_head (r : Fin 8192) (h : Fin 6) (d : Fin 128) :
    val_main_v31 (F := Ideal) x0 x2 (ix3 r h d) = normed (entry x0 3072 (by omega) r h) (x2 (ix1 d)) d := by
  pointwise [val_main_v17, val_main_v18, val_main_v19, val_main_cst_3, val_main_v20, val_main_v21, val_main_cst_4, val_main_v22, val_main_v23, val_main_cst_5, val_main_v24, val_main_v25, val_main_v26, val_main_v27, val_main_v28, val_main_v29, val_main_v30, val_main_v31]
  rfl

theorem ref_query (r : Fin 8192) (h : Fin 6) (d : Fin 128) :
    val_main_v46 (F := Ideal) x0 x1 (ix2 r (col h d)) = normed (entry x0 2304 (by omega) r h) (x1 (ix1 d)) d * Ideal.ofBits .f32 0x3DB504F3#32 := by
  refine Eq.trans ?_ (ref_query_head x0 x1 r h d)
  pointwise [val_main_v45, val_main_v46]
  refine congrArg (val_main_v16 (F := Ideal) x0 x1) ?_
  unfold col
  idx_ext

theorem ref_key (r : Fin 8192) (h : Fin 6) (d : Fin 128) :
    val_main_v48 (F := Ideal) x0 x2 (ix2 r (col h d)) = normed (entry x0 3072 (by omega) r h) (x2 (ix1 d)) d := by
  refine Eq.trans ?_ (ref_key_head x0 x2 r h d)
  pointwise [val_main_v47, val_main_v48]
  refine congrArg (val_main_v31 (F := Ideal) x0 x2) ?_
  unfold col
  idx_ext

theorem ref_value (r : Fin 8192) (d : Fin 768) : val_main_v49 (F := Ideal) x0 (ix2 r d) = x0 (ix2 r ⟨3840 + d.val, by omega⟩) := by
  pointwise [val_main_v32, val_main_v49]

/-- The gates' bias. -/
abbrev biasOf : Fin 128 → EReal := bias fun h => x3 (ix1 h)

theorem ref_bias (h : Fin 128) : val_main_v34 (F := Ideal) x3 (ix1 h) = biasOf x3 h := by
  pointwise [val_main_v34, val_main_v33, val_main_cst_6]
  rfl

/-- The logarithm of the gate of lane `h` at position `n` of the rows, which start over at their end. -/
def gates (h : Fin 128) (n : ℕ) : EReal := logGate (x0 (ix2 ⟨n % 8192, Nat.mod_lt _ (by omega)⟩ ⟨5888 + h.val, by omega⟩) + biasOf x3 h)

theorem ref_gate (r : Fin 8192) (h : Fin 128) : val_main_v39 (F := Ideal) x0 x3 (ix2 r h) = gates x0 x3 h r.val := by
  pointwise [val_main_v35, val_main_v36, val_main_v37, val_main_v38, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v39]
  rw [ref_bias, if_neg (not_not.mpr rfl)]
  have e : (⟨r.val % 8192, Nat.mod_lt _ (by omega)⟩ : Fin 8192) = r := Fin.ext (Nat.mod_eq_of_lt r.isLt)
  unfold gates logGate
  rw [e]
  simp only [zero_sub]
  rfl

theorem tril_apply (s t : Fin 4096) : val_main_v42 (F := Ideal) (ix2 t s) = if s ≤ t then (1 : EReal) else 0 := by
  pointwise [val_main_v42, val_main_cst_7, val_main_v41, val_main_call1_v0, val_main_call1_c, val_main_call1_v1, val_main_call1_v2, val_main_call1_v3, val_main_call1_v4, val_main_call1_cst, val_main_call1_v5]
  rw [show IntOp.addi (BitVec.ofNat 32 t.val) 0#32 = BitVec.ofNat 32 t.val from BitVec.add_zero _, WordCmp.cmpi_sge_ofNat (by omega) (by omega)]
  by_cases h : s ≤ t <;> simp [Scalar.select, h]

theorem ref_cum (b : Fin 2) (t : Fin 4096) (h : Fin 128) :
    val_main_v44 (F := Ideal) x0 x3 (ix3 b t h) = ∑ s ∈ Finset.range (t.val + 1), gates x0 x3 h (b.val * 4096 + s) := by
  rw [← masked_sum 4096 t fun s => gates x0 x3 h (b.val * 4096 + s)]
  pointwise [val_main_v43, val_main_v44, val_main_v40]
  refine Finset.sum_congr rfl fun s _ => ?_
  rw [tril_apply, ref_gate]
  by_cases hs : s ≤ t
  · rw [if_pos hs, if_pos hs, mul_one]
  · rw [if_neg hs, if_neg hs, mul_zero]

theorem ref_result (b : Fin 2) (t : Fin 4096) (h : Fin 128) (r : Fin 8192) (hr : r.val = b.val * 4096 + t.val) :
    val_main_v50 (F := Ideal) x0 x3 (ix2 r h) = ∑ s ∈ Finset.range (t.val + 1), gates x0 x3 h (b.val * 4096 + s) := by
  have hlt : b.val * 4096 + t.val < 8192 := by omega
  obtain rfl : r = ⟨b.val * 4096 + t.val, hlt⟩ := Fin.ext hr
  refine Eq.trans ?_ (ref_cum x0 x3 b t h)
  pointwise [val_main_v50]

end Cert.FoxPrep

end
-- ==== Proof.FoxPrep.Blocks.lean ====
module

public import proofs.«01_k».proof.Proof.FoxPrep.Step
public import proofs.«01_k».proof.Proof.FoxPrep.Reference
public import Idealize.ShloMosaic.Lib.Claim

@[expose] public section

set_option maxRecDepth 16384

noncomputable section

namespace Cert.FoxPrep

open Cert.KernelFoxPrepIdeal Cert.KernelFoxPrepIdeal.Gen Idealize.ShloMosaic Idealize.ShloMosaic.TcCoe Idealize.SL.Sem

variable (m : (ℓ : Loc nD τ sig) → ℓ.ty.Contents (Elt Ideal)) (c : Dev nD)

/-- The blocks each grid point reads and writes: row tile `t`. -/
theorem idx : ∀ t : Fin cfg0.N, win0_0.index t = ![t.val, 3] ∧ win0_1.index t = ![t.val, 4] ∧ win0_2.index t = ![t.val, 5] ∧ win0_3.index t = ![t.val, 46]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] :=
  (by decide +kernel : ∀ t : Fin grid0.N, _)

theorem points (t : Fin cfg0.N) : t.val < 32 := lt_of_lt_of_eq t.isLt N_0

/-- Row `r` of a grid point's tile. -/
def token (t : Fin cfg0.N) (r : Fin 256) : Fin 8192 := ⟨t.val * 256 + r.val, by have := points t; omega⟩

theorem q_read (t : Fin cfg0.N) (r : Fin 256) (h : Fin 6) (d : Fin 128) :
    iblk m c 0 t (ix2 r (col h d)) = entry (m ((c : Thread nD τ).loc main_arg0)) 2304 (by omega) (token t r) h d := by
  unfold token col entry
  blk_ext [iblk, V, idx t]

theorem k_read (t : Fin cfg0.N) (r : Fin 256) (h : Fin 6) (d : Fin 128) :
    iblk m c 1 t (ix2 r (col h d)) = entry (m ((c : Thread nD τ).loc main_arg0)) 3072 (by omega) (token t r) h d := by
  unfold token col entry
  blk_ext [iblk, V, idx t]

theorem v_read (t : Fin cfg0.N) (r : Fin 256) (d : Fin 768) :
    iblk m c 2 t (ix2 r d) = m ((c : Thread nD τ).loc main_arg0) (ix2 (token t r) ⟨3840 + d.val, by omega⟩) := by
  unfold token
  blk_ext [iblk, V, idx t]

theorem f_read (t : Fin cfg0.N) (r : Fin 256) (h : Fin 128) :
    iblk m c 3 t (ix2 r h) = m ((c : Thread nD τ).loc main_arg0) (ix2 (token t r) ⟨5888 + h.val, by omega⟩) := by
  unfold token
  blk_ext [iblk, V, idx t]

/-- The norms' weights as the host lays them out. -/
theorem row_read (y : FVec Ideal S128 .f32) (k : Fin 128) : shapeCast S1x128 y shapeCasts_S128_S1x128 (ix2 0 k) = y (ix1 k) := by
  pointwise

theorem v3_read (d : Fin 128) : V m c main_v3 (ix2 0 d) = m ((c : Thread nD τ).loc main_arg1) (ix1 d) := by
  entry_read
  exact row_read _ d

theorem v4_read (d : Fin 128) : V m c main_v4 (ix2 0 d) = m ((c : Thread nD τ).loc main_arg2) (ix1 d) := by
  entry_read
  exact row_read _ d

theorem qg_read (t : Fin cfg0.N) (d : Fin 128) : iblk m c 4 t (ix2 0 d) = m ((c : Thread nD τ).loc main_arg1) (ix1 d) := by
  refine Eq.trans ?_ (v3_read m c d)
  blk_ext [iblk, idx t]

theorem kg_read (t : Fin cfg0.N) (d : Fin 128) : iblk m c 5 t (ix2 0 d) = m ((c : Thread nD τ).loc main_arg2) (ix1 d) := by
  refine Eq.trans ?_ (v4_read m c d)
  blk_ext [iblk, idx t]

/-- The gates' bias as the host lays it out. -/
def padded (y : FVec Ideal S6 .f32) : FVec Ideal S1x128 .f32 :=
  concatenate S1x128 1 [⟨S1x6, shapeCast S1x6 y shapeCasts_S6_S1x6⟩, ⟨S1x122, broadcastInDim S1x122 ![] bcast_S_S1x122 (constant (F := Ideal) S_ .f32 0x00000000#32)⟩]
    concatenates_S1x6_S1x122_S1x128_d1

theorem padded_read (y : FVec Ideal S6 .f32) (h : Fin 128) : padded y (ix2 0 h) = biasOf y h := by
  pointwise [padded]
  rfl

theorem v2_eq : V m c main_v2 = padded (m ((c : Thread nD τ).loc main_arg3)) := rfl

theorem b_read (t : Fin cfg0.N) (h : Fin 128) : iblk m c 6 t (ix2 0 h) = biasOf (m ((c : Thread nD τ).loc main_arg3)) h := by
  refine Eq.trans ?_ ((congrFun (v2_eq m c) (ix2 0 h)).trans (padded_read _ h))
  blk_ext [iblk, idx t]

section parts

variable (b : FVec Ideal S256x768 .f32) (r : Fin 256) (d : Fin 128)

theorem part0 : View.ld (Val := Elt Ideal) (e' := .f32) b (Rect.unit ![0, 0] ![256, 128] inb_S256x768_S256x128_0_0) (ix2 r d) = b (ix2 r (col 0 d)) := by
  pointwise
  rw [col_zero]

theorem part1 : View.ld (Val := Elt Ideal) (e' := .f32) b (Rect.unit ![0, 128] ![256, 128] inb_S256x768_S256x128_0_128) (ix2 r d) = b (ix2 r (col 1 d)) := by
  pointwise
  rfl

theorem part2 : View.ld (Val := Elt Ideal) (e' := .f32) b (Rect.unit ![0, 256] ![256, 128] inb_S256x768_S256x128_0_256) (ix2 r d) = b (ix2 r (col 2 d)) := by
  pointwise
  rfl

theorem part3 : View.ld (Val := Elt Ideal) (e' := .f32) b (Rect.unit ![0, 384] ![256, 128] inb_S256x768_S256x128_0_384) (ix2 r d) = b (ix2 r (col 3 d)) := by
  pointwise
  rfl

theorem part4 : View.ld (Val := Elt Ideal) (e' := .f32) b (Rect.unit ![0, 512] ![256, 128] inb_S256x768_S256x128_0_512) (ix2 r d) = b (ix2 r (col 4 d)) := by
  pointwise
  rfl

theorem part5 : View.ld (Val := Elt Ideal) (e' := .f32) b (Rect.unit ![0, 640] ![256, 128] inb_S256x768_S256x128_0_640) (ix2 r d) = b (ix2 r (col 5 d)) := by
  pointwise
  rfl

end parts

theorem q_first (t : Fin cfg0.N) (h0 : t.val % 16 = 0) (h : Fin 6) (r : Fin 256) (d : Fin 128) :
    (outsAt0 m c t.val t.isLt).1 (ix2 r (col h d)) = query (iblk m c 0 t) (iblk m c 4 t) h r d := by
  rw [outsAt0_A m c t h0]
  frame_out
  canon_tiles x e
  case piece0 =>
    exact query_piece (iblk m c 0 t) (iblk m c 4 t) (View.ld (Val := Elt Ideal) (e' := .f32) (iblk m c 0 t) (Rect.unit ![0, 640] ![256, 128] inb_S256x768_S256x128_0_640)) 640 5
      (by decide) (part5 _) h r d x e0 e1
  case piece1 =>
    exact query_piece (iblk m c 0 t) (iblk m c 4 t) (View.ld (Val := Elt Ideal) (e' := .f32) (iblk m c 0 t) (Rect.unit ![0, 512] ![256, 128] inb_S256x768_S256x128_0_512)) 512 4
      (by decide) (part4 _) h r d x e0 e1
  case piece2 =>
    exact query_piece (iblk m c 0 t) (iblk m c 4 t) (View.ld (Val := Elt Ideal) (e' := .f32) (iblk m c 0 t) (Rect.unit ![0, 384] ![256, 128] inb_S256x768_S256x128_0_384)) 384 3
      (by decide) (part3 _) h r d x e0 e1
  case piece3 =>
    exact query_piece (iblk m c 0 t) (iblk m c 4 t) (View.ld (Val := Elt Ideal) (e' := .f32) (iblk m c 0 t) (Rect.unit ![0, 256] ![256, 128] inb_S256x768_S256x128_0_256)) 256 2
      (by decide) (part2 _) h r d x e0 e1
  case piece4 =>
    exact query_piece (iblk m c 0 t) (iblk m c 4 t) (View.ld (Val := Elt Ideal) (e' := .f32) (iblk m c 0 t) (Rect.unit ![0, 128] ![256, 128] inb_S256x768_S256x128_0_128)) 128 1
      (by decide) (part1 _) h r d x e0 e1
  case piece5 =>
    exact query_piece (iblk m c 0 t) (iblk m c 4 t) (View.ld (Val := Elt Ideal) (e' := .f32) (iblk m c 0 t) (Rect.unit ![0, 0] ![256, 128] inb_S256x768_S256x128_0_0)) 0 0
      (by decide) (part0 _) h r d x e0 (e1.trans (Nat.zero_add _).symm)

theorem q_next (t : Fin cfg0.N) (h0 : ¬t.val % 16 = 0) (h : Fin 6) (r : Fin 256) (d : Fin 128) :
    (outsAt0 m c t.val t.isLt).1 (ix2 r (col h d)) = query (iblk m c 0 t) (iblk m c 4 t) h r d := by
  rw [outsAt0_B m c t h0]
  frame_out
  canon_tiles x e
  case piece0 =>
    exact query_piece (iblk m c 0 t) (iblk m c 4 t) (View.ld (Val := Elt Ideal) (e' := .f32) (iblk m c 0 t) (Rect.unit ![0, 640] ![256, 128] inb_S256x768_S256x128_0_640)) 640 5
      (by decide) (part5 _) h r d x e0 e1
  case piece1 =>
    exact query_piece (iblk m c 0 t) (iblk m c 4 t) (View.ld (Val := Elt Ideal) (e' := .f32) (iblk m c 0 t) (Rect.unit ![0, 512] ![256, 128] inb_S256x768_S256x128_0_512)) 512 4
      (by decide) (part4 _) h r d x e0 e1
  case piece2 =>
    exact query_piece (iblk m c 0 t) (iblk m c 4 t) (View.ld (Val := Elt Ideal) (e' := .f32) (iblk m c 0 t) (Rect.unit ![0, 384] ![256, 128] inb_S256x768_S256x128_0_384)) 384 3
      (by decide) (part3 _) h r d x e0 e1
  case piece3 =>
    exact query_piece (iblk m c 0 t) (iblk m c 4 t) (View.ld (Val := Elt Ideal) (e' := .f32) (iblk m c 0 t) (Rect.unit ![0, 256] ![256, 128] inb_S256x768_S256x128_0_256)) 256 2
      (by decide) (part2 _) h r d x e0 e1
  case piece4 =>
    exact query_piece (iblk m c 0 t) (iblk m c 4 t) (View.ld (Val := Elt Ideal) (e' := .f32) (iblk m c 0 t) (Rect.unit ![0, 128] ![256, 128] inb_S256x768_S256x128_0_128)) 128 1
      (by decide) (part1 _) h r d x e0 e1
  case piece5 =>
    exact query_piece (iblk m c 0 t) (iblk m c 4 t) (View.ld (Val := Elt Ideal) (e' := .f32) (iblk m c 0 t) (Rect.unit ![0, 0] ![256, 128] inb_S256x768_S256x128_0_0)) 0 0
      (by decide) (part0 _) h r d x e0 (e1.trans (Nat.zero_add _).symm)

theorem k_first (t : Fin cfg0.N) (h0 : t.val % 16 = 0) (h : Fin 6) (r : Fin 256) (d : Fin 128) :
    (outsAt0 m c t.val t.isLt).2.1 (ix2 r (col h d)) = key (iblk m c 1 t) (iblk m c 5 t) h r d := by
  rw [outsAt0_A m c t h0]
  frame_out
  canon_tiles x e
  case piece0 =>
    exact key_piece (iblk m c 1 t) (iblk m c 5 t) (View.ld (Val := Elt Ideal) (e' := .f32) (iblk m c 1 t) (Rect.unit ![0, 640] ![256, 128] inb_S256x768_S256x128_0_640)) 640 5
      (by decide) (part5 _) h r d x e0 e1
  case piece1 =>
    exact key_piece (iblk m c 1 t) (iblk m c 5 t) (View.ld (Val := Elt Ideal) (e' := .f32) (iblk m c 1 t) (Rect.unit ![0, 512] ![256, 128] inb_S256x768_S256x128_0_512)) 512 4
      (by decide) (part4 _) h r d x e0 e1
  case piece2 =>
    exact key_piece (iblk m c 1 t) (iblk m c 5 t) (View.ld (Val := Elt Ideal) (e' := .f32) (iblk m c 1 t) (Rect.unit ![0, 384] ![256, 128] inb_S256x768_S256x128_0_384)) 384 3
      (by decide) (part3 _) h r d x e0 e1
  case piece3 =>
    exact key_piece (iblk m c 1 t) (iblk m c 5 t) (View.ld (Val := Elt Ideal) (e' := .f32) (iblk m c 1 t) (Rect.unit ![0, 256] ![256, 128] inb_S256x768_S256x128_0_256)) 256 2
      (by decide) (part2 _) h r d x e0 e1
  case piece4 =>
    exact key_piece (iblk m c 1 t) (iblk m c 5 t) (View.ld (Val := Elt Ideal) (e' := .f32) (iblk m c 1 t) (Rect.unit ![0, 128] ![256, 128] inb_S256x768_S256x128_0_128)) 128 1
      (by decide) (part1 _) h r d x e0 e1
  case piece5 =>
    exact key_piece (iblk m c 1 t) (iblk m c 5 t) (View.ld (Val := Elt Ideal) (e' := .f32) (iblk m c 1 t) (Rect.unit ![0, 0] ![256, 128] inb_S256x768_S256x128_0_0)) 0 0
      (by decide) (part0 _) h r d x e0 (e1.trans (Nat.zero_add _).symm)

theorem k_next (t : Fin cfg0.N) (h0 : ¬t.val % 16 = 0) (h : Fin 6) (r : Fin 256) (d : Fin 128) :
    (outsAt0 m c t.val t.isLt).2.1 (ix2 r (col h d)) = key (iblk m c 1 t) (iblk m c 5 t) h r d := by
  rw [outsAt0_B m c t h0]
  frame_out
  canon_tiles x e
  case piece0 =>
    exact key_piece (iblk m c 1 t) (iblk m c 5 t) (View.ld (Val := Elt Ideal) (e' := .f32) (iblk m c 1 t) (Rect.unit ![0, 640] ![256, 128] inb_S256x768_S256x128_0_640)) 640 5
      (by decide) (part5 _) h r d x e0 e1
  case piece1 =>
    exact key_piece (iblk m c 1 t) (iblk m c 5 t) (View.ld (Val := Elt Ideal) (e' := .f32) (iblk m c 1 t) (Rect.unit ![0, 512] ![256, 128] inb_S256x768_S256x128_0_512)) 512 4
      (by decide) (part4 _) h r d x e0 e1
  case piece2 =>
    exact key_piece (iblk m c 1 t) (iblk m c 5 t) (View.ld (Val := Elt Ideal) (e' := .f32) (iblk m c 1 t) (Rect.unit ![0, 384] ![256, 128] inb_S256x768_S256x128_0_384)) 384 3
      (by decide) (part3 _) h r d x e0 e1
  case piece3 =>
    exact key_piece (iblk m c 1 t) (iblk m c 5 t) (View.ld (Val := Elt Ideal) (e' := .f32) (iblk m c 1 t) (Rect.unit ![0, 256] ![256, 128] inb_S256x768_S256x128_0_256)) 256 2
      (by decide) (part2 _) h r d x e0 e1
  case piece4 =>
    exact key_piece (iblk m c 1 t) (iblk m c 5 t) (View.ld (Val := Elt Ideal) (e' := .f32) (iblk m c 1 t) (Rect.unit ![0, 128] ![256, 128] inb_S256x768_S256x128_0_128)) 128 1
      (by decide) (part1 _) h r d x e0 e1
  case piece5 =>
    exact key_piece (iblk m c 1 t) (iblk m c 5 t) (View.ld (Val := Elt Ideal) (e' := .f32) (iblk m c 1 t) (Rect.unit ![0, 0] ![256, 128] inb_S256x768_S256x128_0_0)) 0 0
      (by decide) (part0 _) h r d x e0 (e1.trans (Nat.zero_add _).symm)

theorem v_out (t : Fin cfg0.N) (r : Fin 256) (d : Fin 768) : (outsAt0 m c t.val t.isLt).2.2.1 (ix2 r d) = iblk m c 2 t (ix2 r d) := by
  by_cases h0 : t.val % 16 = 0
  · rw [outsAt0_A m c t h0]
    frame_out
    pointwise [k0_pay26]
  · rw [outsAt0_B m c t h0]
    frame_out
    pointwise [k0_pay26]

theorem scratch (x : FVec Ideal S1x128 .f32) :
    View.read (Elt Ideal) (View.whole cc0_scratch0) ((Memref.isWhole_whole cc0_scratch0).unread x) = x :=
  (Memref.isWhole_whole cc0_scratch0).read_unread (Val := Elt Ideal) x

/-- The carry a grid point starts from: zero at the start of a sequence, else what the point before left. -/
def carried (t : Fin cfg0.N) : FVec Ideal S1x128 .f32 :=
  if t.val % 16 = 0 then k0_pay2 else (outsAt0 m c (t.val - 1) (Nat.lt_of_le_of_lt (Nat.sub_le _ _) t.isLt)).2.2.2.2

theorem c_out (t : Fin cfg0.N) (r : Fin 256) (h : Fin 128) :
    (outsAt0 m c t.val t.isLt).2.2.2.1 (ix2 r h) = k0_pay27 (F := Ideal) (iblk m c 3 t) (iblk m c 6 t) (carried m c t) (ix2 r h) := by
  by_cases h0 : t.val % 16 = 0
  · rw [show carried m c t = k0_pay2 from if_pos h0, outsAt0_A m c t h0]
    frame_out
  · rw [show carried m c t = (outsAt0 m c (t.val - 1) (Nat.lt_of_le_of_lt (Nat.sub_le _ _) t.isLt)).2.2.2.2 from if_neg h0, outsAt0_B m c t h0]
    frame_out
    rw [scratch]

theorem s_out (t : Fin cfg0.N) (h : Fin 128) :
    (outsAt0 m c t.val t.isLt).2.2.2.2 (ix2 0 h) = k0_pay27 (F := Ideal) (iblk m c 3 t) (iblk m c 6 t) (carried m c t) (ix2 255 h) := by
  by_cases h0 : t.val % 16 = 0
  · rw [show carried m c t = k0_pay2 from if_pos h0, outsAt0_A m c t h0]
    frame_out
    exact carry_apply _ _ _ h
  · rw [show carried m c t = (outsAt0 m c (t.val - 1) (Nat.lt_of_le_of_lt (Nat.sub_le _ _) t.isLt)).2.2.2.2 from if_neg h0, outsAt0_B m c t h0]
    frame_out
    rw [scratch]
    exact carry_apply _ _ _ h

/-- The gates' logarithms of the sequence that grid point `n` works on, by position. -/
def line (n : ℕ) (h : Fin 128) (s : ℕ) : EReal := gates (m ((c : Thread nD τ).loc main_arg0)) (m ((c : Thread nD τ).loc main_arg3)) h (n / 16 * 4096 + s)

theorem gate_read (x0 : FVec Ideal S8192x6144 .f32) (x3 : FVec Ideal S6 .f32) (t : Fin cfg0.N) (q : Fin 256) (h : Fin 128) :
    logGate (x0 (ix2 (token t q) ⟨5888 + h.val, by omega⟩) + biasOf x3 h) = gates x0 x3 h (t.val / 16 * 4096 + (256 * (t.val % 16) + q.val)) := by
  have hp := points t
  refine congrArg (fun k => logGate (x0 (ix2 k _) + biasOf x3 h)) (Fin.ext ?_)
  show t.val * 256 + q.val = (t.val / 16 * 4096 + (256 * (t.val % 16) + q.val)) % 8192
  omega

theorem step (t : Fin cfg0.N) (r : Fin 256) (h : Fin 128) (hs : carried m c t (ix2 0 h) = ∑ s ∈ Finset.range (256 * (t.val % 16)), line m c t.val h s) :
    k0_pay27 (F := Ideal) (iblk m c 3 t) (iblk m c 6 t) (carried m c t) (ix2 r h) = ∑ s ∈ Finset.range (256 * (t.val % 16) + r.val + 1), line m c t.val h s := by
  rw [cum_apply, hs, ← tile_sum]
  refine congrArg (· + _) (Finset.sum_congr rfl fun q _ => ?_)
  rw [f_read, b_read]
  exact congrArg (fun k => if q ≤ r then k else 0) (gate_read _ _ t q h)

/-- The carry left by every grid point: the gates' logarithms up to the end of its tile, summed from the start of the sequence. -/
theorem kept : ∀ (n : ℕ) (hn : n < cfg0.N) (h : Fin 128),
    (outsAt0 m c n hn).2.2.2.2 (ix2 0 h) = ∑ s ∈ Finset.range (256 * (n % 16) + 256), line m c n h s := by
  have start : ∀ (t : Fin cfg0.N) (h0 : t.val % 16 = 0) (h : Fin 128), carried m c t (ix2 0 h) = ∑ s ∈ Finset.range (256 * (t.val % 16)), line m c t.val h s := by
    intro t h0 h
    rw [show carried m c t = k0_pay2 from if_pos h0, h0]
    exact start_apply h
  intro n
  induction n with
  | zero => exact fun hn h => (s_out m c ⟨0, hn⟩ h).trans (step m c ⟨0, hn⟩ 255 h (start ⟨0, hn⟩ (Nat.zero_mod _) h))
  | succ n ih =>
    intro hn h
    refine (s_out m c ⟨n + 1, hn⟩ h).trans (step m c ⟨n + 1, hn⟩ 255 h ?_)
    by_cases h0 : (n + 1) % 16 = 0
    · exact start ⟨n + 1, hn⟩ h0 h
    · rw [show carried m c ⟨n + 1, hn⟩ = _ from if_neg h0]
      refine (ih (Nat.lt_of_succ_lt hn) h).trans ?_
      unfold line
      rw [show 256 * (n % 16) + 256 = 256 * ((n + 1) % 16) by omega, show n / 16 = (n + 1) / 16 by omega]

theorem carried_read (t : Fin cfg0.N) (h : Fin 128) : carried m c t (ix2 0 h) = ∑ s ∈ Finset.range (256 * (t.val % 16)), line m c t.val h s := by
  by_cases h0 : t.val % 16 = 0
  · rw [show carried m c t = k0_pay2 from if_pos h0, h0]
    exact start_apply h
  · rw [show carried m c t = _ from if_neg h0]
    refine (kept m c (t.val - 1) _ h).trans ?_
    unfold line
    rw [show 256 * ((t.val - 1) % 16) + 256 = 256 * (t.val % 16) by omega, show (t.val - 1) / 16 = t.val / 16 by omega]

theorem col_split (d : Fin 768) : d = col ⟨d.val / 128, by omega⟩ ⟨d.val % 128, by omega⟩ :=
  Fin.ext (show d.val = 128 * (d.val / 128) + d.val % 128 by omega)

/-- The reference's four results on the kernel's arguments. -/
abbrev refQuery : FVec Ideal S8192x768 .bf16 :=
  Cert.ReferenceFoxPrepIdeal.Read.val_main_v46 (F := Ideal) (m ((c : Thread nD τ).loc main_arg0)) (m ((c : Thread nD τ).loc main_arg1))
abbrev refKey : FVec Ideal S8192x768 .bf16 :=
  Cert.ReferenceFoxPrepIdeal.Read.val_main_v48 (F := Ideal) (m ((c : Thread nD τ).loc main_arg0)) (m ((c : Thread nD τ).loc main_arg2))
abbrev refValue : FVec Ideal S8192x768 .bf16 := Cert.ReferenceFoxPrepIdeal.Read.val_main_v49 (F := Ideal) (m ((c : Thread nD τ).loc main_arg0))
abbrev refCum : FVec Ideal S8192x128 .f32 :=
  Cert.ReferenceFoxPrepIdeal.Read.val_main_v50 (F := Ideal) (m ((c : Thread nD τ).loc main_arg0)) (m ((c : Thread nD τ).loc main_arg3))

theorem q_out (t : Fin cfg0.N) (r : Fin 256) (d : Fin 768) : (outsAt0 m c t.val t.isLt).1 (ix2 r d) = refQuery m c (ix2 (token t r) d) := by
  rw [col_split d]
  refine Eq.trans ?_ (ref_query _ _ (token t r) _ _).symm
  refine (if h0 : t.val % 16 = 0 then q_first m c t h0 _ r _ else q_next m c t h0 _ r _).trans ?_
  unfold query
  simp only [q_read m c t, qg_read m c t]

theorem k_out (t : Fin cfg0.N) (r : Fin 256) (d : Fin 768) : (outsAt0 m c t.val t.isLt).2.1 (ix2 r d) = refKey m c (ix2 (token t r) d) := by
  rw [col_split d]
  refine Eq.trans ?_ (ref_key _ _ (token t r) _ _).symm
  refine (if h0 : t.val % 16 = 0 then k_first m c t h0 _ r _ else k_next m c t h0 _ r _).trans ?_
  unfold key
  simp only [k_read m c t, kg_read m c t]

theorem cum_out (t : Fin cfg0.N) (r : Fin 256) (h : Fin 128) : (outsAt0 m c t.val t.isLt).2.2.2.1 (ix2 r h) = refCum m c (ix2 (token t r) h) := by
  have hp := points t
  refine (c_out m c t r h).trans ((step m c t r h (carried_read m c t h)).trans ?_)
  exact (ref_result _ _ ⟨t.val / 16, by omega⟩ ⟨256 * (t.val % 16) + r.val, by omega⟩ h (token t r)
    (show t.val * 256 + r.val = t.val / 16 * 4096 + (256 * (t.val % 16) + r.val) by omega)).symm

/-- The kernel's queries after the run are the reference's. -/
theorem query_array : (dats m 0 c).arrAt 7 cfg0.N = refQuery m c := by
  refine (dats m 0 c).arrAt_eq_of_covers 7 _ (by decide +kernel) fun t hf y => ?_
  blk_simp
  rw [after0_7]
  idx_vars y
  refine (q_out m c t _ _).trans ?_
  unfold token
  blk_ext [idx t]

/-- The kernel's keys after the run are the reference's. -/
theorem key_array : (dats m 0 c).arrAt 8 cfg0.N = refKey m c := by
  refine (dats m 0 c).arrAt_eq_of_covers 8 _ (by decide +kernel) fun t hf y => ?_
  blk_simp
  rw [after0_8]
  idx_vars y
  refine (k_out m c t _ _).trans ?_
  unfold token
  blk_ext [idx t]

/-- The kernel's values after the run are the reference's. -/
theorem value_array : (dats m 0 c).arrAt 9 cfg0.N = refValue m c := by
  refine (dats m 0 c).arrAt_eq_of_covers 9 _ (by decide +kernel) fun t hf y => ?_
  blk_simp
  rw [after0_9]
  idx_vars y
  refine ((v_out m c t _ _).trans ((v_read m c t _ _).trans (ref_value _ (token t _) _).symm)).trans ?_
  unfold token
  blk_ext [idx t]

/-- The kernel's summed gates after the run are the reference's. -/
theorem cum_array : (dats m 0 c).arrAt 10 cfg0.N = refCum m c := by
  refine (dats m 0 c).arrAt_eq_of_covers 10 _ (by decide +kernel) fun t hf y => ?_
  blk_simp
  rw [after0_10]
  idx_vars y
  refine (cum_out m c t _ _).trans ?_
  unfold token
  blk_ext [idx t]

end Cert.FoxPrep

end
-- ==== Proof.FoxPrep.Claim.lean ====
module

public import proofs.«01_k».proof.Defs
public import proofs.«01_k».proof.Proof.Gen.KernelFoxPrepIdeal.Frame
public import proofs.«01_k».proof.Proof.FoxPrep.Blocks
public import proofs.«01_k».proof.Proof.Gen.ReferenceFoxPrepIdeal
public import proofs.«01_k».proof.Proof.Gen.ReferenceFoxPrepIdeal.Run
public import Idealize.ShloMosaic.Lib.Claim

@[expose] public section

set_option maxRecDepth 16384

noncomputable section

namespace Cert.FoxPrep

open Idealize.ShloMosaic Idealize.ShloMosaic.TcCoe Idealize.SL.Sem

/-- The reference ends with its arguments unchanged; it declares no semaphore. -/
theorem frame_reference : Cert.quiescent_ReferenceFoxPrepIdeal (hReferenceFoxPrepIdeal := Cert.ReferenceFoxPrepIdeal.Gen.facts) := by
  intro m g _
  exact (θ_run _ _ _).mono (fun r h => ⟨fun c => (h c).2.2.2.2, sem_eq_zero_of_no_sems (by decide) r.2⟩) (Cert.ReferenceFoxPrepIdeal.Value.run m g)

/-- The kernel's queries, keys, values and summed gates are the reference's. -/
theorem algebraic : Cert.algebraic_KernelFoxPrepIdeal_ReferenceFoxPrepIdeal (hKernelFoxPrepIdeal := Cert.KernelFoxPrepIdeal.Gen.facts)
    (hReferenceFoxPrepIdeal := Cert.ReferenceFoxPrepIdeal.Gen.facts) := by
  pair_intro
  · run_from Cert.KernelFoxPrepIdeal.Gen.run_main m g
  · run_from Cert.ReferenceFoxPrepIdeal.Value.run m' g'
    · exact (Cert.ReferenceFoxPrepIdeal.Read.val_main_v46_eq _ _).trans (query_array m c).symm
    · exact (Cert.ReferenceFoxPrepIdeal.Read.val_main_v48_eq _ _).trans (key_array m c).symm
    · exact (Cert.ReferenceFoxPrepIdeal.Read.val_main_v49_eq _).trans (value_array m c).symm
    · refine (Cert.ReferenceFoxPrepIdeal.Read.val_main_v50_eq (F := Ideal) _ _).trans (Eq.trans ?_ (cum_array m c).symm)
      exact congrArg (Cert.ReferenceFoxPrepIdeal.Read.val_main_v50 (F := Ideal) _) (hagree c).2.2.2

end Cert.FoxPrep

end
-- ==== Proof.Norm.lean ====
module

public import Idealize.ShloMosaic.Lib.Pointwise
public import Idealize.ShloMosaic.Lib.IdealHost
public import Idealize.ShloMosaic.Lib.Pipeline.ValueKit

@[expose] public section

noncomputable section

namespace Cert

open Idealize.ShloMosaic

/-- The factor a row of the residual stream is normalised by: one over the root of its mean square and the small constant. -/
def rmsFactor (x : Fin 2048 → EReal) : EReal :=
  Ideal.rsqrt (Ideal.div (∑ k, x k * x k) (Ideal.ofBits .f32 0x45000000#32) + Ideal.ofBits .f32 0x358637BD#32)

/-- Entry `d` of a row normalised, weighted by `g`, then scaled by `1 + sc` and shifted by `sh`. -/
def modulated (x : Fin 2048 → EReal) (g sc sh : EReal) (d : Fin 2048) : EReal :=
  x d * rmsFactor x * g * (1 + sc) + sh

end Cert

end
-- ==== Proof.In.Step.lean ====
module

public import proofs.«01_k».proof.Proof.Gen.KernelInIdeal.Value
public import proofs.«01_k».proof.Proof.Norm

@[expose] public section

set_option maxRecDepth 16384

noncomputable section

namespace Cert.In

open Cert.KernelInIdeal Cert.KernelInIdeal.Gen Idealize.ShloMosaic Idealize.ShloMosaic.TcCoe Idealize.SL.Sem

theorem pay1_apply (x : FVec Ideal S1024x2048 .f32) (g : FVec Ideal S1x2048 .f32) (sc sh : FVec Ideal S1x1x2048 .f32) (r : Fin 1024) (d : Fin 2048) :
    k0_pay1 (F := Ideal) x g sc sh (ix2 r d)
      = modulated (fun k => x (ix2 r k)) (g (ix2 0 d)) (sc (ix3 0 0 d)) (sh (ix3 0 0 d)) d := by
  pointwise [k0_pay1]
  rfl

theorem pay2_apply (h : FVec Ideal S1024x2048 .bf16) (w : FVec Ideal S2048x512 .bf16) (r : Fin 1024) (d : Fin 512) :
    k0_pay2 (F := Ideal) h w (ix2 r d) = ∑ k : Fin 2048, h (ix2 r k) * w (ix2 k d) := by
  pointwise [k0_pay2]

end Cert.In

end
-- ==== Proof.In.Reference.lean ====
module

public import proofs.«01_k».proof.Proof.Gen.ReferenceInIdeal.Read
public import proofs.«01_k».proof.Proof.Norm

@[expose] public section

set_option maxRecDepth 16384

noncomputable section

namespace Cert.In

open Cert.ReferenceInIdeal Cert.ReferenceInIdeal.Read Idealize.ShloMosaic Idealize.ShloMosaic.TcCoe Idealize.SL.Sem

/-- Column `n` of the packed projections of a row `a` of all the projections: the columns in the kernel's order, then zeros. -/
def packed (a : Fin 5894 → EReal) (n : Fin 6144) : EReal :=
  if h : n.val < 2304 then a ⟨n.val, by omega⟩
  else if h : n.val < 4608 then a ⟨n.val + 256, by omega⟩
  else if h : n.val < 5632 then a ⟨n.val + 262, by omega⟩
  else if h : n.val < 5888 then a ⟨n.val - 3328, by omega⟩
  else if h : n.val < 5894 then a ⟨n.val - 1024, by omega⟩
  else 0

/-- The packed row of a row of sums is the sum over the packed rows. -/
theorem packed_sum (h : Fin 2048 → EReal) (w : Fin 2048 → Fin 5894 → EReal) (n : Fin 6144) :
    ∑ k, h k * packed (w k) n = packed (fun q => ∑ k, h k * w k q) n := by
  unfold packed
  split_ifs
  · rfl
  · rfl
  · rfl
  · rfl
  · rfl
  · simp only [mul_zero, Finset.sum_const_zero]

variable (x0 : FVec Ideal S8192x2048 .f32) (x1 : FVec Ideal S2048 .f32) (x2 x3 : FVec Ideal S2x1x2048 .f32) (x4 : FVec Ideal S2048x5894 .f32)

/-- The normalised and modulated activation `d` of token `r`. -/
def active (r : Fin 8192) (d : Fin 2048) : EReal :=
  modulated (fun k => x0 (ix2 r k)) (x1 (ix1 d)) (x2 (ix3 ⟨r.val / 4096, by omega⟩ 0 d)) (x3 (ix3 ⟨r.val / 4096, by omega⟩ 0 d)) d

theorem ref_projection (r : Fin 8192) (n : Fin 5894) :
    val_main_v21 (F := Ideal) x0 x1 x2 x3 x4 (ix2 r n) = ∑ k : Fin 2048, active x0 x1 x2 x3 r k * x4 (ix2 k n) := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

/-- A nest of column ranges that places the columns in the kernel's order is the packed row. -/
theorem packed_nest (a : Fin 5894 → EReal) (n : Fin 6144) :
    (if h : n.val < 2304 then a ⟨n.val, by omega⟩
      else if h : n.val - 2304 < 2304 then a ⟨2560 + (n.val - 2304), by omega⟩
      else if h : n.val - 2304 - 2304 < 1024 then a ⟨4870 + (n.val - 2304 - 2304), by omega⟩
      else if h : n.val - 2304 - 2304 - 1024 < 256 then a ⟨2304 + (n.val - 2304 - 2304 - 1024), by omega⟩
      else if h : n.val - 2304 - 2304 - 1024 - 256 < 6 then a ⟨4864 + (n.val - 2304 - 2304 - 1024 - 256), by omega⟩
      else 0) = packed a n := by
  unfold packed
  split_ifs
  all_goals first
    | (exfalso; omega)
    | exact congrArg a (Fin.ext (by first | omega | (dsimp only; omega)))
    | rfl

/-- The reference's result. -/
theorem ref_result (r : Fin 8192) (n : Fin 6144) :
    val_main_v28 (F := Ideal) x0 x1 x2 x3 x4 (ix2 r n) = packed (fun q => ∑ k : Fin 2048, active x0 x1 x2 x3 r k * x4 (ix2 k q)) n := by
  simp only [← ref_projection x0 x1 x2 x3 x4 r]
  pointwise [val_main_v28, val_main_v27, val_main_v26, val_main_v25, val_main_v24, val_main_v23, val_main_v22, val_main_cst_3]
  exact packed_nest (fun q => val_main_v21 (F := Ideal) x0 x1 x2 x3 x4 (ix2 r q)) n

end Cert.In

end
-- ==== Proof.In.Blocks.lean ====
module

public import proofs.«01_k».proof.Proof.In.Step
public import proofs.«01_k».proof.Proof.In.Reference
public import Idealize.ShloMosaic.Lib.Claim

@[expose] public section

set_option maxRecDepth 16384

noncomputable section

namespace Cert.In

open Cert.KernelInIdeal Cert.KernelInIdeal.Gen Idealize.ShloMosaic Idealize.ShloMosaic.TcCoe Idealize.SL.Sem

variable (m : (ℓ : Loc nD τ sig) → ℓ.ty.Contents (Elt Ideal)) (c : Dev nD)

/-- The blocks each grid point reads and writes: token tile `t / 12`, column tile `t % 12`. -/
theorem idx : ∀ t : Fin cfg0.N, win0_0.index t = ![t.val / 12, 0] ∧ win0_1.index t = ![0, 0] ∧ win0_2.index t = ![t.val / 12 * 1024 / 4096, 0, 0]
    ∧ win0_3.index t = ![t.val / 12 * 1024 / 4096, 0, 0] ∧ win0_4.index t = ![0, t.val % 12] ∧ win0_5.index t = ![t.val / 12, t.val % 12] :=
  (by decide +kernel : ∀ t : Fin grid0.N, _)

theorem points (t : Fin cfg0.N) : t.val < 96 := lt_of_lt_of_eq t.isLt N_0

/-- The token of a grid point's row, and the packed column of its lane. -/
def token (t : Fin cfg0.N) (r : Fin 1024) : Fin 8192 := ⟨t.val / 12 * 1024 + r.val, by have := points t; omega⟩
def col (t : Fin cfg0.N) (n : Fin 512) : Fin 6144 := ⟨t.val % 12 * 512 + n.val, by omega⟩

theorem x_read (t : Fin cfg0.N) (r : Fin 1024) (k : Fin 2048) :
    iblk m c 0 t (ix2 r k) = m ((c : Thread nD τ).loc main_arg0) (ix2 (token t r) k) := by
  unfold token
  blk_ext [iblk, V, idx t]

theorem sc_read (t : Fin cfg0.N) (r : Fin 1024) (k : Fin 2048) :
    iblk m c 2 t (ix3 0 0 k) = m ((c : Thread nD τ).loc main_arg2) (ix3 ⟨(token t r).val / 4096, by omega⟩ 0 k) := by
  have hN := points t
  unfold token
  blk_ext [iblk, V, idx t]

theorem sh_read (t : Fin cfg0.N) (r : Fin 1024) (k : Fin 2048) :
    iblk m c 3 t (ix3 0 0 k) = m ((c : Thread nD τ).loc main_arg3) (ix3 ⟨(token t r).val / 4096, by omega⟩ 0 k) := by
  have hN := points t
  unfold token
  blk_ext [iblk, V, idx t]

/-- The norm's weights as the host lays them out. -/
theorem row_read (y : FVec Ideal S2048 .f32) (k : Fin 2048) : shapeCast S1x2048 y shapeCasts_S2048_S1x2048 (ix2 0 k) = y (ix1 k) := by
  pointwise

theorem v0_read (k : Fin 2048) : V m c main_v0 (ix2 0 k) = m ((c : Thread nD τ).loc main_arg1) (ix1 k) := by
  entry_read
  exact row_read _ k

theorem g_read (t : Fin cfg0.N) (k : Fin 2048) : iblk m c 1 t (ix2 0 k) = m ((c : Thread nD τ).loc main_arg1) (ix1 k) := by
  refine Eq.trans ?_ (v0_read m c k)
  blk_ext [iblk, idx t]

/-- A column of six arrays side by side. -/
theorem pack_pieces (a b : FVec Ideal S2048x2304 .bf16) (d : FVec Ideal S2048x1024 .bf16) (e : FVec Ideal S2048x256 .bf16)
    (f : FVec Ideal S2048x6 .bf16) (z : FVec Ideal S2048x250 .bf16) (k : Fin 2048) (n : Fin 6144) :
    concatenate S2048x6144 1 [⟨S2048x2304, a⟩, ⟨S2048x2304, b⟩, ⟨S2048x1024, d⟩, ⟨S2048x256, e⟩, ⟨S2048x6, f⟩, ⟨S2048x250, z⟩]
      concatenates_S2048x2304_S2048x2304_S2048x1024_S2048x256_S2048x6_S2048x250_S2048x6144_d1 (ix2 k n)
      = if h : n.val < 2304 then a (ix2 k ⟨n.val, by omega⟩)
        else if h : n.val - 2304 < 2304 then b (ix2 k ⟨n.val - 2304, by omega⟩)
        else if h : n.val - 2304 - 2304 < 1024 then d (ix2 k ⟨n.val - 2304 - 2304, by omega⟩)
        else if h : n.val - 2304 - 2304 - 1024 < 256 then e (ix2 k ⟨n.val - 2304 - 2304 - 1024, by omega⟩)
        else if h : n.val - 2304 - 2304 - 1024 - 256 < 6 then f (ix2 k ⟨n.val - 2304 - 2304 - 1024 - 256, by omega⟩)
        else z (ix2 k ⟨n.val - 2304 - 2304 - 1024 - 256 - 6, by omega⟩) := by
  pointwise

/-- The weights as the host packs them. -/
def pack (y : FVec Ideal S2048x5894 .f32) : FVec Ideal S2048x6144 .bf16 :=
  concatenate S2048x6144 1
    [⟨S2048x2304, extractStridedSlice S2048x2304 ![0, 0] (truncf .bf16 y bitsLt_bf16_f32) slices_S2048x5894_S2048x2304_0_0⟩,
      ⟨S2048x2304, extractStridedSlice S2048x2304 ![0, 2560] (truncf .bf16 y bitsLt_bf16_f32) slices_S2048x5894_S2048x2304_0_2560⟩,
      ⟨S2048x1024, extractStridedSlice S2048x1024 ![0, 4870] (truncf .bf16 y bitsLt_bf16_f32) slices_S2048x5894_S2048x1024_0_4870⟩,
      ⟨S2048x256, extractStridedSlice S2048x256 ![0, 2304] (truncf .bf16 y bitsLt_bf16_f32) slices_S2048x5894_S2048x256_0_2304⟩,
      ⟨S2048x6, extractStridedSlice S2048x6 ![0, 4864] (truncf .bf16 y bitsLt_bf16_f32) slices_S2048x5894_S2048x6_0_4864⟩,
      ⟨S2048x250, broadcastInDim S2048x250 ![] bcast_S_S2048x250 (constant (F := Ideal) S_ .bf16 0x0000#16)⟩]
    concatenates_S2048x2304_S2048x2304_S2048x1024_S2048x256_S2048x6_S2048x250_S2048x6144_d1

theorem pack_read (y : FVec Ideal S2048x5894 .f32) (k : Fin 2048) (n : Fin 6144) : pack y (ix2 k n) = packed (fun q => y (ix2 k q)) n := by
  unfold pack
  generalize ey : truncf .bf16 y bitsLt_bf16_f32 = z
  have hy : ∀ q : Fin 5894, z (ix2 k q) = y (ix2 k q) := fun q => by subst ey; pointwise
  refine (pack_pieces _ _ _ _ _ _ k n).trans ?_
  simp only [← hy]
  refine Eq.trans ?_ (packed_nest (fun q => z (ix2 k q)) n)
  pointwise

theorem v8_eq : V m c main_v8 = pack (m ((c : Thread nD τ).loc main_arg4)) := rfl

theorem v8_read (k : Fin 2048) (n : Fin 6144) : V m c main_v8 (ix2 k n) = packed (fun q => m ((c : Thread nD τ).loc main_arg4) (ix2 k q)) n :=
  (congrFun (v8_eq m c) (ix2 k n)).trans (pack_read _ k n)

theorem w_read (t : Fin cfg0.N) (k : Fin 2048) (n : Fin 512) :
    iblk m c 4 t (ix2 k n) = packed (fun q => m ((c : Thread nD τ).loc main_arg4) (ix2 k q)) (col t n) := by
  refine Eq.trans ?_ (v8_read m c k (col t n))
  unfold col
  blk_ext [iblk, idx t]

/-- The activations the reference projects, at this memory. -/
def act (r : Fin 8192) (d : Fin 2048) : EReal :=
  active (m ((c : Thread nD τ).loc main_arg0)) (m ((c : Thread nD τ).loc main_arg1)) (m ((c : Thread nD τ).loc main_arg2)) (m ((c : Thread nD τ).loc main_arg3)) r d

theorem norm_read (t : Fin cfg0.N) (r : Fin 1024) (d : Fin 2048) :
    k0_pay1 (F := Ideal) (iblk m c 0 t) (iblk m c 1 t) (iblk m c 2 t) (iblk m c 3 t) (ix2 r d) = act m c (token t r) d := by
  refine (pay1_apply _ _ _ _ r d).trans ?_
  unfold act active
  rw [g_read m c t, sc_read m c t r, sh_read m c t r]
  simp only [x_read m c t]

theorem scratch (x : FVec Ideal S1024x2048 .bf16) :
    View.read (Elt Ideal) (View.whole cc0_scratch0) ((Memref.isWhole_whole cc0_scratch0).unread x) = x :=
  (Memref.isWhole_whole cc0_scratch0).read_unread (Val := Elt Ideal) x

theorem first (t : Fin cfg0.N) (h0 : t.val % 12 = 0) (r : Fin 1024) (d : Fin 2048) :
    (outsAt0 m c t.val t.isLt).2 (ix2 r d) = act m c (token t r) d := by
  rw [outsAt0_A m c t h0]
  frame_out
  exact norm_read m c t r d

theorem next (t : Fin cfg0.N) (h0 : ¬t.val % 12 = 0) :
    (outsAt0 m c t.val t.isLt).2 = (outsAt0 m c (t.val - 1) (Nat.lt_of_le_of_lt (Nat.sub_le _ _) t.isLt)).2 := by
  rw [outsAt0_B m c t h0]
  frame_out
  rfl

/-- The scratch buffer after every point of a token tile: that tile's activations. -/
theorem kept : ∀ (n : ℕ) (h : n < cfg0.N) (r : Fin 1024) (d : Fin 2048), (outsAt0 m c n h).2 (ix2 r d) = act m c (token ⟨n, h⟩ r) d := by
  intro n
  induction n with
  | zero => exact fun h r d => first m c ⟨0, h⟩ (Nat.zero_mod _) r d
  | succ n ih =>
    intro h r d
    by_cases h0 : (n + 1) % 12 = 0
    · exact first m c ⟨n + 1, h⟩ h0 r d
    · refine (congrFun (next m c ⟨n + 1, h⟩ h0) (ix2 r d)).trans ?_
      refine (ih (Nat.lt_of_succ_lt h) r d).trans ?_
      refine congrArg (fun k => act m c k d) (Fin.ext ?_)
      show n / 12 * 1024 + r.val = (n + 1) / 12 * 1024 + r.val
      omega

theorem out_read (t : Fin cfg0.N) (r : Fin 1024) (n : Fin 512) :
    (outsAt0 m c t.val t.isLt).1 (ix2 r n)
      = packed (fun q => ∑ k : Fin 2048, active (m ((c : Thread nD τ).loc main_arg0)) (m ((c : Thread nD τ).loc main_arg1)) (m ((c : Thread nD τ).loc main_arg2)) (m ((c : Thread nD τ).loc main_arg3)) (token t r) k * m ((c : Thread nD τ).loc main_arg4) (ix2 k q)) (col t n) := by
  have e : (outsAt0 m c t.val t.isLt).1 (ix2 r n) = k0_pay2 (F := Ideal) (outsAt0 m c t.val t.isLt).2 (iblk m c 4 t) (ix2 r n) := by
    by_cases h0 : t.val % 12 = 0
    · rw [outsAt0_A m c t h0]
      frame_out
    · rw [outsAt0_B m c t h0]
      frame_out
      rw [scratch]
      rfl
  refine (e.trans (pay2_apply _ _ r n)).trans ?_
  refine Eq.trans ?_ (packed_sum (act m c (token t r)) (fun k q => m ((c : Thread nD τ).loc main_arg4) (ix2 k q)) (col t n))
  refine Finset.sum_congr rfl fun k _ => ?_
  rw [kept m c t.val t.isLt r k, w_read m c t k n]

/-- The kernel's array after the run is the reference's result. -/
theorem kernel_array : (dats m 0 c).arrAt 5 cfg0.N
    = Cert.ReferenceInIdeal.Read.val_main_v28 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  refine (out_read m c t _ _).trans ?_
  refine (ref_result _ _ _ _ _ (token t _) (col t _)).symm.trans ?_
  unfold token col
  blk_ext [idx t]

end Cert.In

end
-- ==== Proof.In.Claim.lean ====
module

public import proofs.«01_k».proof.Defs
public import proofs.«01_k».proof.Proof.Gen.KernelInIdeal.Frame
public import proofs.«01_k».proof.Proof.In.Blocks
public import proofs.«01_k».proof.Proof.Gen.ReferenceInIdeal
public import proofs.«01_k».proof.Proof.Gen.ReferenceInIdeal.Run
public import Idealize.ShloMosaic.Lib.Claim

@[expose] public section

set_option maxRecDepth 16384

noncomputable section

namespace Cert.In

open Idealize.ShloMosaic Idealize.ShloMosaic.TcCoe Idealize.SL.Sem

/-- The reference ends with its arguments unchanged; it declares no semaphore. -/
theorem frame_reference : Cert.quiescent_ReferenceInIdeal (hReferenceInIdeal := Cert.ReferenceInIdeal.Gen.facts) := by
  intro m g _
  exact (θ_run _ _ _).mono (fun r h => ⟨fun c => (h c).2, sem_eq_zero_of_no_sems (by decide) r.2⟩) (Cert.ReferenceInIdeal.Value.run m g)

/-- The kernel's packed input projections are the reference's. -/
theorem algebraic : Cert.algebraic_KernelInIdeal_ReferenceInIdeal (hKernelInIdeal := Cert.KernelInIdeal.Gen.facts)
    (hReferenceInIdeal := Cert.ReferenceInIdeal.Gen.facts) := by
  pair_intro
  · run_from Cert.KernelInIdeal.Gen.run_main m g
  · run_from Cert.ReferenceInIdeal.Value.run m' g'
    obtain ⟨e0, e1, e2, e3, e4⟩ := hagree c
    refine ((Cert.ReferenceInIdeal.Read.val_main_v28_eq m' c).trans ?_).trans (kernel_array m c).symm
    rw [e0, e1, e2, e3, e4]

end Cert.In

end
-- ==== Proof.Moe.Step.lean ====
module

public import proofs.«01_k».proof.Proof.Gen.KernelMoeIdeal.Value
public import proofs.«01_k».proof.Proof.Silu
public import Idealize.ShloMosaic.Lib.WordCmp

@[expose] public section

set_option maxRecDepth 16384

noncomputable section

namespace Cert.Moe

open Cert.KernelMoeIdeal Cert.KernelMoeIdeal.Gen Idealize.ShloMosaic Idealize.ShloMosaic.TcCoe Idealize.SL.Sem

theorem pay3_apply (r : Fin 512) (d : Fin 2048) : k0_pay3 (F := Ideal) (ix2 r d) = 0 := by
  pointwise [k0_pay3]

theorem pay2_apply (x : FVec Ideal S512x2048 .f32) (g : FVec Ideal S1x1x2048 .f32) (acc : FVec Ideal S512x2048 .f32) (r : Fin 512) (d : Fin 2048) :
    k0_pay2 (F := Ideal) x g acc (ix2 r d) = x (ix2 r d) + g (ix3 0 0 d) * acc (ix2 r d) := by
  pointwise [k0_pay2]

theorem pay5_apply (h : FVec Ideal S512x2048 .bf16) (w1 : FVec Ideal S1x2048x256 .bf16) (r : Fin 512) (f : Fin 256) :
    k0_pay5 (F := Ideal) h w1 (ix2 r f) = ∑ k : Fin 2048, h (ix2 r k) * w1 (ix3 0 k f) := by
  pointwise [k0_pay5]

theorem pay6_apply (w3 : FVec Ideal S1x2048x256 .bf16) (k : Fin 2048) (f : Fin 256) :
    k0_pay6 (F := Ideal) w3 (ix2 k f) = w3 (ix3 0 k f) := by
  pointwise [k0_pay6]

theorem pay1_apply (ge : FVec Ideal S512x1 .f32) (h : FVec Ideal S512x2048 .bf16) (a : FVec Ideal S512x256 .f32) (w3 : FVec Ideal S2048x256 .bf16)
    (z : FVec Ideal S512x256 .f32) (acc : FVec Ideal S512x2048 .f32) (w2 : FVec Ideal S1x256x2048 .bf16) (r : Fin 512) (d : Fin 2048) :
    k0_pay1 (F := Ideal) ge h a w3 z acc w2 (ix2 r d) = acc (ix2 r d)
      + ∑ f : Fin 256, silu (a (ix2 r f)) * (z (ix2 r f) + ∑ k : Fin 2048, h (ix2 r k) * w3 (ix2 k f)) * ge (ix2 r 0) * w2 (ix3 0 f d) := by
  pointwise [k0_pay1]
  simp only [silu, Ideal.ofBits_one_f32, Ideal.ofBits_zero_f32, zero_minus]

/-- The expert of a grid point, as the kernel's integer arithmetic finds it from the point's coordinate. -/
theorem expert_word : ∀ j : Fin 88,
    (let arg1 : BitVec 32 := BitVec.ofNat 32 j.val
     let v3 : BitVec 32 := Scalar.divsi arg1 11#32
     let v8 : BitVec 32 := Scalar.subi (Scalar.extui (Scalar.cmpi .sgt arg1 0#32)) (Scalar.extui (Scalar.cmpi .slt arg1 0#32))
     let v13 : BitVec 32 := Scalar.subi (Scalar.extui (Scalar.cmpi .sgt 11#32 0#32)) (Scalar.extui (Scalar.cmpi .slt 11#32 0#32))
     Scalar.select (Scalar.andi (Scalar.cmpi .ne v8 v13) (Scalar.cmpi .ne (Scalar.remsi arg1 11#32) 0#32)) (Scalar.subi v3 1#32) v3)
      = BitVec.ofNat 32 (j.val / 11) := by
  decide +kernel

/-- Choosing one lane of a row and summing gives that lane. -/
theorem choose (x : Fin 128 → EReal) (e : Fin 128) : (∑ l : Fin 128, if BitVec.ofNat 32 l.val = BitVec.ofNat 32 e.val then x l else 0) = x e := by
  rw [Finset.sum_eq_single e]
  · rw [if_pos rfl]
  · intro l _ hl
    rw [if_neg]
    intro h
    have h2 := congrArg BitVec.toNat h
    simp only [BitVec.toNat_ofNat] at h2
    exact hl (Fin.ext (by omega))
  · intro h
    exact absurd (Finset.mem_univ e) h

theorem pick (a b : BitVec 32) (x : EReal) : Scalar.select (IntOp.cmpi .eq a b) x 0 = if a = b then x else 0 := by
  by_cases h : a = b
  · rw [if_pos h, h]
    simp [Scalar.select, IntOp.cmpi]
  · have hb : (a == b) = false := beq_eq_false_iff_ne.mpr h
    rw [if_neg h]
    simp [Scalar.select, IntOp.cmpi, hb]

theorem pay4_apply (i : grid0.Coords) (g : FVec Ideal S512x128 .f32) (r : Fin 512) :
    k0_pay4 (F := Ideal) i g (ix2 r 0) = g (ix2 r ⟨(i 1).val / 11, by have : (i 1).val < 88 := (i 1).isLt; omega⟩) := by
  have hi : (i 1).val < 88 := (i 1).isLt
  have hw := expert_word ⟨(i 1).val, hi⟩
  dsimp only at hw
  unfold k0_pay4
  dsimp only
  rw [hw]
  refine Eq.trans ?_ (choose (fun l => g (ix2 r l)) ⟨(i 1).val / 11, by omega⟩)
  pointwise
  refine Finset.sum_congr rfl fun l _ => ?_
  exact pick _ _ _

end Cert.Moe

end
-- ==== Proof.Moe.Reference.lean ====
module

public import proofs.«01_k».proof.Proof.Gen.ReferenceMoeIdeal.Read
public import proofs.«01_k».proof.Proof.Silu

@[expose] public section

set_option maxRecDepth 16384

noncomputable section

namespace Cert.Moe

open Cert.ReferenceMoeIdeal Cert.ReferenceMoeIdeal.Read Idealize.ShloMosaic Idealize.ShloMosaic.TcCoe Idealize.SL.Sem

variable (x0 : FVec Ideal S8192x2048 .bf16) (x1 : FVec Ideal S8192x128 .f32) (x2 x3 : FVec Ideal S1x8x2048x2816 .f32)
  (x4 : FVec Ideal S1x8x2816x2048 .f32) (x5 : FVec Ideal S8192x2048 .f32) (x6 : FVec Ideal S2x1x2048 .f32)

/-- Expert `e`'s hidden layer: unit `f` of token `r`. -/
def hidden (e : Fin 8) (r : Fin 8192) (f : Fin 2816) : EReal :=
  silu (∑ k : Fin 2048, x0 (ix2 r k) * x2 (ix4 0 e k f)) * ∑ k : Fin 2048, x0 (ix2 r k) * x3 (ix4 0 e k f)

/-- Expert `e`'s output for token `r`, column `d`. -/
def expert (e : Fin 8) (r : Fin 8192) (d : Fin 2048) : EReal := ∑ f : Fin 2816, hidden x0 x2 x3 e r f * x4 (ix4 0 e f d)

theorem expert0 (r : Fin 8192) (d : Fin 2048) : val_main_v16 (F := Ideal) x0 x2 x3 x4 (ix2 r d) = expert x0 x2 x3 x4 0 r d := by
  pointwise [val_main_v6, val_main_v7, val_main_v8, val_main_v9, val_main_v10, val_main_v11, val_main_v12, val_main_v13, val_main_v14, val_main_v15, val_main_v16, val_main_call0_v0, val_main_call0_v1, val_main_call0_v2, val_main_call0_v3, val_main_call0_v4, val_main_call0_v5, val_main_call0_cst, val_main_call0_cst_0, val_main_v0, val_main_v1, val_main_v2, val_main_v3]
  simp only [expert, hidden, silu, Ideal.ofBits_one_f32, Ideal.ofBits_zero_f32, zero_minus]

theorem gate0 (r : Fin 8192) (d : Fin 2048) : val_main_v17 (F := Ideal) x1 (ix2 r d) = x1 (ix2 r 0) := by
  pointwise [val_main_v17, val_main_v5]

theorem expert1 (r : Fin 8192) (d : Fin 2048) : val_main_v31 (F := Ideal) x0 x2 x3 x4 (ix2 r d) = expert x0 x2 x3 x4 1 r d := by
  pointwise [val_main_v21, val_main_v22, val_main_v23, val_main_v24, val_main_v25, val_main_v26, val_main_v27, val_main_v28, val_main_v29, val_main_v30, val_main_v31, val_main_call1_v0, val_main_call1_v1, val_main_call1_v2, val_main_call1_v3, val_main_call1_v4, val_main_call1_v5, val_main_call1_cst, val_main_call1_cst_0, val_main_v0, val_main_v1, val_main_v2, val_main_v3]
  simp only [expert, hidden, silu, Ideal.ofBits_one_f32, Ideal.ofBits_zero_f32, zero_minus]

theorem gate1 (r : Fin 8192) (d : Fin 2048) : val_main_v32 (F := Ideal) x1 (ix2 r d) = x1 (ix2 r 1) := by
  pointwise [val_main_v32, val_main_v20]

theorem expert2 (r : Fin 8192) (d : Fin 2048) : val_main_v46 (F := Ideal) x0 x2 x3 x4 (ix2 r d) = expert x0 x2 x3 x4 2 r d := by
  pointwise [val_main_v36, val_main_v37, val_main_v38, val_main_v39, val_main_v40, val_main_v41, val_main_v42, val_main_v43, val_main_v44, val_main_v45, val_main_v46, val_main_call2_v0, val_main_call2_v1, val_main_call2_v2, val_main_call2_v3, val_main_call2_v4, val_main_call2_v5, val_main_call2_cst, val_main_call2_cst_0, val_main_v0, val_main_v1, val_main_v2, val_main_v3]
  simp only [expert, hidden, silu, Ideal.ofBits_one_f32, Ideal.ofBits_zero_f32, zero_minus]

theorem gate2 (r : Fin 8192) (d : Fin 2048) : val_main_v47 (F := Ideal) x1 (ix2 r d) = x1 (ix2 r 2) := by
  pointwise [val_main_v47, val_main_v35]

theorem expert3 (r : Fin 8192) (d : Fin 2048) : val_main_v61 (F := Ideal) x0 x2 x3 x4 (ix2 r d) = expert x0 x2 x3 x4 3 r d := by
  pointwise [val_main_v51, val_main_v52, val_main_v53, val_main_v54, val_main_v55, val_main_v56, val_main_v57, val_main_v58, val_main_v59, val_main_v60, val_main_v61, val_main_call3_v0, val_main_call3_v1, val_main_call3_v2, val_main_call3_v3, val_main_call3_v4, val_main_call3_v5, val_main_call3_cst, val_main_call3_cst_0, val_main_v0, val_main_v1, val_main_v2, val_main_v3]
  simp only [expert, hidden, silu, Ideal.ofBits_one_f32, Ideal.ofBits_zero_f32, zero_minus]

theorem gate3 (r : Fin 8192) (d : Fin 2048) : val_main_v62 (F := Ideal) x1 (ix2 r d) = x1 (ix2 r 3) := by
  pointwise [val_main_v62, val_main_v50]

theorem expert4 (r : Fin 8192) (d : Fin 2048) : val_main_v76 (F := Ideal) x0 x2 x3 x4 (ix2 r d) = expert x0 x2 x3 x4 4 r d := by
  pointwise [val_main_v66, val_main_v67, val_main_v68, val_main_v69, val_main_v70, val_main_v71, val_main_v72, val_main_v73, val_main_v74, val_main_v75, val_main_v76, val_main_call4_v0, val_main_call4_v1, val_main_call4_v2, val_main_call4_v3, val_main_call4_v4, val_main_call4_v5, val_main_call4_cst, val_main_call4_cst_0, val_main_v0, val_main_v1, val_main_v2, val_main_v3]
  simp only [expert, hidden, silu, Ideal.ofBits_one_f32, Ideal.ofBits_zero_f32, zero_minus]

theorem gate4 (r : Fin 8192) (d : Fin 2048) : val_main_v77 (F := Ideal) x1 (ix2 r d) = x1 (ix2 r 4) := by
  pointwise [val_main_v77, val_main_v65]

theorem expert5 (r : Fin 8192) (d : Fin 2048) : val_main_v91 (F := Ideal) x0 x2 x3 x4 (ix2 r d) = expert x0 x2 x3 x4 5 r d := by
  pointwise [val_main_v81, val_main_v82, val_main_v83, val_main_v84, val_main_v85, val_main_v86, val_main_v87, val_main_v88, val_main_v89, val_main_v90, val_main_v91, val_main_call5_v0, val_main_call5_v1, val_main_call5_v2, val_main_call5_v3, val_main_call5_v4, val_main_call5_v5, val_main_call5_cst, val_main_call5_cst_0, val_main_v0, val_main_v1, val_main_v2, val_main_v3]
  simp only [expert, hidden, silu, Ideal.ofBits_one_f32, Ideal.ofBits_zero_f32, zero_minus]

theorem gate5 (r : Fin 8192) (d : Fin 2048) : val_main_v92 (F := Ideal) x1 (ix2 r d) = x1 (ix2 r 5) := by
  pointwise [val_main_v92, val_main_v80]

theorem expert6 (r : Fin 8192) (d : Fin 2048) : val_main_v106 (F := Ideal) x0 x2 x3 x4 (ix2 r d) = expert x0 x2 x3 x4 6 r d := by
  pointwise [val_main_v96, val_main_v97, val_main_v98, val_main_v99, val_main_v100, val_main_v101, val_main_v102, val_main_v103, val_main_v104, val_main_v105, val_main_v106, val_main_call6_v0, val_main_call6_v1, val_main_call6_v2, val_main_call6_v3, val_main_call6_v4, val_main_call6_v5, val_main_call6_cst, val_main_call6_cst_0, val_main_v0, val_main_v1, val_main_v2, val_main_v3]
  simp only [expert, hidden, silu, Ideal.ofBits_one_f32, Ideal.ofBits_zero_f32, zero_minus]

theorem gate6 (r : Fin 8192) (d : Fin 2048) : val_main_v107 (F := Ideal) x1 (ix2 r d) = x1 (ix2 r 6) := by
  pointwise [val_main_v107, val_main_v95]

theorem expert7 (r : Fin 8192) (d : Fin 2048) : val_main_v121 (F := Ideal) x0 x2 x3 x4 (ix2 r d) = expert x0 x2 x3 x4 7 r d := by
  pointwise [val_main_v111, val_main_v112, val_main_v113, val_main_v114, val_main_v115, val_main_v116, val_main_v117, val_main_v118, val_main_v119, val_main_v120, val_main_v121, val_main_call7_v0, val_main_call7_v1, val_main_call7_v2, val_main_call7_v3, val_main_call7_v4, val_main_call7_v5, val_main_call7_cst, val_main_call7_cst_0, val_main_v0, val_main_v1, val_main_v2, val_main_v3]
  simp only [expert, hidden, silu, Ideal.ofBits_one_f32, Ideal.ofBits_zero_f32, zero_minus]

theorem gate7 (r : Fin 8192) (d : Fin 2048) : val_main_v122 (F := Ideal) x1 (ix2 r d) = x1 (ix2 r 7) := by
  pointwise [val_main_v122, val_main_v110]

/-- The sum of the experts' outputs, weighted by their gates. -/
theorem mixture (r : Fin 8192) (d : Fin 2048) :
    val_main_v124 (F := Ideal) x0 x1 x2 x3 x4 (ix2 r d)
      = ∑ e : Fin 8, x1 (ix2 r ⟨e.val, by omega⟩) * expert x0 x2 x3 x4 e r d := by
  pointwise [val_main_v124, val_main_v109, val_main_v94, val_main_v79, val_main_v64, val_main_v49, val_main_v34, val_main_v19, val_main_v4, val_main_cst, val_main_v123, val_main_v108, val_main_v93, val_main_v78, val_main_v63, val_main_v48, val_main_v33, val_main_v18]
  simp only [expert0, expert1, expert2, expert3, expert4, expert5, expert6, expert7, gate0, gate1, gate2, gate3, gate4, gate5, gate6, gate7,
    Ideal.ofBits_zero_f32, Fin.sum_univ_eight, zero_add]
  rfl

/-- The reference's result. -/
theorem ref_result (r : Fin 8192) (d : Fin 2048) :
    val_main_v130 (F := Ideal) x0 x1 x2 x3 x4 x5 x6 (ix2 r d)
      = residual (x5 (ix2 r d)) (x6 (ix3 ⟨r.val / 4096, by omega⟩ 0 d)) (∑ e : Fin 8, x1 (ix2 r ⟨e.val, by omega⟩) * expert x0 x2 x3 x4 e r d) := by
  rw [← mixture]
  unfold residual
  pointwise [val_main_v130, val_main_v129, val_main_v128, val_main_v127, val_main_v126, val_main_v125]

end Cert.Moe

end
-- ==== Proof.Moe.Blocks.lean ====
module

public import proofs.«01_k».proof.Proof.Moe.Step
public import proofs.«01_k».proof.Proof.Moe.Reference
public import proofs.«01_k».proof.Proof.Fox.Softmax
public import Idealize.ShloMosaic.Lib.Claim

@[expose] public section

set_option maxRecDepth 16384

noncomputable section

namespace Cert.Moe

open Cert.KernelMoeIdeal Cert.KernelMoeIdeal.Gen Idealize.ShloMosaic Idealize.ShloMosaic.TcCoe Idealize.SL.Sem

variable (m : (ℓ : Loc nD τ sig) → ℓ.ty.Contents (Elt Ideal)) (c : Dev nD)

/-- The blocks each grid point reads and writes: token tile `t / 88`, expert `t % 88 / 11`, hidden tile `t % 11`. -/
theorem idx : ∀ t : Fin cfg0.N, win0_0.index t = ![t.val / 88, 0] ∧ win0_1.index t = ![t.val / 88, 0]
    ∧ win0_2.index t = ![t.val % 88 / 11, 0, t.val % 11] ∧ win0_3.index t = ![t.val % 88 / 11, 0, t.val % 11]
    ∧ win0_4.index t = ![t.val % 88 / 11, t.val % 11, 0] ∧ win0_5.index t = ![t.val / 88, 0]
    ∧ win0_6.index t = ![t.val / 88 * 512 / 4096, 0, 0] ∧ win0_7.index t = ![t.val / 88, 0] :=
  (by decide +kernel : ∀ t : Fin grid0.N, _)

theorem coord : ∀ t : Fin cfg0.N, (grid0.coords t 1).val = t.val % 88 :=
  (by decide +kernel : ∀ t : Fin grid0.N, _)

theorem points (t : Fin cfg0.N) : t.val < 1408 := lt_of_lt_of_eq t.isLt N_0

/-- The token of a grid point's row, the point's expert, and the hidden unit of its lane. -/
def token (t : Fin cfg0.N) (r : Fin 512) : Fin 8192 := ⟨t.val / 88 * 512 + r.val, by have := points t; omega⟩
def expertOf (t : Fin cfg0.N) : Fin 8 := ⟨t.val % 88 / 11, by omega⟩
def hid (t : Fin cfg0.N) (f : Fin 256) : Fin 2816 := ⟨t.val % 11 * 256 + f.val, by omega⟩

theorem h_read (t : Fin cfg0.N) (r : Fin 512) (k : Fin 2048) :
    iblk m c 0 t (ix2 r k) = m ((c : Thread nD τ).loc main_arg0) (ix2 (token t r) k) := by
  unfold token
  blk_ext [iblk, V, idx t]

theorem gate_read (t : Fin cfg0.N) (r : Fin 512) (l : Fin 128) :
    iblk m c 1 t (ix2 r l) = m ((c : Thread nD τ).loc main_arg1) (ix2 (token t r) l) := by
  unfold token
  blk_ext [iblk, V, idx t]

theorem x_read (t : Fin cfg0.N) (r : Fin 512) (d : Fin 2048) :
    iblk m c 5 t (ix2 r d) = m ((c : Thread nD τ).loc main_arg5) (ix2 (token t r) d) := by
  unfold token
  blk_ext [iblk, V, idx t]

theorem g_read (t : Fin cfg0.N) (r : Fin 512) (d : Fin 2048) :
    iblk m c 6 t (ix3 0 0 d) = m ((c : Thread nD τ).loc main_arg6) (ix3 ⟨(token t r).val / 4096, by omega⟩ 0 d) := by
  have hN := points t
  unfold token
  blk_ext [iblk, V, idx t]

/-- The weights as the host lays them out. -/
theorem up_read (y : FVec Ideal S1x8x2048x2816 .f32) (e : Fin 8) (k : Fin 2048) (f : Fin 2816) :
    truncf .bf16 (shapeCast S8x2048x2816 y shapeCasts_S1x8x2048x2816_S8x2048x2816) bitsLt_bf16_f32 (ix3 e k f) = y (ix4 0 e k f) := by
  pointwise

theorem down_read (y : FVec Ideal S1x8x2816x2048 .f32) (e : Fin 8) (f : Fin 2816) (d : Fin 2048) :
    truncf .bf16 (shapeCast S8x2816x2048 y shapeCasts_S1x8x2816x2048_S8x2816x2048) bitsLt_bf16_f32 (ix3 e f d) = y (ix4 0 e f d) := by
  pointwise

theorem v1_read (e : Fin 8) (k : Fin 2048) (f : Fin 2816) : V m c main_v1 (ix3 e k f) = m ((c : Thread nD τ).loc main_arg2) (ix4 0 e k f) := by
  entry_read
  exact up_read _ e k f

theorem v3_read (e : Fin 8) (k : Fin 2048) (f : Fin 2816) : V m c main_v3 (ix3 e k f) = m ((c : Thread nD τ).loc main_arg3) (ix4 0 e k f) := by
  entry_read
  exact up_read _ e k f

theorem v5_read (e : Fin 8) (f : Fin 2816) (d : Fin 2048) : V m c main_v5 (ix3 e f d) = m ((c : Thread nD τ).loc main_arg4) (ix4 0 e f d) := by
  entry_read
  exact down_read _ e f d

theorem w1_read (t : Fin cfg0.N) (k : Fin 2048) (f : Fin 256) :
    iblk m c 2 t (ix3 0 k f) = m ((c : Thread nD τ).loc main_arg2) (ix4 0 (expertOf t) k (hid t f)) := by
  refine Eq.trans ?_ (v1_read m c (expertOf t) k (hid t f))
  unfold hid expertOf
  blk_ext [iblk, idx t]

theorem w3_read (t : Fin cfg0.N) (k : Fin 2048) (f : Fin 256) :
    iblk m c 3 t (ix3 0 k f) = m ((c : Thread nD τ).loc main_arg3) (ix4 0 (expertOf t) k (hid t f)) := by
  refine Eq.trans ?_ (v3_read m c (expertOf t) k (hid t f))
  unfold hid expertOf
  blk_ext [iblk, idx t]

theorem w2_read (t : Fin cfg0.N) (f : Fin 256) (d : Fin 2048) :
    iblk m c 4 t (ix3 0 f d) = m ((c : Thread nD τ).loc main_arg4) (ix4 0 (expertOf t) (hid t f) d) := by
  refine Eq.trans ?_ (v5_read m c (expertOf t) (hid t f) d)
  unfold hid expertOf
  blk_ext [iblk, idx t]

/-- The hidden layer and the gate of the arguments, by token and expert. -/
def hiddenAt (e : Fin 8) (n : Fin 8192) (f : Fin 2816) : EReal :=
  hidden (m ((c : Thread nD τ).loc main_arg0)) (m ((c : Thread nD τ).loc main_arg2)) (m ((c : Thread nD τ).loc main_arg3)) e n f
def gate (e : Fin 8) (n : Fin 8192) : EReal := m ((c : Thread nD τ).loc main_arg1) (ix2 n ⟨e.val, by omega⟩)
def down (e : Fin 8) (f : Fin 2816) (d : Fin 2048) : EReal := m ((c : Thread nD τ).loc main_arg4) (ix4 0 e f d)

/-- What grid point `t` adds to row `r`, column `d`. -/
def part (t : Fin cfg0.N) (r : Fin 512) (d : Fin 2048) : EReal :=
  ∑ f : Fin 256, hiddenAt m c (expertOf t) (token t r) (hid t f) * gate m c (expertOf t) (token t r) * down m c (expertOf t) (hid t f) d

theorem step_read (t : Fin cfg0.N) (acc : FVec Ideal S512x2048 .f32) (r : Fin 512) (d : Fin 2048) :
    k0_pay1 (F := Ideal) (k0_pay4 (F := Ideal) (grid0.coords t) (iblk m c 1 t)) (iblk m c 0 t) (k0_pay5 (F := Ideal) (iblk m c 0 t) (iblk m c 2 t))
        (k0_pay6 (F := Ideal) (iblk m c 3 t)) (constant S512x256 .f32 0x00000000#32) acc (iblk m c 4 t) (ix2 r d)
      = acc (ix2 r d) + part m c t r d := by
  refine (pay1_apply _ _ _ _ _ _ _ r d).trans ?_
  have hz : ∀ f : Fin 256, constant (F := Ideal) S512x256 .f32 0x00000000#32 (ix2 r f) = (0 : EReal) := fun f => Ideal.ofBits_zero_f32
  unfold part hiddenAt gate down hidden
  simp only [pay4_apply, pay5_apply, pay6_apply, hz, zero_add, coord t, gate_read m c t, h_read m c t, w1_read m c t, w3_read m c t, w2_read m c t]
  rfl

theorem scratch (x : FVec Ideal S512x2048 .f32) :
    View.read (Elt Ideal) (View.whole cc0_scratch0) ((Memref.isWhole_whole cc0_scratch0).unread x) = x :=
  (Memref.isWhole_whole cc0_scratch0).read_unread (Val := Elt Ideal) x

theorem first (t : Fin cfg0.N) (h0 : t.val % 88 = 0) (r : Fin 512) (d : Fin 2048) :
    (outsAt0 m c t.val t.isLt).2 (ix2 r d) = 0 + part m c t r d := by
  rw [outsAt0_A m c t h0 (by omega)]
  frame_out
  refine (step_read m c t _ r d).trans ?_
  rw [pay3_apply]

theorem next (t : Fin cfg0.N) (h0 : ¬t.val % 88 = 0) (r : Fin 512) (d : Fin 2048) :
    (outsAt0 m c t.val t.isLt).2 (ix2 r d) = (outsAt0 m c (t.val - 1) (Nat.lt_of_le_of_lt (Nat.sub_le _ _) t.isLt)).2 (ix2 r d) + part m c t r d := by
  by_cases h1 : t.val % 88 = 87
  · rw [outsAt0_C m c t h0 h1]
    frame_out
    refine (step_read m c t _ r d).trans ?_
    rw [scratch]
  · rw [outsAt0_B m c t h0 h1]
    frame_out
    refine (step_read m c t _ r d).trans ?_
    rw [scratch]

/-- What the arguments' gates must be: real and not negative. -/
def Gates : Prop := ∀ e n, 0 ≤ gate m c e n ∧ gate m c e n ≠ ⊤

/-- The scratch buffer at a token tile's last point: the whole mixture of experts. -/
theorem total (hg : Gates m c) (t : Fin cfg0.N) (h1 : t.val % 88 = 87) (r : Fin 512) (d : Fin 2048) :
    (outsAt0 m c t.val t.isLt).2 (ix2 r d)
      = ∑ e : Fin 8, gate m c e (token t r) * ∑ f : Fin 2816, hiddenAt m c e (token t r) f * down m c e f d := by
  refine (Pipeline.eq_sum_fin_of_reset_step_apply_of_flush (fun n h (i : Fin 512 × Fin 2048) => (outsAt0 m c n h).2 (ix2 i.1 i.2)) 88 (fun _ => 0)
    (fun t i => part m c t i.1 i.2) (fun t h i => first m c t h i.1 i.2) (fun t h i => next m c t h i.1 i.2) t h1 (r, d)).trans ?_
  rw [zero_add]
  have hs : ∀ e : Fin 8, gate m c e (token t r) * ∑ f : Fin 2816, hiddenAt m c e (token t r) f * down m c e f d
      = ∑ s : Fin 11, ∑ k : Fin 256, hiddenAt m c e (token t r) ⟨s.val * 256 + k.val, by omega⟩ * gate m c e (token t r)
          * down m c e ⟨s.val * 256 + k.val, by omega⟩ d := fun e => by
    rw [Cert.Fox.real_mul_sum _ (hg e _).1 (hg e _).2]
    refine Eq.symm (Fin.sum_mul_add_congr fun s k hl => ?_)
    rw [mul_right_comm, mul_comm]
  rw [Finset.sum_congr rfl fun e _ => hs e]
  unfold part
  refine Fin.sum_divmod_congr fun s ha hs => ?_
  have e1 : token ⟨88 * (t.val / 88) + s.val, Pipeline.run_point_lt_of_flush t h1 s⟩ r = token t r :=
    Fin.ext (by show (88 * (t.val / 88) + s.val) / 88 * 512 + r.val = t.val / 88 * 512 + r.val; omega)
  have e2 : expertOf ⟨88 * (t.val / 88) + s.val, Pipeline.run_point_lt_of_flush t h1 s⟩ = ⟨s.val / 11, ha⟩ :=
    Fin.ext (by show (88 * (t.val / 88) + s.val) % 88 / 11 = s.val / 11; omega)
  have e3 : ∀ k, hid ⟨88 * (t.val / 88) + s.val, Pipeline.run_point_lt_of_flush t h1 s⟩ k = ⟨s.val % 11 * 256 + k.val, by omega⟩ := fun k =>
    Fin.ext (by show (88 * (t.val / 88) + s.val) % 11 * 256 + k.val = s.val % 11 * 256 + k.val; omega)
  simp only [e1, e2, e3]

theorem out_read (t : Fin cfg0.N) (h1 : t.val % 88 = 87) (r : Fin 512) (d : Fin 2048) :
    (outsAt0 m c t.val t.isLt).1 (ix2 r d)
      = residual (m ((c : Thread nD τ).loc main_arg5) (ix2 (token t r) d))
          (m ((c : Thread nD τ).loc main_arg6) (ix3 ⟨(token t r).val / 4096, by omega⟩ 0 d)) ((outsAt0 m c t.val t.isLt).2 (ix2 r d)) := by
  rw [outsAt0_C m c t (by omega) h1]
  frame_out
  refine (pay2_apply _ _ _ r d).trans ?_
  rw [x_read, g_read m c t r d]
  rfl

/-- The kernel's array after the run is the reference's result. -/
theorem kernel_array (hg : Gates m c) : (dats m 0 c).arrAt 7 cfg0.N
    = Cert.ReferenceMoeIdeal.Read.val_main_v130 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  have h1 := (flush0_7 t).mp hf
  blk_simp
  rw [after0_7]
  idx_vars y
  refine (out_read m c t h1 _ _).trans ?_
  rw [total m c hg t h1]
  refine (ref_result _ _ _ _ _ _ _ (token t _) _).symm.trans ?_
  unfold token
  blk_ext [idx t]

end Cert.Moe

end
-- ==== Proof.Moe.Domain.lean ====
module

public import proofs.«01_k».proof.Pre_gates_real
public import proofs.«01_k».proof.Proof.Fox.Domain
public import proofs.«01_k».proof.Proof.Moe.Blocks

@[expose] public section

set_option maxRecDepth 16384

noncomputable section

namespace Cert.Moe

open Idealize.ShloMosaic Idealize.ShloMosaic.TcCoe Idealize.SL.Sem

section
open Cert.Pre_gates_real

/-- What the precondition says of one gate. -/
theorem pre_gate [Facts] (x0 : FVec Ideal S8192x2048 .bf16) (x1 : FVec Ideal S8192x128 .f32) (x2 x3 : FVec Ideal S1x8x2048x2816 .f32)
    (x4 : FVec Ideal S1x8x2816x2048 .f32) (x5 : FVec Ideal S8192x2048 .f32) (x6 : FVec Ideal S2x1x2048 .f32)
    (h : fn (F := Ideal) x0 x1 x2 x3 x4 x5 x6 = fun _ => 1#1) (e : Fin 8) (r : Fin 8192) :
    0 ≤ x1 (ix2 r ⟨e.val, by omega⟩) ∧ x1 (ix2 r ⟨e.val, by omega⟩) ≠ ⊤ := by
  have q := congrFun h (ix2 r e)
  pointwise [fn] at q
  obtain ⟨q1, q2⟩ := Cert.Fox.both _ _ q
  have q1 := Cert.Fox.holds_bit _ q1
  have q2 := Cert.Fox.holds_bit _ q2
  rw [Cert.Fox.high32] at q2
  exact ⟨q1, q2.ne⟩

end

end Cert.Moe

end
-- ==== Proof.Moe.Claim.lean ====
module

public import proofs.«01_k».proof.Defs
public import proofs.«01_k».proof.Proof.Gen.KernelMoeIdeal.Frame
public import proofs.«01_k».proof.Proof.Moe.Domain
public import proofs.«01_k».proof.Proof.Gen.ReferenceMoeIdeal
public import proofs.«01_k».proof.Proof.Gen.ReferenceMoeIdeal.Run
public import Idealize.ShloMosaic.Lib.Claim

@[expose] public section

set_option maxRecDepth 16384

noncomputable section

namespace Cert.Moe

open Idealize.ShloMosaic Idealize.ShloMosaic.TcCoe Idealize.SL.Sem

/-- The reference ends with its arguments unchanged; it declares no semaphore. -/
theorem frame_reference : Cert.quiescent_ReferenceMoeIdeal (hReferenceMoeIdeal := Cert.ReferenceMoeIdeal.Gen.facts) := by
  intro m g _
  exact (θ_run _ _ _).mono (fun r h => ⟨fun c => (h c).2, sem_eq_zero_of_no_sems (by decide) r.2⟩) (Cert.ReferenceMoeIdeal.Value.run m g)

section
open Cert.ReferenceMoeIdeal

/-- A run of the reference leaves the stage value of its arguments, and keeps them. -/
theorem reference_run (m' : (ℓ : Loc nD τ sig) → Buf (Elt Ideal) ℓ) (g : Dev nD → PrngReg) :
    θ_run defs (onTc (τ := τ) (main (F := Ideal))) ⟨m', fun _ => 0, g⟩ fun r => ∀ c : Dev nD,
      r.2.mem ((c.tc : Thread nD τ).loc main_v130) = Read.val_main_v130 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_arg0) = m' ((c.tc : Thread nD τ).loc main_arg0) ∧ r.2.mem ((c.tc : Thread nD τ).loc main_arg1) = m' ((c.tc : Thread nD τ).loc main_arg1) ∧ r.2.mem ((c.tc : Thread nD τ).loc main_arg2) = m' ((c.tc : Thread nD τ).loc main_arg2) ∧ r.2.mem ((c.tc : Thread nD τ).loc main_arg3) = m' ((c.tc : Thread nD τ).loc main_arg3) ∧ r.2.mem ((c.tc : Thread nD τ).loc main_arg4) = m' ((c.tc : Thread nD τ).loc main_arg4) ∧ r.2.mem ((c.tc : Thread nD τ).loc main_arg5) = m' ((c.tc : Thread nD τ).loc main_arg5) ∧ r.2.mem ((c.tc : Thread nD τ).loc main_arg6) = m' ((c.tc : Thread nD τ).loc main_arg6) :=
  (θ_run defs _ _).mono (fun _ h c => ⟨(h c).1.trans (Read.val_main_v130_eq _), (h c).2⟩) (Value.run m' g)

end

theorem pre_facts : Cert.Pre_gates_real.Facts where
  slices_S8192x128_S8192x8_0_0 := by decide
  bcast_S_S8192x8 := by decide

/-- The kernel's expert layer is the reference's at every argument whose gates are real and not negative. -/
theorem algebraic : Cert.algebraic_KernelMoeIdeal_ReferenceMoeIdeal_pre_gates_real (hKernelMoeIdeal := Cert.KernelMoeIdeal.Gen.facts)
    (hReferenceMoeIdeal := Cert.ReferenceMoeIdeal.Gen.facts) (hPre_gates_real := pre_facts) := by
  pair_intro
  · run_from Cert.KernelMoeIdeal.Gen.run_main m g
  · run_from reference_run m' g'
    exact (kernel_array m c (@pre_gate pre_facts _ _ _ _ _ _ _ (hpre c))).symm

end Cert.Moe

end
-- ==== Proof.Out.Step.lean ====
module

public import proofs.«01_k».proof.Proof.Gen.KernelOutIdeal.Value
public import proofs.«01_k».proof.Proof.Norm
public import proofs.«01_k».proof.Proof.Silu
public import Idealize.ShloMosaic.Lib.Claim

@[expose] public section

set_option maxRecDepth 16384

noncomputable section

namespace Cert.Out

open Cert.KernelOutIdeal Cert.KernelOutIdeal.Gen Idealize.ShloMosaic Idealize.ShloMosaic.TcCoe Idealize.SL.Sem

theorem pay2_apply (a : FVec Ideal S512x768 .bf16) (wa : FVec Ideal S768x2048 .bf16) (b : FVec Ideal S512x768 .bf16) (wb : FVec Ideal S768x2048 .bf16)
    (e : FVec Ideal S512x512 .bf16) (we : FVec Ideal S512x2048 .bf16) (x : FVec Ideal S512x2048 .f32) (g : FVec Ideal S1x1x2048 .f32) (r : Fin 512) (d : Fin 2048) :
    k0_pay2 (F := Ideal) a wa b wb e we x g (ix2 r d)
      = residual (x (ix2 r d)) (g (ix3 0 0 d)) (∑ k : Fin 768, a (ix2 r k) * wa (ix2 k d) + ∑ k : Fin 768, b (ix2 r k) * wb (ix2 k d)
          + ∑ k : Fin 512, e (ix2 r k) * we (ix2 k d)) := by
  pointwise [k0_pay2]
  rfl

/-- The normalised row, before it is modulated. -/
theorem pay3_apply (a : FVec Ideal S512x768 .bf16) (wa : FVec Ideal S768x2048 .bf16) (b : FVec Ideal S512x768 .bf16) (wb : FVec Ideal S768x2048 .bf16)
    (e : FVec Ideal S512x512 .bf16) (we : FVec Ideal S512x2048 .bf16) (x : FVec Ideal S512x2048 .f32) (g : FVec Ideal S1x1x2048 .f32) (r : Fin 512) (d : Fin 2048) :
    k0_pay3 (F := Ideal) a wa b wb e we x g (ix2 r d)
      = k0_pay2 (F := Ideal) a wa b wb e we x g (ix2 r d) * rmsFactor (fun k => k0_pay2 (F := Ideal) a wa b wb e we x g (ix2 r k)) := by
  unfold k0_pay3
  generalize k0_pay2 (F := Ideal) a wa b wb e we x g = y
  pointwise
  rfl

theorem pay1_apply (y : FVec Ideal S512x2048 .f32) (g : FVec Ideal S1x2048 .f32) (sc sh : FVec Ideal S1x1x2048 .f32) (r : Fin 512) (d : Fin 2048) :
    k0_pay1 (F := Ideal) y g sc sh (ix2 r d) = y (ix2 r d) * g (ix2 0 d) * (1 + sc (ix3 0 0 d)) + sh (ix3 0 0 d) := by
  pointwise [k0_pay1]

variable (x0 x1 : FVec Ideal S512x768 .bf16) (x2 : FVec Ideal S512x512 .bf16) (x3 : FVec Ideal S2048x2048 .bf16)
  (x4 : FVec Ideal S512x2048 .f32) (x5 : FVec Ideal S1x1x2048 .f32) (x6 : FVec Ideal S1x2048 .f32) (x7 x8 : FVec Ideal S1x1x2048 .f32)

/-- The weights' rows of each group of heads. -/
theorem rows_a (k : Fin 768) (d : Fin 2048) :
    View.ld (Val := Elt Ideal) (e' := .bf16) x3 r0_1 (ix2 k d) = x3 (ix2 ⟨k.val, by omega⟩ d) := by
  pointwise

theorem rows_b (k : Fin 768) (d : Fin 2048) :
    View.ld (Val := Elt Ideal) (e' := .bf16) x3 r0_2 (ix2 k d) = x3 (ix2 ⟨768 + k.val, by omega⟩ d) := by
  pointwise

theorem rows_c (k : Fin 512) (d : Fin 2048) :
    View.ld (Val := Elt Ideal) (e' := .bf16) x3 r0_4 (ix2 k d) = x3 (ix2 ⟨1536 + k.val, by omega⟩ d) := by
  pointwise

/-- One row of the block: the residual stream plus the gated sum over the three groups of heads. -/
def row (r : Fin 512) (d : Fin 2048) : EReal :=
  residual (x4 (ix2 r d)) (x5 (ix3 0 0 d)) (∑ k : Fin 768, x0 (ix2 r k) * x3 (ix2 ⟨k.val, by omega⟩ d)
    + ∑ k : Fin 768, x1 (ix2 r k) * x3 (ix2 ⟨768 + k.val, by omega⟩ d) + ∑ k : Fin 512, x2 (ix2 r k) * x3 (ix2 ⟨1536 + k.val, by omega⟩ d))

theorem row_eq (r : Fin 512) (d : Fin 2048) :
    k0_pay2 (F := Ideal) x0 (View.ld x3 r0_1) x1 (View.ld x3 r0_2) x2 (View.ld x3 r0_4) x4 x5 (ix2 r d) = row x0 x1 x2 x3 x4 x5 r d := by
  refine (pay2_apply _ _ _ _ _ _ _ _ r d).trans ?_
  refine congrArg (residual _ _) (congrArg₂ (· + ·) (congrArg₂ (· + ·) ?_ ?_) ?_)
  · exact Finset.sum_congr rfl fun k _ => congrArg (fun z => x0 (ix2 r k) * z) (rows_a x3 k d)
  · exact Finset.sum_congr rfl fun k _ => congrArg (fun z => x1 (ix2 r k) * z) (rows_b x3 k d)
  · exact Finset.sum_congr rfl fun k _ => congrArg (fun z => x2 (ix2 r k) * z) (rows_c x3 k d)

theorem out9 (r : Fin 512) (d : Fin 2048) : out0_9 (F := Ideal) x0 x1 x2 x3 x4 x5 x6 x7 x8 (ix2 r d) = row x0 x1 x2 x3 x4 x5 r d := by
  frame_out
  exact row_eq _ _ _ _ _ _ r d

theorem out10 (r : Fin 512) (d : Fin 2048) :
    out0_10 (F := Ideal) x0 x1 x2 x3 x4 x5 x6 x7 x8 (ix2 r d)
      = modulated (row x0 x1 x2 x3 x4 x5 r) (x6 (ix2 0 d)) (x7 (ix3 0 0 d)) (x8 (ix3 0 0 d)) d := by
  frame_out
  refine (pay1_apply _ _ _ _ r d).trans ?_
  rw [pay3_apply]
  simp only [row_eq]
  rfl

end Cert.Out

end
-- ==== Proof.Out.Reference.lean ====
module

public import proofs.«01_k».proof.Proof.Gen.ReferenceOutIdeal.Read
public import proofs.«01_k».proof.Proof.Norm
public import proofs.«01_k».proof.Proof.Silu

@[expose] public section

set_option maxRecDepth 16384

noncomputable section

namespace Cert.Out

open Cert.ReferenceOutIdeal Cert.ReferenceOutIdeal.Read Idealize.ShloMosaic Idealize.ShloMosaic.TcCoe Idealize.SL.Sem

/-- One entry of three rows laid end to end. -/
def joined (a b : Fin 768 → EReal) (e : Fin 512 → EReal) (k : Fin 2048) : EReal :=
  if h : k.val < 768 then a ⟨k.val, h⟩
  else if h : k.val - 768 < 768 then b ⟨k.val - 768, h⟩
  else e ⟨k.val - 768 - 768, by omega⟩

/-- A sum against three rows laid end to end is the sum of the three sums. -/
theorem sum_joined (a b : Fin 768 → EReal) (e : Fin 512 → EReal) (w : Fin 2048 → EReal) :
    ∑ k : Fin 2048, joined a b e k * w k
      = ∑ k : Fin 768, a k * w ⟨k.val, by omega⟩ + ∑ k : Fin 768, b k * w ⟨768 + k.val, by omega⟩ + ∑ k : Fin 512, e k * w ⟨1536 + k.val, by omega⟩ := by
  refine (Fin.sum_univ_add (a := 1536) (b := 512) (fun k => joined a b e k * w k)).trans ?_
  refine congrArg₂ (· + ·) ((Fin.sum_univ_add (a := 768) (b := 768) (fun k => joined a b e (Fin.castAdd 512 k) * w (Fin.castAdd 512 k))).trans ?_) ?_
  · refine congrArg₂ (· + ·) (Finset.sum_congr rfl fun k _ => congrArg₂ (· * ·) ?_ rfl) (Finset.sum_congr rfl fun k _ => congrArg₂ (· * ·) ?_ rfl)
    · exact dif_pos k.isLt
    · unfold joined
      rw [dif_neg (by show ¬768 + k.val < 768; omega), dif_pos (by show 768 + k.val - 768 < 768; omega)]
      exact congrArg b (Fin.ext (by show 768 + k.val - 768 = k.val; omega))
  · refine Finset.sum_congr rfl fun k _ => congrArg₂ (· * ·) ?_ rfl
    unfold joined
    rw [dif_neg (by show ¬1536 + k.val < 768; omega), dif_neg (by show ¬1536 + k.val - 768 < 768; omega)]
    exact congrArg e (Fin.ext (by show 1536 + k.val - 768 - 768 = k.val; omega))

variable (x0 x1 : FVec Ideal S8192x768 .bf16) (x2 : FVec Ideal S8192x512 .bf16) (x3 : FVec Ideal S2048x2048 .f32)
  (x4 : FVec Ideal S8192x2048 .f32) (x5 : FVec Ideal S2x1x2048 .f32) (x6 : FVec Ideal S2048 .f32) (x7 x8 : FVec Ideal S2x1x2048 .f32)

/-- The residual stream after the output projection: column `d` of token `r`. -/
def mixed (r : Fin 8192) (d : Fin 2048) : EReal :=
  residual (x4 (ix2 r d)) (x5 (ix3 ⟨r.val / 4096, by omega⟩ 0 d)) (∑ k : Fin 768, x0 (ix2 r k) * x3 (ix2 ⟨k.val, by omega⟩ d)
    + ∑ k : Fin 768, x1 (ix2 r k) * x3 (ix2 ⟨768 + k.val, by omega⟩ d) + ∑ k : Fin 512, x2 (ix2 r k) * x3 (ix2 ⟨1536 + k.val, by omega⟩ d))

theorem heads (r : Fin 8192) (k : Fin 2048) :
    val_main_v0 (F := Ideal) x0 x1 x2 (ix2 r k) = joined (fun k => x0 (ix2 r k)) (fun k => x1 (ix2 r k)) (fun k => x2 (ix2 r k)) k := by
  pointwise [val_main_v0]
  rfl

theorem mixed_joined (b : Fin 2) (s : Fin 4096) (d : Fin 2048) (r : Fin 8192) (hr : r.val = b.val * 4096 + s.val) :
    mixed x0 x1 x2 x3 x4 x5 r d = x4 (ix2 r d) + x5 (ix3 b 0 d)
      * ∑ k : Fin 2048, joined (fun k => x0 (ix2 r k)) (fun k => x1 (ix2 r k)) (fun k => x2 (ix2 r k)) k * x3 (ix2 k d) := by
  have e : (⟨r.val / 4096, by omega⟩ : Fin 2) = b := Fin.ext (by show r.val / 4096 = b.val; omega)
  rw [sum_joined _ _ _ (fun k => x3 (ix2 k d))]
  unfold mixed
  rw [e]
  rfl

/-- The reference's residual stream, by batch. -/
theorem stream (b : Fin 2) (s : Fin 4096) (d : Fin 2048) :
    val_main_v7 (F := Ideal) x0 x1 x2 x3 x4 x5 (ix3 b s d) = mixed x0 x1 x2 x3 x4 x5 ⟨b.val * 4096 + s.val, by omega⟩ d := by
  refine Eq.trans ?_ (mixed_joined x0 x1 x2 x3 x4 x5 b s d _ rfl).symm
  pointwise [val_main_v1, val_main_v2, val_main_v3, val_main_v4, val_main_v5, val_main_v6, val_main_v7]
  simp only [heads]

theorem ref_x (r : Fin 8192) (d : Fin 2048) : val_main_v27 (F := Ideal) x0 x1 x2 x3 x4 x5 (ix2 r d) = mixed x0 x1 x2 x3 x4 x5 r d := by
  pointwise [val_main_v27]
  refine (stream x0 x1 x2 x3 x4 x5 _ _ d).trans ?_
  exact congrArg (fun r => mixed x0 x1 x2 x3 x4 x5 r d) (Fin.ext (by dsimp only; omega))

/-- The reference's normalised and modulated stream, by batch. -/
theorem normed (b : Fin 2) (s : Fin 4096) (d : Fin 2048) :
    val_main_v26 (F := Ideal) x0 x1 x2 x3 x4 x5 x6 x7 x8 (ix3 b s d)
      = modulated (fun k => val_main_v7 (F := Ideal) x0 x1 x2 x3 x4 x5 (ix3 b s k)) (x6 (ix1 d)) (x7 (ix3 b 0 d)) (x8 (ix3 b 0 d)) d := by
  pointwise [val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2]
  simp only [modulated, rmsFactor, zero_add]

theorem ref_h (r : Fin 8192) (d : Fin 2048) :
    val_main_v29 (F := Ideal) x0 x1 x2 x3 x4 x5 x6 x7 x8 (ix2 r d)
      = modulated (mixed x0 x1 x2 x3 x4 x5 r) (x6 (ix1 d)) (x7 (ix3 ⟨r.val / 4096, by omega⟩ 0 d)) (x8 (ix3 ⟨r.val / 4096, by omega⟩ 0 d)) d := by
  pointwise [val_main_v29, val_main_v28]
  refine (normed x0 x1 x2 x3 x4 x5 x6 x7 x8 _ _ d).trans ?_
  simp only [stream]
  exact congrArg (fun q => modulated (mixed x0 x1 x2 x3 x4 x5 q) (x6 (ix1 d)) (x7 (ix3 ⟨r.val / 4096, by omega⟩ 0 d)) (x8 (ix3 ⟨r.val / 4096, by omega⟩ 0 d)) d)
    (Fin.ext (by dsimp only; omega))

end Cert.Out

end
-- ==== Proof.Out.Blocks.lean ====
module

public import proofs.«01_k».proof.Proof.Out.Step
public import proofs.«01_k».proof.Proof.Out.Reference
public import Idealize.ShloMosaic.Lib.Claim

@[expose] public section

set_option maxRecDepth 16384

noncomputable section

namespace Cert.Out

open Cert.KernelOutIdeal Cert.KernelOutIdeal.Gen Idealize.ShloMosaic Idealize.ShloMosaic.TcCoe Idealize.SL.Sem

variable (m : (ℓ : Loc nD τ sig) → ℓ.ty.Contents (Elt Ideal)) (c : Dev nD)

/-- The blocks each grid point reads and writes: token tile `t`. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val * 512 / 4096, 0, 0] ∧ win0_6.index t = ![0, 0]
    ∧ win0_7.index t = ![t.val * 512 / 4096, 0, 0] ∧ win0_8.index t = ![t.val * 512 / 4096, 0, 0]
    ∧ win0_9.index t = ![t.val, 0] ∧ win0_10.index t = ![t.val, 0] :=
  (by decide +kernel : ∀ t : Fin grid0.N, _)

theorem points (t : Fin cfg0.N) : t.val < 16 := lt_of_lt_of_eq t.isLt N_0

/-- The token of a grid point's row. -/
def token (t : Fin cfg0.N) (r : Fin 512) : Fin 8192 := ⟨t.val * 512 + r.val, by have := points t; omega⟩

theorem a_read (t : Fin cfg0.N) (r : Fin 512) (k : Fin 768) :
    iblk m c 0 t (ix2 r k) = m ((c : Thread nD τ).loc main_arg0) (ix2 (token t r) k) := by
  unfold token
  blk_ext [iblk, V, idx t]

theorem b_read (t : Fin cfg0.N) (r : Fin 512) (k : Fin 768) :
    iblk m c 1 t (ix2 r k) = m ((c : Thread nD τ).loc main_arg1) (ix2 (token t r) k) := by
  unfold token
  blk_ext [iblk, V, idx t]

theorem e_read (t : Fin cfg0.N) (r : Fin 512) (k : Fin 512) :
    iblk m c 2 t (ix2 r k) = m ((c : Thread nD τ).loc main_arg2) (ix2 (token t r) k) := by
  unfold token
  blk_ext [iblk, V, idx t]

theorem x_read (t : Fin cfg0.N) (r : Fin 512) (d : Fin 2048) :
    iblk m c 4 t (ix2 r d) = m ((c : Thread nD τ).loc main_arg4) (ix2 (token t r) d) := by
  unfold token
  blk_ext [iblk, V, idx t]

theorem g_read (t : Fin cfg0.N) (r : Fin 512) (d : Fin 2048) :
    iblk m c 5 t (ix3 0 0 d) = m ((c : Thread nD τ).loc main_arg5) (ix3 ⟨(token t r).val / 4096, by omega⟩ 0 d) := by
  have hN := points t
  unfold token
  blk_ext [iblk, V, idx t]

theorem sc_read (t : Fin cfg0.N) (r : Fin 512) (d : Fin 2048) :
    iblk m c 7 t (ix3 0 0 d) = m ((c : Thread nD τ).loc main_arg7) (ix3 ⟨(token t r).val / 4096, by omega⟩ 0 d) := by
  have hN := points t
  unfold token
  blk_ext [iblk, V, idx t]

theorem sh_read (t : Fin cfg0.N) (r : Fin 512) (d : Fin 2048) :
    iblk m c 8 t (ix3 0 0 d) = m ((c : Thread nD τ).loc main_arg8) (ix3 ⟨(token t r).val / 4096, by omega⟩ 0 d) := by
  have hN := points t
  unfold token
  blk_ext [iblk, V, idx t]

/-- The weights as the host rounds them, and the norm's weights as it lays them out. -/
theorem round_read (y : FVec Ideal S2048x2048 .f32) (k d : Fin 2048) : truncf .bf16 y bitsLt_bf16_f32 (ix2 k d) = y (ix2 k d) := by
  pointwise

theorem row_read (y : FVec Ideal S2048 .f32) (k : Fin 2048) : shapeCast S1x2048 y shapeCasts_S2048_S1x2048 (ix2 0 k) = y (ix1 k) := by
  pointwise

theorem v0_read (k d : Fin 2048) : V m c main_v0 (ix2 k d) = m ((c : Thread nD τ).loc main_arg3) (ix2 k d) := by
  entry_read
  exact round_read _ k d

theorem v1_read (k : Fin 2048) : V m c main_v1 (ix2 0 k) = m ((c : Thread nD τ).loc main_arg6) (ix1 k) := by
  entry_read
  exact row_read _ k

theorem w_read (t : Fin cfg0.N) (k d : Fin 2048) : iblk m c 3 t (ix2 k d) = m ((c : Thread nD τ).loc main_arg3) (ix2 k d) := by
  refine Eq.trans ?_ (v0_read m c k d)
  blk_ext [iblk, idx t]

theorem n_read (t : Fin cfg0.N) (k : Fin 2048) : iblk m c 6 t (ix2 0 k) = m ((c : Thread nD τ).loc main_arg6) (ix1 k) := by
  refine Eq.trans ?_ (v1_read m c k)
  blk_ext [iblk, idx t]

/-- The rows of a grid point's block are the reference's rows. -/
theorem rows (t : Fin cfg0.N) (r : Fin 512) (d : Fin 2048) :
    row (iblk m c 0 t) (iblk m c 1 t) (iblk m c 2 t) (iblk m c 3 t) (iblk m c 4 t) (iblk m c 5 t) r d
      = mixed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (token t r) d := by
  unfold row mixed
  rw [g_read m c t r d, x_read m c t r d]
  simp only [a_read m c t, b_read m c t, e_read m c t, w_read m c t]

/-- The kernel's residual stream after the run is the reference's. -/
theorem stream_array : (dats m 0 c).arrAt 9 cfg0.N
    = Cert.ReferenceOutIdeal.Read.val_main_v27 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp
  rw [after0_9]
  idx_vars y
  refine (out9 _ _ _ _ _ _ _ _ _ _ _).trans ?_
  rw [rows]
  refine (ref_x _ _ _ _ _ _ (token t _) _).symm.trans ?_
  unfold token
  blk_ext [idx t]

theorem normed_read (t : Fin cfg0.N) (r : Fin 512) (d : Fin 2048) :
    out0_10 (F := Ideal) (iblk m c 0 t) (iblk m c 1 t) (iblk m c 2 t) (iblk m c 3 t) (iblk m c 4 t) (iblk m c 5 t) (iblk m c 6 t) (iblk m c 7 t) (iblk m c 8 t) (ix2 r d)
      = Cert.ReferenceOutIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (ix2 (token t r) d) := by
  refine (out10 _ _ _ _ _ _ _ _ _ r d).trans ?_
  rw [n_read m c t, sc_read m c t r, sh_read m c t r, funext (rows m c t r)]
  exact (ref_h _ _ _ _ _ _ _ _ _ (token t r) d).symm

/-- The kernel's normalised and modulated stream after the run is the reference's. -/
theorem normed_array : (dats m 0 c).arrAt 10 cfg0.N
    = Cert.ReferenceOutIdeal.Read.val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 10 _ (by decide +kernel) fun t hf y => ?_
  blk_simp
  rw [after0_10]
  idx_vars y
  refine (normed_read m c t _ _).trans ?_
  unfold token
  blk_ext [idx t]

end Cert.Out

end
-- ==== Proof.Out.Claim.lean ====
module

public import proofs.«01_k».proof.Defs
public import proofs.«01_k».proof.Proof.Gen.KernelOutIdeal.Frame
public import proofs.«01_k».proof.Proof.Out.Blocks
public import proofs.«01_k».proof.Proof.Gen.ReferenceOutIdeal
public import proofs.«01_k».proof.Proof.Gen.ReferenceOutIdeal.Run
public import Idealize.ShloMosaic.Lib.Claim

@[expose] public section

set_option maxRecDepth 16384

noncomputable section

namespace Cert.Out

open Idealize.ShloMosaic Idealize.ShloMosaic.TcCoe Idealize.SL.Sem

/-- The reference ends with its arguments unchanged; it declares no semaphore. -/
theorem frame_reference : Cert.quiescent_ReferenceOutIdeal (hReferenceOutIdeal := Cert.ReferenceOutIdeal.Gen.facts) := by
  intro m g _
  exact (θ_run _ _ _).mono (fun r h => ⟨fun c => (h c).2.2, sem_eq_zero_of_no_sems (by decide) r.2⟩) (Cert.ReferenceOutIdeal.Value.run m g)

/-- The kernel's residual stream, and its normalised and modulated form, are the reference's. -/
theorem algebraic : Cert.algebraic_KernelOutIdeal_ReferenceOutIdeal (hKernelOutIdeal := Cert.KernelOutIdeal.Gen.facts)
    (hReferenceOutIdeal := Cert.ReferenceOutIdeal.Gen.facts) := by
  pair_intro
  · run_from Cert.KernelOutIdeal.Gen.run_main m g
  · run_from Cert.ReferenceOutIdeal.Value.run m' g'
    · exact (Cert.ReferenceOutIdeal.Read.val_main_v27_eq _ _ _ _ _ _).trans (stream_array m c).symm
    · exact (Cert.ReferenceOutIdeal.Read.val_main_v29_eq _ _ _ _ _ _ _ _ _).trans (normed_array m c).symm

end Cert.Out

end
-- ==== Proof.Sgu.Cell.lean ====
module

public import Idealize.ShloMosaic.Lib.Pointwise
public import Idealize.ShloMosaic.Lib.IdealHost
public import Idealize.ShloMosaic.Lib.Pipeline.ValueKit

@[expose] public section

set_option maxRecDepth 16384

noncomputable section

namespace Cert.Sgu

open Idealize.ShloMosaic

/-- The smoothed rectifier, in the form with the hyperbolic tangent. -/
def gelu (x : EReal) : EReal :=
  Ideal.ofBits .f32 0x3F000000#32 * x * (1
    + Ideal.tanh (Ideal.ofBits .f32 0x3F4C422A#32 * (x + Ideal.ofBits .f32 0x3D372713#32 * (x * x * x))))

/-- A row less its mean. -/
def centred (v : Fin 128 → EReal) (d : Fin 128) : EReal := v d - Ideal.div (∑ c, v c) (Ideal.ofBits .f32 0x43000000#32)

/-- Entry `d` of a row made to mean zero and spread one, then weighted by `g` and shifted by `b`. -/
def standard (v : Fin 128 → EReal) (g b : EReal) (d : Fin 128) : EReal :=
  centred v d * Ideal.rsqrt (Ideal.div (∑ c, centred v c * centred v c) (Ideal.ofBits .f32 0x43000000#32) + Ideal.ofBits .f32 0x3727C5AC#32) * g + b

/-- Entry `(p, d)` of one chunk of one group: the first half gated by the second half mixed over the positions up to `p`. -/
def cell (u v : Fin 128 → Fin 128 → EReal) (g b : Fin 128 → EReal) (w : Fin 128 → Fin 128 → EReal) (s : Fin 128 → EReal) (p d : Fin 128) : EReal :=
  gelu (u p d) * (∑ q, (if q ≤ p then w p q else 0) * standard (fun c => gelu (v q c)) (g d) (b d) d + s p)

/-- Position `p` of chunk `k`. -/
def row (k : Fin 4) (p : Fin 128) : Fin 512 := ⟨128 * k.val + p.val, by omega⟩

theorem row_zero (p : Fin 128) : row 0 p = ⟨p.val, by omega⟩ := Fin.ext (Nat.zero_add _)

end Cert.Sgu

end
-- ==== Proof.Sgu.Step.lean ====
module

public import proofs.«01_k».proof.Proof.Gen.KernelSguIdeal.Value
public import proofs.«01_k».proof.Proof.Sgu.Cell
public import Idealize.ShloMosaic.Lib.WordCmp

@[expose] public section

set_option maxRecDepth 16384

noncomputable section

namespace Cert.Sgu

open Cert.KernelSguIdeal Cert.KernelSguIdeal.Gen Idealize.ShloMosaic Idealize.ShloMosaic.TcCoe Idealize.SL.Sem

section chunks

variable (u v : FVec Ideal S512x128 .f32) (g b : FVec Ideal S1x128 .f32) (w : FVec Ideal S1x128x128 .f32) (s : FVec Ideal S128x1 .f32)

theorem gate_apply (r : Fin 512) (d : Fin 128) : k0_pay2 (F := Ideal) u (ix2 r d) = gelu (u (ix2 r d)) := by
  pointwise [k0_pay2]
  rfl

theorem centred_apply (r : Fin 512) (d : Fin 128) : k0_pay3 (F := Ideal) v (ix2 r d) = centred (fun c => gelu (v (ix2 r c))) d := by
  pointwise [k0_pay3]
  rfl

theorem standard_apply (r : Fin 512) (d : Fin 128) :
    k0_pay6 (F := Ideal) (k0_pay3 v) (k0_pay4 v) k0_pay5 g b (ix2 r d) = standard (fun c => gelu (v (ix2 r c))) (g (ix2 0 d)) (b (ix2 0 d)) d := by
  pointwise [k0_pay6, k0_pay4, k0_pay5]
  simp only [centred_apply]
  rfl

theorem mask_apply (p q : Fin 128) :
    k0_pay7 (F := Ideal) (iota .tc S128x128 32 [0] iota_S128x128_d0_w32) (iota .tc S128x128 32 [1] iota_S128x128_d1_w32) w (ix2 p q)
      = if q ≤ p then w (ix3 0 p q) else 0 := by
  pointwise [k0_pay7]
  rw [WordCmp.cmpi_sge_ofNat (by omega) (by omega)]
  by_cases h : q ≤ p <;> simp [Scalar.select, h]

/-- One chunk of the kernel, at the offset `o` of its first row. -/
def chunk (o : ℕ) (h : Shape.Slices S512x128 ![o, 0] S128x128) : FVec Ideal S128x128 .bf16 :=
  truncf .bf16 (mulf (extractStridedSlice S128x128 ![o, 0] (k0_pay2 u) h)
    (addf (matmul dot_S128x128_S128x128_S128x128_1_0_0_1_n_n none
        (k0_pay7 (iota .tc S128x128 32 [0] iota_S128x128_d0_w32) (iota .tc S128x128 32 [1] iota_S128x128_d1_w32) w)
        (extractStridedSlice S128x128 ![o, 0] (k0_pay6 (k0_pay3 v) (k0_pay4 v) k0_pay5 g b) h) (constant (F := Ideal) S128x128 .f32 0x00000000#32))
      (broadcastTo S128x128 (k0_pay8 s) broadcasts_S128x1_S128x128))) bitsLt_bf16_f32

theorem chunk_apply (o : ℕ) (h : Shape.Slices S512x128 ![o, 0] S128x128) (k : Fin 4) (ho : o = 128 * k.val) (p d : Fin 128) :
    chunk u v g b w s o h (ix2 p d) = cell (fun p d => u (ix2 (row k p) d)) (fun p d => v (ix2 (row k p) d)) (fun d => g (ix2 0 d)) (fun d => b (ix2 0 d))
      (fun p q => w (ix3 0 p q)) (fun p => s (ix2 p 0)) p d := by
  subst ho
  pointwise [chunk, k0_pay8]
  rw [gate_apply]
  refine congrArg (fun z => gelu _ * (z + s (ix2 p 0))) (Finset.sum_congr rfl fun q _ => ?_)
  rw [mask_apply]
  exact congrArg _ (standard_apply v g b _ d)

end chunks

section pieces

variable (x0 x1 : FVec Ideal S512x512 .f32) (x2 x3 : FVec Ideal S4x128 .f32) (x4 : FVec Ideal S4x128x128 .f32) (x5 : FVec Ideal S128x4 .f32)

/-- Entry `(p, d)` of chunk `k` of group `g` of a block. -/
def blockCell (k g : Fin 4) (p d : Fin 128) : EReal :=
  cell (fun p d => x0 (ix2 (row k p) (row g d))) (fun p d => x1 (ix2 (row k p) (row g d))) (fun d => x2 (ix2 g d)) (fun d => x3 (ix2 g d))
    (fun p q => x4 (ix3 g p q)) (fun p => x5 (ix2 p g)) p d

theorem piece (u v : FVec Ideal S512x128 .f32) (gn b : FVec Ideal S1x128 .f32) (w : FVec Ideal S1x128x128 .f32) (s : FVec Ideal S128x1 .f32)
    (o o' : ℕ) (h : Shape.Slices S512x128 ![o, 0] S128x128) (K G : Fin 4) (ho : o = 128 * K.val) (ho' : o' = 128 * G.val)
    (hu : ∀ r d, u (ix2 r d) = x0 (ix2 r (row G d))) (hv : ∀ r d, v (ix2 r d) = x1 (ix2 r (row G d)))
    (hg : ∀ d, gn (ix2 0 d) = x2 (ix2 G d)) (hb : ∀ d, b (ix2 0 d) = x3 (ix2 G d)) (hw : ∀ p q, w (ix3 0 p q) = x4 (ix3 G p q))
    (hs : ∀ p, s (ix2 p 0) = x5 (ix2 p G)) (k g : Fin 4) (p d : Fin 128) (x : S128x128.Idx)
    (e0 : 128 * k.val + p.val = o + (x 0).val) (e1 : 128 * g.val + d.val = o' + (x 1).val) :
    chunk u v gn b w s o h x = blockCell x0 x1 x2 x3 x4 x5 k g p d := by
  have l0 : (x 0).val < 128 := (x 0).isLt
  have l1 : (x 1).val < 128 := (x 1).isLt
  obtain rfl : k = K := Fin.ext (by omega)
  obtain rfl : g = G := Fin.ext (by omega)
  obtain rfl : x = ix2 p d := by
    funext a
    match a with
    | ⟨0, _⟩ => exact Fin.ext (show (x 0).val = p.val by omega)
    | ⟨1, _⟩ => exact Fin.ext (show (x 1).val = d.val by omega)
  refine (chunk_apply u v gn b w s o h k ho p d).trans ?_
  simp only [hu, hv, hg, hb, hw, hs]
  rfl

theorem out6 (k g : Fin 4) (p d : Fin 128) :
    out0_6 (F := Ideal) x0 x1 x2 x3 x4 x5 (ix2 (row k p) (row g d)) = blockCell x0 x1 x2 x3 x4 x5 k g p d := by
  canon_tiles x h
  case piece0 =>
    exact piece x0 x1 x2 x3 x4 x5 (View.ld (Val := Elt Ideal) (e' := .f32) x0 r0_24) (View.ld (Val := Elt Ideal) (e' := .f32) x1 r0_24) (View.ld (Val := Elt Ideal) (e' := .f32) x2 r0_25) (View.ld (Val := Elt Ideal) (e' := .f32) x3 r0_25) (View.ld (Val := Elt Ideal) (e' := .f32) x4 r0_26) (View.ld (Val := Elt Ideal) (e' := .f32) x5 r0_27)
      384 384 slices_S512x128_o384_0_S128x128 3 3 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece1 =>
    exact piece x0 x1 x2 x3 x4 x5 (View.ld (Val := Elt Ideal) (e' := .f32) x0 r0_24) (View.ld (Val := Elt Ideal) (e' := .f32) x1 r0_24) (View.ld (Val := Elt Ideal) (e' := .f32) x2 r0_25) (View.ld (Val := Elt Ideal) (e' := .f32) x3 r0_25) (View.ld (Val := Elt Ideal) (e' := .f32) x4 r0_26) (View.ld (Val := Elt Ideal) (e' := .f32) x5 r0_27)
      256 384 slices_S512x128_o256_0_S128x128 2 3 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece2 =>
    exact piece x0 x1 x2 x3 x4 x5 (View.ld (Val := Elt Ideal) (e' := .f32) x0 r0_24) (View.ld (Val := Elt Ideal) (e' := .f32) x1 r0_24) (View.ld (Val := Elt Ideal) (e' := .f32) x2 r0_25) (View.ld (Val := Elt Ideal) (e' := .f32) x3 r0_25) (View.ld (Val := Elt Ideal) (e' := .f32) x4 r0_26) (View.ld (Val := Elt Ideal) (e' := .f32) x5 r0_27)
      128 384 slices_S512x128_o128_0_S128x128 1 3 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece3 =>
    exact piece x0 x1 x2 x3 x4 x5 (View.ld (Val := Elt Ideal) (e' := .f32) x0 r0_24) (View.ld (Val := Elt Ideal) (e' := .f32) x1 r0_24) (View.ld (Val := Elt Ideal) (e' := .f32) x2 r0_25) (View.ld (Val := Elt Ideal) (e' := .f32) x3 r0_25) (View.ld (Val := Elt Ideal) (e' := .f32) x4 r0_26) (View.ld (Val := Elt Ideal) (e' := .f32) x5 r0_27)
      0 384 slices_S512x128_o0_0_S128x128 0 3 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece4 =>
    exact piece x0 x1 x2 x3 x4 x5 (View.ld (Val := Elt Ideal) (e' := .f32) x0 r0_16) (View.ld (Val := Elt Ideal) (e' := .f32) x1 r0_16) (View.ld (Val := Elt Ideal) (e' := .f32) x2 r0_17) (View.ld (Val := Elt Ideal) (e' := .f32) x3 r0_17) (View.ld (Val := Elt Ideal) (e' := .f32) x4 r0_18) (View.ld (Val := Elt Ideal) (e' := .f32) x5 r0_19)
      384 256 slices_S512x128_o384_0_S128x128 3 2 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece5 =>
    exact piece x0 x1 x2 x3 x4 x5 (View.ld (Val := Elt Ideal) (e' := .f32) x0 r0_16) (View.ld (Val := Elt Ideal) (e' := .f32) x1 r0_16) (View.ld (Val := Elt Ideal) (e' := .f32) x2 r0_17) (View.ld (Val := Elt Ideal) (e' := .f32) x3 r0_17) (View.ld (Val := Elt Ideal) (e' := .f32) x4 r0_18) (View.ld (Val := Elt Ideal) (e' := .f32) x5 r0_19)
      256 256 slices_S512x128_o256_0_S128x128 2 2 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece6 =>
    exact piece x0 x1 x2 x3 x4 x5 (View.ld (Val := Elt Ideal) (e' := .f32) x0 r0_16) (View.ld (Val := Elt Ideal) (e' := .f32) x1 r0_16) (View.ld (Val := Elt Ideal) (e' := .f32) x2 r0_17) (View.ld (Val := Elt Ideal) (e' := .f32) x3 r0_17) (View.ld (Val := Elt Ideal) (e' := .f32) x4 r0_18) (View.ld (Val := Elt Ideal) (e' := .f32) x5 r0_19)
      128 256 slices_S512x128_o128_0_S128x128 1 2 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece7 =>
    exact piece x0 x1 x2 x3 x4 x5 (View.ld (Val := Elt Ideal) (e' := .f32) x0 r0_16) (View.ld (Val := Elt Ideal) (e' := .f32) x1 r0_16) (View.ld (Val := Elt Ideal) (e' := .f32) x2 r0_17) (View.ld (Val := Elt Ideal) (e' := .f32) x3 r0_17) (View.ld (Val := Elt Ideal) (e' := .f32) x4 r0_18) (View.ld (Val := Elt Ideal) (e' := .f32) x5 r0_19)
      0 256 slices_S512x128_o0_0_S128x128 0 2 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece8 =>
    exact piece x0 x1 x2 x3 x4 x5 (View.ld (Val := Elt Ideal) (e' := .f32) x0 r0_8) (View.ld (Val := Elt Ideal) (e' := .f32) x1 r0_8) (View.ld (Val := Elt Ideal) (e' := .f32) x2 r0_9) (View.ld (Val := Elt Ideal) (e' := .f32) x3 r0_9) (View.ld (Val := Elt Ideal) (e' := .f32) x4 r0_10) (View.ld (Val := Elt Ideal) (e' := .f32) x5 r0_11)
      384 128 slices_S512x128_o384_0_S128x128 3 1 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece9 =>
    exact piece x0 x1 x2 x3 x4 x5 (View.ld (Val := Elt Ideal) (e' := .f32) x0 r0_8) (View.ld (Val := Elt Ideal) (e' := .f32) x1 r0_8) (View.ld (Val := Elt Ideal) (e' := .f32) x2 r0_9) (View.ld (Val := Elt Ideal) (e' := .f32) x3 r0_9) (View.ld (Val := Elt Ideal) (e' := .f32) x4 r0_10) (View.ld (Val := Elt Ideal) (e' := .f32) x5 r0_11)
      256 128 slices_S512x128_o256_0_S128x128 2 1 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece10 =>
    exact piece x0 x1 x2 x3 x4 x5 (View.ld (Val := Elt Ideal) (e' := .f32) x0 r0_8) (View.ld (Val := Elt Ideal) (e' := .f32) x1 r0_8) (View.ld (Val := Elt Ideal) (e' := .f32) x2 r0_9) (View.ld (Val := Elt Ideal) (e' := .f32) x3 r0_9) (View.ld (Val := Elt Ideal) (e' := .f32) x4 r0_10) (View.ld (Val := Elt Ideal) (e' := .f32) x5 r0_11)
      128 128 slices_S512x128_o128_0_S128x128 1 1 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece11 =>
    exact piece x0 x1 x2 x3 x4 x5 (View.ld (Val := Elt Ideal) (e' := .f32) x0 r0_8) (View.ld (Val := Elt Ideal) (e' := .f32) x1 r0_8) (View.ld (Val := Elt Ideal) (e' := .f32) x2 r0_9) (View.ld (Val := Elt Ideal) (e' := .f32) x3 r0_9) (View.ld (Val := Elt Ideal) (e' := .f32) x4 r0_10) (View.ld (Val := Elt Ideal) (e' := .f32) x5 r0_11)
      0 128 slices_S512x128_o0_0_S128x128 0 1 rfl rfl (fun r d => by pointwise; rfl) (fun r d => by pointwise; rfl) (fun d => by pointwise)
      (fun d => by pointwise) (fun p q => by pointwise) (fun p => by pointwise) k g p d x ((show 128 * k.val + p.val = _ from h0).trans (by omega)) ((show 128 * g.val + d.val = _ from h1).trans (by omega))
  case piece12 =>
    exact piece x0 x1 x2 x3 x4 x5 (View.ld (Val := Elt Ideal) (e' := .f32) x0 r0_0) (View.ld (Val := Elt Ideal) (e' := .f32) x1 r0_0) (View.ld (Val := Elt Ideal) (e' := .f32) x2 r0_1) (View.ld (Val := Elt Ideal) (e' := .f32) x3 r0_1) (View.ld (Val := Elt Ideal) (e' := .f32) x4 r0_2) (View.ld (Val := Elt Ideal) (e' := .f32) x5 r0_3)
      384 0 slices_S512x128_o384_0_S128x128 3 0 rfl rfl (fun r d => by pointwise; rw [row_zero]) (fun r d => by pointwise; rw [row_zero]) (fun d => by pointwise)
      (fun d => by pointwise) (fun p q => by pointwise) (fun p => by pointwise) k g p d x ((show 128 * k.val + p.val = _ from h0).trans (by omega)) ((show 128 * g.val + d.val = _ from h1).trans (by omega))
  case piece13 =>
    exact piece x0 x1 x2 x3 x4 x5 (View.ld (Val := Elt Ideal) (e' := .f32) x0 r0_0) (View.ld (Val := Elt Ideal) (e' := .f32) x1 r0_0) (View.ld (Val := Elt Ideal) (e' := .f32) x2 r0_1) (View.ld (Val := Elt Ideal) (e' := .f32) x3 r0_1) (View.ld (Val := Elt Ideal) (e' := .f32) x4 r0_2) (View.ld (Val := Elt Ideal) (e' := .f32) x5 r0_3)
      256 0 slices_S512x128_o256_0_S128x128 2 0 rfl rfl (fun r d => by pointwise; rw [row_zero]) (fun r d => by pointwise; rw [row_zero]) (fun d => by pointwise)
      (fun d => by pointwise) (fun p q => by pointwise) (fun p => by pointwise) k g p d x ((show 128 * k.val + p.val = _ from h0).trans (by omega)) ((show 128 * g.val + d.val = _ from h1).trans (by omega))
  case piece14 =>
    exact piece x0 x1 x2 x3 x4 x5 (View.ld (Val := Elt Ideal) (e' := .f32) x0 r0_0) (View.ld (Val := Elt Ideal) (e' := .f32) x1 r0_0) (View.ld (Val := Elt Ideal) (e' := .f32) x2 r0_1) (View.ld (Val := Elt Ideal) (e' := .f32) x3 r0_1) (View.ld (Val := Elt Ideal) (e' := .f32) x4 r0_2) (View.ld (Val := Elt Ideal) (e' := .f32) x5 r0_3)
      128 0 slices_S512x128_o128_0_S128x128 1 0 rfl rfl (fun r d => by pointwise; rw [row_zero]) (fun r d => by pointwise; rw [row_zero]) (fun d => by pointwise)
      (fun d => by pointwise) (fun p q => by pointwise) (fun p => by pointwise) k g p d x ((show 128 * k.val + p.val = _ from h0).trans (by omega)) ((show 128 * g.val + d.val = _ from h1).trans (by omega))
  case piece15 =>
    exact piece x0 x1 x2 x3 x4 x5 (View.ld (Val := Elt Ideal) (e' := .f32) x0 r0_0) (View.ld (Val := Elt Ideal) (e' := .f32) x1 r0_0) (View.ld (Val := Elt Ideal) (e' := .f32) x2 r0_1) (View.ld (Val := Elt Ideal) (e' := .f32) x3 r0_1) (View.ld (Val := Elt Ideal) (e' := .f32) x4 r0_2) (View.ld (Val := Elt Ideal) (e' := .f32) x5 r0_3)
      0 0 slices_S512x128_o0_0_S128x128 0 0 rfl rfl (fun r d => by pointwise; rw [row_zero]) (fun r d => by pointwise; rw [row_zero]) (fun d => by pointwise)
      (fun d => by pointwise) (fun p q => by pointwise) (fun p => by pointwise) k g p d x ((show 128 * k.val + p.val = _ from h0).trans (by omega)) ((show 128 * g.val + d.val = _ from h1).trans (by omega))

end pieces

end Cert.Sgu

end
-- ==== Proof.Sgu.Reference.lean ====
module

public import proofs.«01_k».proof.Proof.Gen.ReferenceSguIdeal.Read
public import proofs.«01_k».proof.Proof.Sgu.Cell
public import Idealize.ShloMosaic.Lib.WordCmp

@[expose] public section

set_option maxRecDepth 16384

noncomputable section

namespace Cert.Sgu

open Cert.ReferenceSguIdeal Cert.ReferenceSguIdeal.Read Idealize.ShloMosaic Idealize.ShloMosaic.TcCoe Idealize.SL.Sem

variable (x0 : FVec Ideal S8192x6144 .f32) (x1 x2 : FVec Ideal S4x128 .f32) (x3 : FVec Ideal S4x128x128 .f32) (x4 : FVec Ideal S4x128 .f32)

/-- A truth value as a number. -/
theorem indicator (b : Bool) : (FloatOps.uitofp .f32 (Scalar.select (BitVec.ofBool b) 1#1 0#1) : Ideal .f32) = if b then (1 : EReal) else 0 := by
  show (((Scalar.select (BitVec.ofBool b) 1#1 0#1 : BitVec 1).toNat : ℝ) : EReal) = _
  cases b <;> simp [Scalar.select]

theorem first_half (b : Fin 2) (t : Fin 4096) (d : Fin 512) (r : Fin 8192) (hr : r.val = b.val * 4096 + t.val) :
    val_main_v14 (F := Ideal) x0 (ix3 b t d) = gelu (x0 (ix2 r ⟨4608 + d.val, by omega⟩)) := by
  have hlt : b.val * 4096 + t.val < 8192 := by omega
  obtain rfl : r = ⟨b.val * 4096 + t.val, hlt⟩ := Fin.ext hr
  pointwise [val_main_v0, val_main_v1, val_main_v2, val_main_v3, val_main_cst, val_main_v4, val_main_v5, val_main_v6, val_main_cst_0, val_main_v7, val_main_v8, val_main_v9, val_main_cst_1, val_main_v10, val_main_v11, val_main_cst_2, val_main_v12, val_main_v13, val_main_v14]
  rw [← mul_assoc, mul_comm (x0 _) (Ideal.ofBits .f32 _)]
  rfl

theorem second_half (b : Fin 2) (t : Fin 4096) (d : Fin 512) (r : Fin 8192) (hr : r.val = b.val * 4096 + t.val) :
    val_main_v29 (F := Ideal) x0 (ix3 b t d) = gelu (x0 (ix2 r ⟨5120 + d.val, by omega⟩)) := by
  have hlt : b.val * 4096 + t.val < 8192 := by omega
  obtain rfl : r = ⟨b.val * 4096 + t.val, hlt⟩ := Fin.ext hr
  pointwise [val_main_v0, val_main_v16, val_main_v17, val_main_v18, val_main_cst_3, val_main_v19, val_main_v20, val_main_v21, val_main_cst_4, val_main_v22, val_main_v23, val_main_v24, val_main_cst_5, val_main_v25, val_main_v26, val_main_cst_6, val_main_v27, val_main_v28, val_main_v29]
  rw [← mul_assoc, mul_comm (x0 _) (Ideal.ofBits .f32 _)]
  rfl

/-- Row `r` of the second half's columns of group `g`. -/
def entry (r : Fin 8192) (g : Fin 4) (d : Fin 128) : EReal := x0 (ix2 r ⟨5120 + (g.val * 128 + d.val), by omega⟩)

theorem split (b : Fin 2) (t : Fin 4096) (g : Fin 4) (d : Fin 128) (r : Fin 8192) (hr : r.val = b.val * 4096 + t.val) :
    val_main_v30 (F := Ideal) x0 (ix4 b t g d) = gelu (entry x0 r g d) := by
  pointwise [val_main_v30]
  exact second_half x0 b t _ r hr

theorem ref_centred (b : Fin 2) (t : Fin 4096) (g : Fin 4) (d : Fin 128) (r : Fin 8192) (hr : r.val = b.val * 4096 + t.val) :
    val_main_v36 (F := Ideal) x0 (ix4 b t g d) = centred (fun c => gelu (entry x0 r g c)) d := by
  pointwise [val_main_v31, val_main_v32, val_main_v33, val_main_v34, val_main_v35, val_main_v36, val_main_cst_7, val_main_cst_8]
  simp only [split x0 b t g _ r hr]
  rfl

theorem ref_centred_again (b : Fin 2) (t : Fin 4096) (g : Fin 4) (d : Fin 128) (r : Fin 8192) (hr : r.val = b.val * 4096 + t.val) :
    val_main_v43 (F := Ideal) x0 (ix4 b t g d) = centred (fun c => gelu (entry x0 r g c)) d :=
  (show _ = val_main_v36 (F := Ideal) x0 (ix4 b t g d) from rfl).trans (ref_centred x0 b t g d r hr)

theorem ref_standard (b : Fin 2) (t : Fin 4096) (g : Fin 4) (d : Fin 128) (r : Fin 8192) (hr : r.val = b.val * 4096 + t.val) :
    val_main_v54 (F := Ideal) x0 x1 x2 (ix4 b t g d) = standard (fun c => gelu (entry x0 r g c)) (x1 (ix2 g d)) (x2 (ix2 g d)) d := by
  pointwise [val_main_v37, val_main_v38, val_main_v39, val_main_v40, val_main_v41, val_main_v44, val_main_v45, val_main_v46, val_main_v47, val_main_v48, val_main_v49, val_main_v50, val_main_v51, val_main_v52, val_main_v53, val_main_v54, val_main_cst_9, val_main_cst_10, val_main_cst_11]
  simp only [ref_centred_again x0 b t g _ r hr, ref_centred x0 b t g _ r hr]
  rfl

theorem ref_mask (g : Fin 4) (p q : Fin 128) : val_main_v61 (F := Ideal) x3 (ix3 g p q) = if q ≤ p then x3 (ix3 g p q) else 0 := by
  pointwise [val_main_c, val_main_v56, val_main_call0_v0, val_main_call0_c, val_main_call0_v1, val_main_call0_v2, val_main_call0_v3, val_main_call0_v4, val_main_call0_c_0, val_main_call0_v5, val_main_v57, val_main_v58, val_main_v59, val_main_v60, val_main_v61]
  rw [show IntOp.addi (BitVec.ofNat 32 p.val) 0#32 = BitVec.ofNat 32 p.val from BitVec.add_zero _, WordCmp.cmpi_sge_ofNat (by omega) (by omega), indicator]
  by_cases h : q ≤ p <;> simp [h]

theorem ref_mixed (b : Fin 2) (n : Fin 32) (p : Fin 128) (g : Fin 4) (d : Fin 128) (k : Fin 64) (hk : k.val = b.val * 32 + n.val) :
    val_main_v67 (F := Ideal) x0 x1 x2 x3 x4 (ix5 b n p g d)
      = (∑ q : Fin 128, (if q ≤ p then x3 (ix3 g p q) else 0) * standard (fun c => gelu (entry x0 (⟨k.val * 128 + q.val, by omega⟩) g c)) (x1 (ix2 g d)) (x2 (ix2 g d)) d) + x4 (ix2 g p) := by
  pointwise [val_main_v55, val_main_v62, val_main_v63, val_main_v64, val_main_v65, val_main_v66, val_main_v67]
  refine congrArg (· + x4 (ix2 g p)) (Finset.sum_congr rfl fun q _ => ?_)
  rw [ref_mask, mul_comm]
  exact congrArg _ (ref_standard x0 x1 x2 b _ g d _ (by simp only []; omega))

theorem ref_result (k : Fin 64) (p : Fin 128) (g : Fin 4) (d : Fin 128) :
    val_main_v71 (F := Ideal) x0 x1 x2 x3 x4 (ix2 ⟨k.val * 128 + p.val, by omega⟩ ⟨g.val * 128 + d.val, by omega⟩)
      = cell (fun p d => x0 (ix2 ⟨k.val * 128 + p.val, by omega⟩ ⟨4608 + (g.val * 128 + d.val), by omega⟩))
          (fun p d => entry x0 ⟨k.val * 128 + p.val, by omega⟩ g d) (fun d => x1 (ix2 g d)) (fun d => x2 (ix2 g d))
          (fun p q => x3 (ix3 g p q)) (fun p => x4 (ix2 g p)) p d := by
  pointwise [val_main_v15, val_main_v68, val_main_v69, val_main_v70, val_main_v71]
  rw [first_half x0 _ _ _ ⟨k.val * 128 + p.val, by omega⟩ (by simp only []; omega), ref_mixed x0 x1 x2 x3 x4 _ _ p g d k (by simp only []; omega)]
  rfl

end Cert.Sgu

end
-- ==== Proof.Sgu.Blocks.lean ====
module

public import proofs.«01_k».proof.Proof.Sgu.Step
public import proofs.«01_k».proof.Proof.Sgu.Reference
public import Idealize.ShloMosaic.Lib.Claim

@[expose] public section

set_option maxRecDepth 16384

noncomputable section

namespace Cert.Sgu

open Cert.KernelSguIdeal Cert.KernelSguIdeal.Gen Idealize.ShloMosaic Idealize.ShloMosaic.TcCoe Idealize.SL.Sem

variable (m : (ℓ : Loc nD τ sig) → ℓ.ty.Contents (Elt Ideal)) (c : Dev nD)

/-- The blocks each grid point reads and writes: row tile `t`. -/
theorem idx : ∀ t : Fin cfg0.N, win0_0.index t = ![t.val, 9] ∧ win0_1.index t = ![t.val, 10] ∧ win0_2.index t = ![0, 0] ∧ win0_3.index t = ![0, 0]
    ∧ win0_4.index t = ![0, 0, 0] ∧ win0_5.index t = ![0, 0] ∧ win0_6.index t = ![t.val, 0] :=
  (by decide +kernel : ∀ t : Fin grid0.N, _)

theorem points (t : Fin cfg0.N) : t.val < 16 := lt_of_lt_of_eq t.isLt N_0

/-- The chunk, among all of them, of chunk `k` of a grid point's rows. -/
def chunkAt (t : Fin cfg0.N) (k : Fin 4) : Fin 64 := ⟨t.val * 4 + k.val, by have := points t; omega⟩

/-- Position `p` of chunk `n` as a row, and entry `d` of group `g` as a column counted from column `o`. -/
def rowAt (n : Fin 64) (p : Fin 128) : Fin 8192 := ⟨n.val * 128 + p.val, by omega⟩
def colAt (o : ℕ) (ho : o ≤ 5632) (g : Fin 4) (d : Fin 128) : Fin 6144 := ⟨o + (g.val * 128 + d.val), by omega⟩

theorem u_read (t : Fin cfg0.N) (k g : Fin 4) (p d : Fin 128) :
    iblk m c 0 t (ix2 (row k p) (row g d)) = m ((c : Thread nD τ).loc main_arg0) (ix2 (rowAt (chunkAt t k) p) (colAt 4608 (by omega) g d)) := by
  unfold rowAt chunkAt colAt row
  blk_ext [iblk, V, idx t]

theorem v_read (t : Fin cfg0.N) (k g : Fin 4) (p d : Fin 128) :
    iblk m c 1 t (ix2 (row k p) (row g d)) = m ((c : Thread nD τ).loc main_arg0) (ix2 (rowAt (chunkAt t k) p) (colAt 5120 (by omega) g d)) := by
  unfold rowAt chunkAt colAt row
  blk_ext [iblk, V, idx t]

theorem g_read (t : Fin cfg0.N) (g : Fin 4) (d : Fin 128) : iblk m c 2 t (ix2 g d) = m ((c : Thread nD τ).loc main_arg1) (ix2 g d) := by
  blk_ext [iblk, V, idx t]

theorem b_read (t : Fin cfg0.N) (g : Fin 4) (d : Fin 128) : iblk m c 3 t (ix2 g d) = m ((c : Thread nD τ).loc main_arg2) (ix2 g d) := by
  blk_ext [iblk, V, idx t]

theorem w_read (t : Fin cfg0.N) (g : Fin 4) (p q : Fin 128) : iblk m c 4 t (ix3 g p q) = m ((c : Thread nD τ).loc main_arg3) (ix3 g p q) := by
  blk_ext [iblk, V, idx t]

theorem turned (y : FVec Ideal S4x128 .f32) (p : Fin 128) (g : Fin 4) : transpose S128x4 [1, 0] y transposes_S4x128_S128x4_1_0 (ix2 p g) = y (ix2 g p) := by
  pointwise

theorem v0_read (p : Fin 128) (g : Fin 4) : V m c main_v0 (ix2 p g) = m ((c : Thread nD τ).loc main_arg4) (ix2 g p) := by
  entry_read
  exact turned _ p g

theorem s_read (t : Fin cfg0.N) (p : Fin 128) (g : Fin 4) : iblk m c 5 t (ix2 p g) = m ((c : Thread nD τ).loc main_arg4) (ix2 g p) := by
  refine Eq.trans ?_ (v0_read m c p g)
  blk_ext [iblk, idx t]

/-- The reference's result on the kernel's arguments. -/
abbrev ref : FVec Ideal S8192x512 .bf16 :=
  Cert.ReferenceSguIdeal.Read.val_main_v71 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem cell_read (t : Fin cfg0.N) (k g : Fin 4) (p d : Fin 128) :
    out0_6 (F := Ideal) (iblk m c 0 t) (iblk m c 1 t) (iblk m c 2 t) (iblk m c 3 t) (iblk m c 4 t) (iblk m c 5 t) (ix2 (row k p) (row g d))
      = ref m c (ix2 (rowAt (chunkAt t k) p) ⟨g.val * 128 + d.val, by omega⟩) := by
  refine (out6 _ _ _ _ _ _ k g p d).trans (Eq.trans ?_ (ref_result _ _ _ _ _ (chunkAt t k) p g d).symm)
  unfold blockCell
  simp only [u_read m c t, v_read m c t, g_read m c t, b_read m c t, w_read m c t, s_read m c t]
  rfl

theorem out_read (t : Fin cfg0.N) (r d : Fin 512) :
    out0_6 (F := Ideal) (iblk m c 0 t) (iblk m c 1 t) (iblk m c 2 t) (iblk m c 3 t) (iblk m c 4 t) (iblk m c 5 t) (ix2 r d)
      = ref m c (ix2 ⟨t.val * 512 + r.val, by have := points t; omega⟩ d) := by
  have hr : r = row ⟨r.val / 128, by omega⟩ ⟨r.val % 128, by omega⟩ := Fin.ext (show r.val = 128 * (r.val / 128) + r.val % 128 by omega)
  have hd : d = row ⟨d.val / 128, by omega⟩ ⟨d.val % 128, by omega⟩ := Fin.ext (show d.val = 128 * (d.val / 128) + d.val % 128 by omega)
  refine (congrArg _ (congrArg₂ ix2 hr hd)).trans ((cell_read m c t _ _ _ _).trans (congrArg _ (congrArg₂ ix2 (Fin.ext ?_) (Fin.ext ?_))))
  · show (t.val * 4 + r.val / 128) * 128 + r.val % 128 = t.val * 512 + r.val
    omega
  · show d.val / 128 * 128 + d.val % 128 = d.val
    omega

/-- The kernel's array after the run is the reference's result. -/
theorem kernel_array : (dats m 0 c).arrAt 6 cfg0.N = ref m c := by
  refine (dats m 0 c).arrAt_eq_of_covers 6 _ (by decide +kernel) fun t hf y => ?_
  blk_simp
  rw [after0_6]
  idx_vars y
  refine (out_read m c t _ _).trans ?_
  blk_ext [idx t]

end Cert.Sgu

end
-- ==== Proof.Sgu.Claim.lean ====
module

public import proofs.«01_k».proof.Defs
public import proofs.«01_k».proof.Proof.Gen.KernelSguIdeal.Frame
public import proofs.«01_k».proof.Proof.Sgu.Blocks
public import proofs.«01_k».proof.Proof.Gen.ReferenceSguIdeal
public import proofs.«01_k».proof.Proof.Gen.ReferenceSguIdeal.Run
public import Idealize.ShloMosaic.Lib.Claim

@[expose] public section

set_option maxRecDepth 16384

noncomputable section

namespace Cert.Sgu

open Idealize.ShloMosaic Idealize.ShloMosaic.TcCoe Idealize.SL.Sem

/-- The reference ends with its arguments unchanged; it declares no semaphore. -/
theorem frame_reference : Cert.quiescent_ReferenceSguIdeal (hReferenceSguIdeal := Cert.ReferenceSguIdeal.Gen.facts) := by
  intro m g _
  exact (θ_run _ _ _).mono (fun r h => ⟨fun c => (h c).2, sem_eq_zero_of_no_sems (by decide) r.2⟩) (Cert.ReferenceSguIdeal.Value.run m g)

/-- The kernel's spatial gating is the reference's at every argument. -/
theorem algebraic : Cert.algebraic_KernelSguIdeal_ReferenceSguIdeal (hKernelSguIdeal := Cert.KernelSguIdeal.Gen.facts)
    (hReferenceSguIdeal := Cert.ReferenceSguIdeal.Gen.facts) := by
  pair_intro
  · run_from Cert.KernelSguIdeal.Gen.run_main m g
  · run_from Cert.ReferenceSguIdeal.Value.run m' g'
    obtain ⟨e0, e1, e2, e3, e4⟩ := hagree c
    refine ((Cert.ReferenceSguIdeal.Read.val_main_v71_eq m' c).trans ?_).trans (kernel_array m c).symm
    rw [e0, e1, e2, e3, e4]

end Cert.Sgu

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelFfn.Frame
public import proofs.«01_k».proof.Proof.Gen.KernelFfnIdeal.Frame
public import proofs.«01_k».proof.Proof.Gen.KernelMoe.Frame
public import proofs.«01_k».proof.Proof.Gen.KernelMoeIdeal.Frame
public import proofs.«01_k».proof.Proof.Gen.KernelIn.Frame
public import proofs.«01_k».proof.Proof.Gen.KernelInIdeal.Frame
public import proofs.«01_k».proof.Proof.Gen.KernelOut.Frame
public import proofs.«01_k».proof.Proof.Gen.KernelOutIdeal.Frame
public import proofs.«01_k».proof.Proof.Gen.KernelSgu.Frame
public import proofs.«01_k».proof.Proof.Gen.KernelSguIdeal.Frame
public import proofs.«01_k».proof.Proof.Gen.KernelFoxPrep.Frame
public import proofs.«01_k».proof.Proof.Gen.KernelFoxPrepIdeal.Frame
public import proofs.«01_k».proof.Proof.Gen.KernelAda.Frame
public import proofs.«01_k».proof.Proof.Gen.KernelAdaIdeal.Frame
public import proofs.«01_k».proof.Proof.Ada.Claim
public import proofs.«01_k».proof.Proof.Ffn.Claim
public import proofs.«01_k».proof.Proof.Fox.Claim
public import proofs.«01_k».proof.Proof.FoxPrep.Claim
public import proofs.«01_k».proof.Proof.In.Claim
public import proofs.«01_k».proof.Proof.Moe.Claim
public import proofs.«01_k».proof.Proof.Out.Claim
public import proofs.«01_k».proof.Proof.Sgu.Claim

@[expose] public section

noncomputable section

namespace Cert.Proof

/-- The claim: the frames of every program, and every kernel's result equal to its reference's. -/
theorem claim : Cert.Claim :=
  ⟨Cert.Kernel.Gen.facts, Cert.KernelIdeal.Gen.facts, Cert.ReferenceIdeal.Gen.facts, Cert.KernelFfn.Gen.facts, Cert.KernelFfnIdeal.Gen.facts, Cert.ReferenceFfnIdeal.Gen.facts, Cert.KernelMoe.Gen.facts, Cert.KernelMoeIdeal.Gen.facts, Cert.ReferenceMoeIdeal.Gen.facts, Cert.KernelIn.Gen.facts, Cert.KernelInIdeal.Gen.facts, Cert.ReferenceInIdeal.Gen.facts, Cert.KernelOut.Gen.facts, Cert.KernelOutIdeal.Gen.facts, Cert.ReferenceOutIdeal.Gen.facts, Cert.KernelSgu.Gen.facts, Cert.KernelSguIdeal.Gen.facts, Cert.ReferenceSguIdeal.Gen.facts, Cert.KernelFoxPrep.Gen.facts, Cert.KernelFoxPrepIdeal.Gen.facts, Cert.ReferenceFoxPrepIdeal.Gen.facts, Cert.KernelAda.Gen.facts, Cert.KernelAdaIdeal.Gen.facts, Cert.ReferenceAdaIdeal.Gen.facts, Cert.Fox.pre_facts, Cert.Moe.pre_facts,
    fun m g _ => Cert.Kernel.Gen.frame m g,
    fun m g _ => Cert.KernelIdeal.Gen.frame m g,
    fun m g _ => Cert.KernelIdeal.Gen.frame m g,
    Cert.Fox.frame_reference,
    fun m g _ => Cert.Fox.frame_reference m g trivial,
    fun m g _ => Cert.KernelFfn.Gen.frame m g,
    fun m g _ => Cert.KernelFfnIdeal.Gen.frame m g,
    Cert.Ffn.frame_reference,
    fun m g _ => Cert.KernelMoe.Gen.frame m g,
    fun m g _ => Cert.KernelMoeIdeal.Gen.frame m g,
    fun m g _ => Cert.KernelMoeIdeal.Gen.frame m g,
    Cert.Moe.frame_reference,
    fun m g _ => Cert.Moe.frame_reference m g trivial,
    fun m g _ => Cert.KernelIn.Gen.frame m g,
    fun m g _ => Cert.KernelInIdeal.Gen.frame m g,
    Cert.In.frame_reference,
    fun m g _ => Cert.KernelOut.Gen.frame m g,
    fun m g _ => Cert.KernelOutIdeal.Gen.frame m g,
    Cert.Out.frame_reference,
    fun m g _ => Cert.KernelSgu.Gen.frame m g,
    fun m g _ => Cert.KernelSguIdeal.Gen.frame m g,
    Cert.Sgu.frame_reference,
    fun m g _ => Cert.KernelFoxPrep.Gen.frame m g,
    fun m g _ => Cert.KernelFoxPrepIdeal.Gen.frame m g,
    Cert.FoxPrep.frame_reference,
    fun m g _ => Cert.KernelAda.Gen.frame m g,
    fun m g _ => Cert.KernelAdaIdeal.Gen.frame m g,
    Cert.Ada.frame_reference,
    Idealize.ShloMosaic.IdealRules.named_const.statement Cert.KernelIdeal.κ "mask" .f32 0xF149F2CA#32 ⊥ rfl,
    Cert.Fox.algebraic,
    trivial,
    Cert.Ffn.algebraic,
    trivial,
    Cert.Moe.algebraic,
    trivial,
    Cert.In.algebraic,
    trivial,
    Cert.Out.algebraic,
    trivial,
    Cert.Sgu.algebraic,
    trivial,
    Cert.FoxPrep.algebraic,
    trivial,
    Cert.Ada.algebraic⟩

end Cert.Proof

end
